-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v18) = v0 c
          ∧ r.2.mem ((c.tc : Thread Cert.Reference18Ideal.nD Cert.Reference18Ideal.τ).loc Cert.Reference18Ideal.main_v12) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v19) = v0 c
          ∧ r.2.mem ((c.tc : Thread Cert.Reference19Ideal.nD Cert.Reference19Ideal.τ).loc Cert.Reference19Ideal.main_v12) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x3584 : Shape := ⟨2, ![4096, 3584]⟩
abbrev S4096x2816 : Shape := ⟨2, ![4096, 2816]⟩
abbrev S4096x15360 : Shape := ⟨2, ![4096, 15360]⟩
abbrev S4096x1024 : Shape := ⟨2, ![4096, 1024]⟩
abbrev S8 : Shape := ⟨1, ![8]⟩
abbrev S_ : Shape := ⟨0, ![]⟩

class Facts : Prop where
  bcast_S_S4096x3584 : S_.BroadcastsInDim S4096x3584 (![] : Fin 0 → Fin S4096x3584.rank)
  bcast_S_S4096x2816 : S_.BroadcastsInDim S4096x2816 (![] : Fin 0 → Fin S4096x2816.rank)
  bcast_S_S4096x15360 : S_.BroadcastsInDim S4096x15360 (![] : Fin 0 → Fin S4096x15360.rank)
  bcast_S_S4096x1024 : S_.BroadcastsInDim S4096x1024 (![] : Fin 0 → Fin S4096x1024.rank)
  bcast_S_S8 : S_.BroadcastsInDim S8 (![] : Fin 0 → Fin S8.rank)

variable [Facts]

def fn {F : FTy → Type} [FloatOps F] (main_arg0 : FVec F S4096x3584 .f32) (main_arg1 : FVec F S4096x2816 .f32) (main_arg2 : FVec F S4096x15360 .f32) (main_arg3 : FVec F S4096x1024 .f32) (main_arg4 : FVec F S8 .f32) (main_arg5 : FVec F S4096x3584 .f32) (main_arg6 : FVec F S4096x2816 .f32) (main_arg7 : FVec F S4096x2816 .f32) : IVec S4096x3584 1 × IVec S4096x2816 1 × IVec S4096x15360 1 × IVec S4096x1024 1 × IVec S8 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S4096x15360 .f32 := Host.absf main_arg2
  let main_cst_1 : FVec F S_ .f32 := constant S_ .f32 0x7F800000#32
  let main_v7 : FVec F S4096x15360 .f32 := broadcastInDim S4096x15360 ![] bcast_S_S4096x15360 main_cst_1
  let main_v8 : IVec S4096x15360 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S8 .f32 := Host.absf main_arg4
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  (main_v2, main_v5, main_v8, main_v11, main_v14)
-- ==== Kernel.lean ====
abbrev S4096x3584 : Shape := ⟨2, ![4096, 3584]⟩
abbrev S4096x2816 : Shape := ⟨2, ![4096, 2816]⟩
abbrev S4096x15360 : Shape := ⟨2, ![4096, 15360]⟩
abbrev S4096x1024 : Shape := ⟨2, ![4096, 1024]⟩
abbrev S8 : Shape := ⟨1, ![8]⟩
abbrev S4096x256 : Shape := ⟨2, ![4096, 256]⟩
abbrev S4096x2x4x128 : Shape := ⟨4, ![4096, 2, 4, 128]⟩
abbrev S2x4x4096x128 : Shape := ⟨4, ![2, 4, 4096, 128]⟩
abbrev S4096x2x128 : Shape := ⟨3, ![4096, 2, 128]⟩
abbrev S2x4096x128 : Shape := ⟨3, ![2, 4096, 128]⟩
abbrev S2x4 : Shape := ⟨2, ![2, 4]⟩
abbrev S2x4x4096x4096 : Shape := ⟨4, ![2, 4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x4x1x1 : Shape := ⟨4, ![2, 4, 1, 1]⟩
abbrev S2x4x4096 : Shape := ⟨3, ![2, 4, 4096]⟩
abbrev S2x4x4096x1 : Shape := ⟨4, ![2, 4, 4096, 1]⟩
abbrev S8x1x1 : Shape := ⟨3, ![8, 1, 1]⟩
abbrev S8x1x128 : Shape := ⟨3, ![8, 1, 128]⟩
abbrev S2048x128 : Shape := ⟨2, ![2048, 128]⟩
abbrev S4096x128 : Shape := ⟨2, ![4096, 128]⟩
abbrev S1x1x128 : Shape := ⟨3, ![1, 1, 128]⟩
abbrev S1x128 : Shape := ⟨2, ![1, 128]⟩
abbrev S256x512 : Shape := ⟨2, ![256, 512]⟩
abbrev S256x128 : Shape := ⟨2, ![256, 128]⟩
abbrev S512x128 : Shape := ⟨2, ![512, 128]⟩
abbrev S256x1 : Shape := ⟨2, ![256, 1]⟩
abbrev S256 : Shape := ⟨1, ![256]⟩
abbrev S1x1 : Shape := ⟨2, ![1, 1]⟩
abbrev S1 : Shape := ⟨1, ![1]⟩

abbrev nBuf : Space → Nat
  | .hbm => 70
  | .vmem => 22
  | .smem => 0
  | _ => 0

abbrev bufTy : (tb : Table) → Fin (tcTables nBuf tb) → BufTy
  | .hbm, ⟨0, _⟩ => ⟨S4096x3584, .f32⟩
  | .hbm, ⟨1, _⟩ => ⟨S4096x2816, .f32⟩
  | .hbm, ⟨2, _⟩ => ⟨S4096x15360, .f32⟩
  | .hbm, ⟨3, _⟩ => ⟨S4096x1024, .f32⟩
  | .hbm, ⟨4, _⟩ => ⟨S8, .f32⟩
  | .hbm, ⟨5, _⟩ => ⟨S4096x3584, .f32⟩
  | .hbm, ⟨6, _⟩ => ⟨S4096x2816, .f32⟩
  | .hbm, ⟨7, _⟩ => ⟨S4096x2816, .f32⟩
  | .hbm, ⟨8, _⟩ => ⟨S4096x1024, .f32⟩
  | .hbm, ⟨9, _⟩ => ⟨S4096x256, .f32⟩
  | .hbm, ⟨10, _⟩ => ⟨S4096x256, .f32⟩
  | .hbm, ⟨11, _⟩ => ⟨S4096x2x4x128, .f32⟩
  | .hbm, ⟨12, _⟩ => ⟨S2x4x4096x128, .f32⟩
  | .hbm, ⟨13, _⟩ => ⟨S4096x2x128, .f32⟩
  | .hbm, ⟨14, _⟩ => ⟨S2x4096x128, .f32⟩
  | .hbm, ⟨15, _⟩ => ⟨S4096x2x128, .f32⟩
  | .hbm, ⟨16, _⟩ => ⟨S2x4096x128, .f32⟩
  | .hbm, ⟨17, _⟩ => ⟨S2x4, .f32⟩
  | .hbm, ⟨18, _⟩ => ⟨S2x4x4096x4096, .f32⟩
  | .hbm, ⟨19, _⟩ => ⟨S_, .f32⟩
  | .hbm, ⟨20, _⟩ => ⟨S2x4x4096x4096, .f32⟩
  | .hbm, ⟨21, _⟩ => ⟨S2x4x4096x4096, .f32⟩
  | .hbm, ⟨22, _⟩ => ⟨S4096, .i32⟩
  | .hbm, ⟨23, _⟩ => ⟨S4096x1, .i32⟩
  | .hbm, ⟨24, _⟩ => ⟨S4096, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S_, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S2x4x4096x4096, .i1⟩
  | .hbm, ⟨36, _⟩ => ⟨S2x4x4096x4096, .f32⟩
  | .hbm, ⟨37, _⟩ => ⟨S2x4x4096x4096, .f32⟩
  | .hbm, ⟨38, _⟩ => ⟨S2x4x1x1, .f32⟩
  | .hbm, ⟨39, _⟩ => ⟨S_, .f32⟩
  | .hbm, ⟨40, _⟩ => ⟨S2x4x4096, .f32⟩
  | .hbm, ⟨41, _⟩ => ⟨S2x4x4096x1, .f32⟩
  | .hbm, ⟨42, _⟩ => ⟨S2x4x4096x1, .f32⟩
  | .hbm, ⟨43, _⟩ => ⟨S2x4x4096x1, .f32⟩
  | .hbm, ⟨44, _⟩ => ⟨S2x4x4096x4096, .f32⟩
  | .hbm, ⟨45, _⟩ => ⟨S2x4x4096x4096, .f32⟩
  | .hbm, ⟨46, _⟩ => ⟨S2x4x4096x4096, .f32⟩
  | .hbm, ⟨47, _⟩ => ⟨S_, .f32⟩
  | .hbm, ⟨48, _⟩ => ⟨S2x4x4096, .f32⟩
  | .hbm, ⟨49, _⟩ => ⟨S2x4x4096x1, .f32⟩
  | .hbm, ⟨50, _⟩ => ⟨S2x4x4096x1, .f32⟩
  | .hbm, ⟨51, _⟩ => ⟨S2x4x4096x1, .f32⟩
  | .hbm, ⟨52, _⟩ => ⟨S2x4x4096x1, .f32⟩
  | .hbm, ⟨53, _⟩ => ⟨S2x4x4096x1, .f32⟩
  | .hbm, ⟨54, _⟩ => ⟨S2x4x4096x4096, .f32⟩
  | .hbm, ⟨55, _⟩ => ⟨S2x4x4096x4096, .f32⟩
  | .hbm, ⟨56, _⟩ => ⟨S2x4x4096x128, .f32⟩
  | .hbm, ⟨57, _⟩ => ⟨S2x4x4096x1, .f32⟩
  | .hbm, ⟨58, _⟩ => ⟨S2x4x4096x1, .f32⟩
  | .hbm, ⟨59, _⟩ => ⟨S4096x2x4x128, .f32⟩
  | .hbm, ⟨60, _⟩ => ⟨S4096x1024, .f32⟩
  | .hbm, ⟨61, _⟩ => ⟨S2x4x4096x128, .f32⟩
  | .hbm, ⟨62, _⟩ => ⟨S4096x2x4x128, .f32⟩
  | .hbm, ⟨63, _⟩ => ⟨S4096x1024, .f32⟩
  | .hbm, ⟨64, _⟩ => ⟨S8x1x1, .f32⟩
  | .hbm, ⟨65, _⟩ => ⟨S8x1x128, .f32⟩
  | .hbm, ⟨66, _⟩ => ⟨S4096x3584, .f32⟩
  | .hbm, ⟨67, _⟩ => ⟨S4096x2816, .f32⟩
  | .hbm, ⟨68, _⟩ => ⟨S4096x2816, .f32⟩
  | .hbm, ⟨69, _⟩ => ⟨S8x1x128, .f32⟩
  | .local _ .vmem, ⟨0, _⟩ => ⟨S2048x128, .f32⟩
  | .local _ .vmem, ⟨1, _⟩ => ⟨S2048x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x1x128, .f32⟩
  | .local _ .vmem, ⟨13, _⟩ => ⟨S1x1x128, .f32⟩
  | .local _ .vmem, ⟨14, _⟩ => ⟨S2048x128, .f32⟩
  | .local _ .vmem, ⟨15, _⟩ => ⟨S2048x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S1x1x128, .f32⟩
  | .local _ .vmem, ⟨21, _⟩ => ⟨S1x1x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50_0 : Ref sig .tc := ⟨.hbm, 66, rfl⟩
abbrev main_v50_1 : Ref sig .tc := ⟨.hbm, 67, rfl⟩
abbrev main_v50_2 : Ref sig .tc := ⟨.hbm, 68, rfl⟩
abbrev main_v50_3 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 2], ![false, false, false]⟩

def k0_mult1 : BitVec 32 :=
  let c0_i32_8 : BitVec 32 := 0#32
  c0_i32_8
def k0_mult2 (i : grid0.Coords) : BitVec 32 :=
  let c3584_i32 : BitVec 32 := 3584#32
  let c0_i32_5 : BitVec 32 := 0#32
  let arg2 : BitVec 32 := BitVec.ofNat 32 (i 2).val
  let c8_i32 : BitVec 32 := 8#32
  let v8 : BitVec 32 := Scalar.muli arg2 c8_i32
  let c0_i32_4 : BitVec 32 := 0#32
  let v9 : BitVec 32 := Scalar.addi v8 c0_i32_4
  let c256_i32 : BitVec 32 := 256#32
  let v10 : BitVec 32 := Scalar.muli v9 c256_i32
  let c128_i32 : BitVec 32 := 128#32
  let v11 : BitVec 32 := Scalar.subi v10 c128_i32
  let v12 : BitVec 32 := Scalar.maxsi c0_i32_5 v11
  let v13 : BitVec 32 := Scalar.minsi c3584_i32 v12
  v13
def k0_off1 (i : grid0.Coords) (c0_i32_4 : BitVec 32) : Fin 2 → Nat :=
  let c3584_i32 : BitVec 32 := 3584#32
  let c0_i32_5 : BitVec 32 := 0#32
  let arg2 : BitVec 32 := BitVec.ofNat 32 (i 2).val
  let c8_i32 : BitVec 32 := 8#32
  let v8 : BitVec 32 := Scalar.muli arg2 c8_i32
  let v9 : BitVec 32 := Scalar.addi v8 c0_i32_4
  let c256_i32 : BitVec 32 := 256#32
  let v10 : BitVec 32 := Scalar.muli v9 c256_i32
  let c128_i32 : BitVec 32 := 128#32
  let v11 : BitVec 32 := Scalar.subi v10 c128_i32
  let v12 : BitVec 32 := Scalar.maxsi c0_i32_5 v11
  let v13 : BitVec 32 := Scalar.minsi c3584_i32 v12
  let v26 : BitVec 32 := v13
  let v30 : Index := Scalar.indexCast v26
  let c0_9 : Index := 0#32
  ![v30.toNat, 0]
def k0_mult3 : BitVec 32 :=
  let c256_i32_46 : BitVec 32 := 256#32
  c256_i32_46
def k0_mult4 (i : grid0.Coords) : BitVec 32 :=
  let c3584_i32_43 : BitVec 32 := 3584#32
  let c0_i32_42 : BitVec 32 := 0#32
  let arg2 : BitVec 32 := BitVec.ofNat 32 (i 2).val
  let c8_i32_39 : BitVec 32 := 8#32
  let v103 : BitVec 32 := Scalar.muli arg2 c8_i32_39
  let c1_i32 : BitVec 32 := 1#32
  let v104 : BitVec 32 := Scalar.addi v103 c1_i32
  let c256_i32_40 : BitVec 32 := 256#32
  let v105 : BitVec 32 := Scalar.muli v104 c256_i32_40
  let c128_i32_41 : BitVec 32 := 128#32
  let v106 : BitVec 32 := Scalar.subi v105 c128_i32_41
  let v107 : BitVec 32 := Scalar.maxsi c0_i32_42 v106
  let v108 : BitVec 32 := Scalar.minsi c3584_i32_43 v107
  v108
def k0_mult5 : BitVec 32 :=
  let c512_i32 : BitVec 32 := 512#32
  c512_i32
def k0_mult6 (i : grid0.Coords) : BitVec 32 :=
  let c3584_i32_83 : BitVec 32 := 3584#32
  let c0_i32_82 : BitVec 32 := 0#32
  let arg2 : BitVec 32 := BitVec.ofNat 32 (i 2).val
  let c8_i32_79 : BitVec 32 := 8#32
  let v198 : BitVec 32 := Scalar.muli arg2 c8_i32_79
  let c2_i32 : BitVec 32 := 2#32
  let v199 : BitVec 32 := Scalar.addi v198 c2_i32
  let c256_i32_80 : BitVec 32 := 256#32
  let v200 : BitVec 32 := Scalar.muli v199 c256_i32_80
  let c128_i32_81 : BitVec 32 := 128#32
  let v201 : BitVec 32 := Scalar.subi v200 c128_i32_81
  let v202 : BitVec 32 := Scalar.maxsi c0_i32_82 v201
  let v203 : BitVec 32 := Scalar.minsi c3584_i32_83 v202
  v203
def k0_mult7 : BitVec 32 :=
  let c768_i32 : BitVec 32 := 768#32
  c768_i32
def k0_mult8 (i : grid0.Coords) : BitVec 32 :=
  let c3584_i32_122 : BitVec 32 := 3584#32
  let c0_i32_121 : BitVec 32 := 0#32
  let arg2 : BitVec 32 := BitVec.ofNat 32 (i 2).val
  let c8_i32_118 : BitVec 32 := 8#32
  let v293 : BitVec 32 := Scalar.muli arg2 c8_i32_118
  let c3_i32 : BitVec 32 := 3#32
  let v294 : BitVec 32 := Scalar.addi v293 c3_i32
  let c256_i32_119 : BitVec 32 := 256#32
  let v295 : BitVec 32 := Scalar.muli v294 c256_i32_119
  let c128_i32_120 : BitVec 32 := 128#32
  let v296 : BitVec 32 := Scalar.subi v295 c128_i32_120
  let v297 : BitVec 32 := Scalar.maxsi c0_i32_121 v296
  let v298 : BitVec 32 := Scalar.minsi c3584_i32_122 v297
  v298
def k0_mult9 : BitVec 32 :=
  let c1024_i32 : BitVec 32 := 1024#32
  c1024_i32
def k0_mult10 (i : grid0.Coords) : BitVec 32 :=
  let c3584_i32_161 : BitVec 32 := 3584#32
  let c0_i32_160 : BitVec 32 := 0#32
  let arg2 : BitVec 32 := BitVec.ofNat 32 (i 2).val
  let c8_i32_157 : BitVec 32 := 8#32
  let v388 : BitVec 32 := Scalar.muli arg2 c8_i32_157
  let c4_i32 : BitVec 32 := 4#32
  let v389 : BitVec 32 := Scalar.addi v388 c4_i32
  let c256_i32_158 : BitVec 32 := 256#32
  let v390 : BitVec 32 := Scalar.muli v389 c256_i32_158
  let c128_i32_159 : BitVec 32 := 128#32
  let v391 : BitVec 32 := Scalar.subi v390 c128_i32_159
  let v392 : BitVec 32 := Scalar.maxsi c0_i32_160 v391
  let v393 : BitVec 32 := Scalar.minsi c3584_i32_161 v392
  v393
def k0_mult11 : BitVec 32 :=
  let c1280_i32 : BitVec 32 := 1280#32
  c1280_i32
def k0_mult12 (i : grid0.Coords) : BitVec 32 :=
  let c3584_i32_200 : BitVec 32 := 3584#32
  let c0_i32_199 : BitVec 32 := 0#32
  let arg2 : BitVec 32 := BitVec.ofNat 32 (i 2).val
  let c8_i32_196 : BitVec 32 := 8#32
  let v483 : BitVec 32 := Scalar.muli arg2 c8_i32_196
  let c5_i32 : BitVec 32 := 5#32
  let v484 : BitVec 32 := Scalar.addi v483 c5_i32
  let c256_i32_197 : BitVec 32 := 256#32
  let v485 : BitVec 32 := Scalar.muli v484 c256_i32_197
  let c128_i32_198 : BitVec 32 := 128#32
  let v486 : BitVec 32 := Scalar.subi v485 c128_i32_198
  let v487 : BitVec 32 := Scalar.maxsi c0_i32_199 v486
  let v488 : BitVec 32 := Scalar.minsi c3584_i32_200 v487
  v488
def k0_mult13 : BitVec 32 :=
  let c1536_i32 : BitVec 32 := 1536#32
  c1536_i32
def k0_mult14 (i : grid0.Coords) : BitVec 32 :=
  let c3584_i32_239 : BitVec 32 := 3584#32
  let c0_i32_238 : BitVec 32 := 0#32
  let arg2 : BitVec 32 := BitVec.ofNat 32 (i 2).val
  let c8_i32_235 : BitVec 32 := 8#32
  let v578 : BitVec 32 := Scalar.muli arg2 c8_i32_235
  let c6_i32 : BitVec 32 := 6#32
  let v579 : BitVec 32 := Scalar.addi v578 c6_i32
  let c256_i32_236 : BitVec 32 := 256#32
  let v580 : BitVec 32 := Scalar.muli v579 c256_i32_236
  let c128_i32_237 : BitVec 32 := 128#32
  let v581 : BitVec 32 := Scalar.subi v580 c128_i32_237
  let v582 : BitVec 32 := Scalar.maxsi c0_i32_238 v581
  let v583 : BitVec 32 := Scalar.minsi c3584_i32_239 v582
  v583
def k0_mult15 : BitVec 32 :=
  let c1792_i32 : BitVec 32 := 1792#32
  c1792_i32
def k0_mult16 (i : grid0.Coords) : BitVec 32 :=
  let c3584_i32_278 : BitVec 32 := 3584#32
  let c0_i32_277 : BitVec 32 := 0#32
  let arg2 : BitVec 32 := BitVec.ofNat 32 (i 2).val
  let c8_i32_274 : BitVec 32 := 8#32
  let v673 : BitVec 32 := Scalar.muli arg2 c8_i32_274
  let c7_i32 : BitVec 32 := 7#32
  let v674 : BitVec 32 := Scalar.addi v673 c7_i32
  let c256_i32_275 : BitVec 32 := 256#32
  let v675 : BitVec 32 := Scalar.muli v674 c256_i32_275
  let c128_i32_276 : BitVec 32 := 128#32
  let v676 : BitVec 32 := Scalar.subi v675 c128_i32_276
  let v677 : BitVec 32 := Scalar.maxsi c0_i32_277 v676
  let v678 : BitVec 32 := Scalar.minsi c3584_i32_278 v677
  v678
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  ![arg2.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  ![arg2.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  ![arg2.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  ![arg2.toNat, v2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S4096x3584 : Shape := ⟨2, ![4096, 3584]⟩
abbrev S4096x2816 : Shape := ⟨2, ![4096, 2816]⟩
abbrev S4096x15360 : Shape := ⟨2, ![4096, 15360]⟩
abbrev S4096x1024 : Shape := ⟨2, ![4096, 1024]⟩
abbrev S8 : Shape := ⟨1, ![8]⟩
abbrev S4096x256 : Shape := ⟨2, ![4096, 256]⟩
abbrev S4096x2x4x128 : Shape := ⟨4, ![4096, 2, 4, 128]⟩
abbrev S2x4x4096x128 : Shape := ⟨4, ![2, 4, 4096, 128]⟩
abbrev S4096x2x128 : Shape := ⟨3, ![4096, 2, 128]⟩
abbrev S2x4096x128 : Shape := ⟨3, ![2, 4096, 128]⟩
abbrev S2x4 : Shape := ⟨2, ![2, 4]⟩
abbrev S2x4x4096x4096 : Shape := ⟨4, ![2, 4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x4x1x1 : Shape := ⟨4, ![2, 4, 1, 1]⟩
abbrev S2x4x4096 : Shape := ⟨3, ![2, 4, 4096]⟩
abbrev S2x4x4096x1 : Shape := ⟨4, ![2, 4, 4096, 1]⟩
abbrev S2x128x4096 : Shape := ⟨3, ![2, 128, 4096]⟩
abbrev S2x4x1 : Shape := ⟨3, ![2, 4, 1]⟩
abbrev S4096x2560 : Shape := ⟨2, ![4096, 2560]⟩
abbrev S8x1x1 : Shape := ⟨3, ![8, 1, 1]⟩
abbrev S8x1x128 : Shape := ⟨3, ![8, 1, 128]⟩

abbrev nBuf : Space → Nat
  | .hbm => 163
  | .vmem => 0
  | .smem => 0
  | _ => 0

abbrev hbmTy0_0 (i : Nat) : BufTy := match i % 128 with
  | 0 => ⟨S4096x3584, .f32⟩
  | 1 => ⟨S4096x2816, .f32⟩
  | 2 => ⟨S4096x15360, .f32⟩
  | 3 => ⟨S4096x1024, .f32⟩
  | 4 => ⟨S8, .f32⟩
  | 5 => ⟨S4096x3584, .f32⟩
  | 6 => ⟨S4096x2816, .f32⟩
  | 7 => ⟨S4096x2816, .f32⟩
  | 8 => ⟨S4096x1024, .f32⟩
  | 9 => ⟨S4096x256, .f32⟩
  | 10 => ⟨S4096x256, .f32⟩
  | 11 => ⟨S4096x2x4x128, .f32⟩
  | 12 => ⟨S2x4x4096x128, .f32⟩
  | 13 => ⟨S4096x2x128, .f32⟩
  | 14 => ⟨S2x4096x128, .f32⟩
  | 15 => ⟨S4096x2x128, .f32⟩
  | 16 => ⟨S2x4096x128, .f32⟩
  | 17 => ⟨S2x4, .f32⟩
  | 18 => ⟨S2x4, .f32⟩
  | 19 => ⟨S2x4x4096x4096, .f32⟩
  | 20 => ⟨S_, .f32⟩
  | 21 => ⟨S2x4x4096x4096, .f32⟩
  | 22 => ⟨S2x4x4096x4096, .f32⟩
  | 23 => ⟨S4096, .i32⟩
  | 24 => ⟨S4096x1, .i32⟩
  | 25 => ⟨S4096, .i32⟩
  | 26 => ⟨S1x4096, .i32⟩
  | 27 => ⟨S4096x4096, .i32⟩
  | 28 => ⟨S4096x4096, .i32⟩
  | 29 => ⟨S4096x4096, .i32⟩
  | 30 => ⟨S4096x4096, .i32⟩
  | 31 => ⟨S_, .i32⟩
  | 32 => ⟨S4096x4096, .i32⟩
  | 33 => ⟨S4096x4096, .i1⟩
  | 34 => ⟨S_, .f32⟩
  | 35 => ⟨S_, .f32⟩
  | 36 => ⟨S2x4x4096x4096, .i1⟩
  | 37 => ⟨S2x4x4096x4096, .f32⟩
  | 38 => ⟨S2x4x4096x4096, .f32⟩
  | 39 => ⟨S_, .f32⟩
  | 40 => ⟨S2x4x4096x4096, .f32⟩
  | 41 => ⟨S2x4x1x1, .f32⟩
  | 42 => ⟨S_, .f32⟩
  | 43 => ⟨S2x4x4096, .f32⟩
  | 44 => ⟨S2x4x4096x1, .f32⟩
  | 45 => ⟨S2x4x4096x4096, .f32⟩
  | 46 => ⟨S2x4x4096x4096, .i1⟩
  | 47 => ⟨S2x4x4096x4096, .f32⟩
  | 48 => ⟨S_, .f32⟩
  | 49 => ⟨S2x4x4096, .f32⟩
  | 50 => ⟨S2x4x4096x1, .f32⟩
  | 51 => ⟨S2x4x4096x1, .f32⟩
  | 52 => ⟨S2x4x4096x1, .f32⟩
  | 53 => ⟨S2x4x4096x1, .f32⟩
  | 54 => ⟨S2x4x4096x1, .i1⟩
  | 55 => ⟨S2x4x4096x1, .f32⟩
  | 56 => ⟨S2x4x4096x1, .i1⟩
  | 57 => ⟨S_, .f32⟩
  | 58 => ⟨S2x4x4096x1, .f32⟩
  | 59 => ⟨S_, .f32⟩
  | 60 => ⟨S2x4x4096x1, .f32⟩
  | 61 => ⟨S_, .f32⟩
  | 62 => ⟨S2x4x4096x1, .f32⟩
  | 63 => ⟨S2x4x4096x1, .f32⟩
  | 64 => ⟨S2x4x4096x1, .f32⟩
  | 65 => ⟨S2x4x4096x1, .f32⟩
  | 66 => ⟨S2x4x4096x1, .i1⟩
  | 67 => ⟨S2x4x4096x1, .f32⟩
  | 68 => ⟨S2x4x4096x1, .i1⟩
  | 69 => ⟨S_, .f32⟩
  | 70 => ⟨S2x4x4096x1, .f32⟩
  | 71 => ⟨S_, .f32⟩
  | 72 => ⟨S2x4x4096x1, .f32⟩
  | 73 => ⟨S_, .f32⟩
  | 74 => ⟨S2x4x4096x1, .f32⟩
  | 75 => ⟨S2x4x4096x1, .f32⟩
  | 76 => ⟨S2x4x4096x1, .f32⟩
  | 77 => ⟨S2x4x4096x4096, .f32⟩
  | 78 => ⟨S2x4x4096x4096, .f32⟩
  | 79 => ⟨S2x4x4096x4096, .f32⟩
  | 80 => ⟨S_, .f32⟩
  | 81 => ⟨S2x4x4096, .f32⟩
  | 82 => ⟨S2x4x4096x1, .f32⟩
  | 83 => ⟨S2x4x4096x1, .f32⟩
  | 84 => ⟨S2x4x4096x1, .f32⟩
  | 85 => ⟨S2x4x4096x1, .f32⟩
  | 86 => ⟨S2x4x4096x1, .f32⟩
  | 87 => ⟨S2x4x4096x4096, .f32⟩
  | 88 => ⟨S2x4x4096x4096, .f32⟩
  | 89 => ⟨S2x4x4096x1, .f32⟩
  | 90 => ⟨S_, .f32⟩
  | 91 => ⟨S2x4x4096x1, .f32⟩
  | 92 => ⟨S2x4x4096x1, .f32⟩
  | 93 => ⟨S2x4x4096x128, .f32⟩
  | 94 => ⟨S2x4x4096x1, .f32⟩
  | 95 => ⟨S2x4x4096x1, .f32⟩
  | 96 => ⟨S4096x2x4x128, .f32⟩
  | 97 => ⟨S4096x1024, .f32⟩
  | 98 => ⟨S4096x2x4x128, .f32⟩
  | 99 => ⟨S2x4x4096x128, .f32⟩
  | 100 => ⟨S2x128x4096, .f32⟩
  | 101 => ⟨S2x4096x128, .f32⟩
  | 102 => ⟨S2x4x4096x4096, .f32⟩
  | 103 => ⟨S2x4x4096x4096, .f32⟩
  | 104 => ⟨S2x4x4096x4096, .f32⟩
  | 105 => ⟨S2x4x4096x4096, .f32⟩
  | 106 => ⟨S_, .f32⟩
  | 107 => ⟨S2x4x4096, .f32⟩
  | 108 => ⟨S2x4x4096x1, .f32⟩
  | 109 => ⟨S2x4x4096x1, .f32⟩
  | 110 => ⟨S2x4x4096x4096, .f32⟩
  | 111 => ⟨S2x4x4096x4096, .f32⟩
  | 112 => ⟨S2x4x4096x1, .f32⟩
  | 113 => ⟨S_, .f32⟩
  | 114 => ⟨S2x4x1, .f32⟩
  | 115 => ⟨S2x4x1x1, .f32⟩
  | 116 => ⟨S2x4x4096x1, .f32⟩
  | 117 => ⟨S_, .f32⟩
  | 118 => ⟨S2x4x4096, .f32⟩
  | 119 => ⟨S2x4x4096x4096, .f32⟩
  | 120 => ⟨S2x4x4096x4096, .f32⟩
  | 121 => ⟨S2x4x4096x4096, .f32⟩
  | 122 => ⟨S2x4x4096x4096, .f32⟩
  | 123 => ⟨S_, .f32⟩
  | 124 => ⟨S2x4x4096, .f32⟩
  | 125 => ⟨S2x4x4096x1, .f32⟩
  | 126 => ⟨S2x4x4096x1, .f32⟩
  | 127 => ⟨S2x4x4096x1, .f32⟩
  | _ => ⟨S4096x3584, .f32⟩

abbrev hbmTy0_1 (i : Nat) : BufTy := match i % 128 with
  | 0 => ⟨S_, .f32⟩
  | 1 => ⟨S2x4x1, .f32⟩
  | 2 => ⟨S2x4x1x1, .f32⟩
  | 3 => ⟨S2x4x1x1, .f32⟩
  | 4 => ⟨S2x4x4096x1, .f32⟩
  | 5 => ⟨S_, .f32⟩
  | 6 => ⟨S2x4x4096, .f32⟩
  | 7 => ⟨S2x4x4096, .f32⟩
  | 8 => ⟨S2x4x4096x4096, .f32⟩
  | 9 => ⟨S2x4x4096x4096, .f32⟩
  | 10 => ⟨S2x4x4096x4096, .f32⟩
  | 11 => ⟨S2x4, .f32⟩
  | 12 => ⟨S_, .f32⟩
  | 13 => ⟨S2x4x4096x4096, .f32⟩
  | 14 => ⟨S2x4x4096x4096, .f32⟩
  | 15 => ⟨S_, .f32⟩
  | 16 => ⟨S2x4x4096x4096, .f32⟩
  | 17 => ⟨S2x4x4096x4096, .f32⟩
  | 18 => ⟨S2x4096x128, .f32⟩
  | 19 => ⟨S2x4x4096x128, .f32⟩
  | 20 => ⟨S8, .f32⟩
  | 21 => ⟨S4096x2x128, .f32⟩
  | 22 => ⟨S4096x256, .f32⟩
  | 23 => ⟨S4096x2x128, .f32⟩
  | 24 => ⟨S4096x256, .f32⟩
  | 25 => ⟨S4096x2x4x128, .f32⟩
  | 26 => ⟨S4096x1024, .f32⟩
  | 27 => ⟨S4096x2560, .f32⟩
  | 28 => ⟨S4096x3584, .f32⟩
  | 29 => ⟨S4096x2560, .f32⟩
  | 30 => ⟨S4096x2816, .f32⟩
  | 31 => ⟨S4096x2560, .f32⟩
  | 32 => ⟨S4096x2816, .f32⟩
  | 33 => ⟨S8x1x1, .f32⟩
  | 34 => ⟨S8x1x128, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_call0_v0 : Ref sig .tc := ⟨.hbm, 35, rfl⟩
abbrev main_v24_1 : Ref sig .tc := ⟨.hbm, 36, rfl⟩
abbrev main_call0_v2 : Ref sig .tc := ⟨.hbm, 37, rfl⟩
abbrev main_v24_0 : Ref sig .tc := ⟨.hbm, 38, rfl⟩
abbrev main_call0_cst : Ref sig .tc := ⟨.hbm, 39, rfl⟩
abbrev main_v24_2 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_11 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_12 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_13 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_14 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_15 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_16 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_call1_cst : Ref sig .tc := ⟨.hbm, 140, rfl⟩
abbrev main_call1_v0 : Ref sig .tc := ⟨.hbm, 141, rfl⟩
abbrev main_v108 : Ref sig .tc := ⟨.hbm, 142, rfl⟩
abbrev main_cst_17 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩

abbrev nD : Nat := 1
abbrev τ : Topo := Topo.v7x

variable {F : FTy → Type} [FloatOps F]
-- ==== Kernel2.lean ====
abbrev S4096x2048 : Shape := ⟨2, ![4096, 2048]⟩
abbrev S4096x15360 : Shape := ⟨2, ![4096, 15360]⟩
abbrev S8x2048x1920 : Shape := ⟨3, ![8, 2048, 1920]⟩
abbrev S2048x512 : Shape := ⟨2, ![2048, 512]⟩
abbrev S2048x1920 : Shape := ⟨2, ![2048, 1920]⟩
abbrev S1x512x1920 : Shape := ⟨3, ![1, 512, 1920]⟩
abbrev S512x1920 : Shape := ⟨2, ![512, 1920]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x15360, .bf16⟩
  | .hbm, ⟨2, _⟩ => ⟨S8x2048x1920, .bf16⟩
  | .local _ .vmem, ⟨0, _⟩ => ⟨S2048x512, .bf16⟩
  | .local _ .vmem, ⟨1, _⟩ => ⟨S2048x512, .bf16⟩
  | .local _ .vmem, ⟨2, _⟩ => ⟨S2048x1920, .bf16⟩
  | .local _ .vmem, ⟨3, _⟩ => ⟨S2048x1920, .bf16⟩
  | .local _ .vmem, ⟨4, _⟩ => ⟨S1x512x1920, .bf16⟩
  | .local _ .vmem, ⟨5, _⟩ => ⟨S1x512x1920, .bf16⟩
  | .local _ .vmem, ⟨6, _⟩ => ⟨S512x1920, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 8, 1, 2], ![false, false, false, false]⟩

def k0_cond3 (i : grid0.Coords) : BitVec 1 :=
  let arg3 : BitVec 32 := BitVec.ofNat 32 (i 3).val
  let c1_i32 : BitVec 32 := 1#32
  let v9 : BitVec 1 := Scalar.cmpi .eq arg3 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x512x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference2Ideal.lean ====
abbrev S4096x2048 : Shape := ⟨2, ![4096, 2048]⟩
abbrev S4096x15360 : Shape := ⟨2, ![4096, 15360]⟩
abbrev S_ : Shape := ⟨0, ![]⟩
abbrev S2048x15360 : Shape := ⟨2, ![2048, 15360]⟩
abbrev S15360x2048 : Shape := ⟨2, ![15360, 2048]⟩
abbrev S2048x8x1920 : Shape := ⟨3, ![2048, 8, 1920]⟩
abbrev S8x2048x1920 : Shape := ⟨3, ![8, 2048, 1920]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x15360, .bf16⟩
  | .hbm, ⟨2, _⟩ => ⟨S_, .f32⟩
  | .hbm, ⟨3, _⟩ => ⟨S2048x15360, .f32⟩
  | .hbm, ⟨4, _⟩ => ⟨S4096x2048, .f32⟩
  | .hbm, ⟨5, _⟩ => ⟨S4096x15360, .f32⟩
  | .hbm, ⟨6, _⟩ => ⟨S4096x15360, .f32⟩
  | .hbm, ⟨7, _⟩ => ⟨S15360x2048, .f32⟩
  | .hbm, ⟨8, _⟩ => ⟨S2048x15360, .f32⟩
  | .hbm, ⟨9, _⟩ => ⟨S2048x8x1920, .f32⟩
  | .hbm, ⟨10, _⟩ => ⟨S8x2048x1920, .f32⟩
  | .hbm, ⟨11, _⟩ => ⟨S8x2048x1920, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x15360 : Shape := ⟨2, ![4096, 15360]⟩
abbrev S8x1x2048x1920 : Shape := ⟨4, ![8, 1, 2048, 1920]⟩
abbrev S4096x2048 : Shape := ⟨2, ![4096, 2048]⟩
abbrev S1024x1920 : Shape := ⟨2, ![1024, 1920]⟩
abbrev S1x1x1024x1920 : Shape := ⟨4, ![1, 1, 1024, 1920]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x15360, .bf16⟩
  | .hbm, ⟨1, _⟩ => ⟨S8x1x2048x1920, .bf16⟩
  | .hbm, ⟨2, _⟩ => ⟨S4096x2048, .f32⟩
  | .local _ .vmem, ⟨0, _⟩ => ⟨S1024x1920, .bf16⟩
  | .local _ .vmem, ⟨1, _⟩ => ⟨S1024x1920, .bf16⟩
  | .local _ .vmem, ⟨2, _⟩ => ⟨S1x1x1024x1920, .bf16⟩
  | .local _ .vmem, ⟨3, _⟩ => ⟨S1x1x1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 8, 1], ![false, false, false, false]⟩

def k0_cond3 (i : grid0.Coords) : BitVec 1 :=
  let arg2 : BitVec 32 := BitVec.ofNat 32 (i 2).val
  let c1_i32 : BitVec 32 := 1#32
  let v0 : BitVec 32 := Scalar.muli arg2 c1_i32
  let arg3 : BitVec 32 := BitVec.ofNat 32 (i 3).val
  let v1 : BitVec 32 := Scalar.addi v0 arg3
  let c7_i32 : BitVec 32 := 7#32
  let v12 : BitVec 1 := Scalar.cmpi .eq v1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1x1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference3Ideal.lean ====
abbrev S4096x15360 : Shape := ⟨2, ![4096, 15360]⟩
abbrev S8x1x2048x1920 : Shape := ⟨4, ![8, 1, 2048, 1920]⟩
abbrev S8x2048x1920 : Shape := ⟨3, ![8, 2048, 1920]⟩
abbrev S2048x8x1920 : Shape := ⟨3, ![2048, 8, 1920]⟩
abbrev S2048x15360 : Shape := ⟨2, ![2048, 15360]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x15360, .bf16⟩
  | .hbm, ⟨1, _⟩ => ⟨S8x1x2048x1920, .bf16⟩
  | .hbm, ⟨2, _⟩ => ⟨S8x1x2048x1920, .f32⟩
  | .hbm, ⟨3, _⟩ => ⟨S8x2048x1920, .f32⟩
  | .hbm, ⟨4, _⟩ => ⟨S2048x8x1920, .f32⟩
  | .hbm, ⟨5, _⟩ => ⟨S2048x15360, .f32⟩
  | .hbm, ⟨6, _⟩ => ⟨S_, .f32⟩
  | .hbm, ⟨7, _⟩ => ⟨S4096x2048, .f32⟩
  | .hbm, ⟨8, _⟩ => ⟨S4096x15360, .f32⟩
  | .hbm, ⟨9, _⟩ => ⟨S4096x15360, .f32⟩
  | .hbm, ⟨10, _⟩ => ⟨S4096x2048, .f32⟩
  | _, _ => ⟨S4096x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x2048 : Shape := ⟨2, ![4096, 2048]⟩
abbrev S4096x11264 : Shape := ⟨2, ![4096, 11264]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 8, 1, 2], ![false, false, false, false]⟩

def k0_cond3 (i : grid0.Coords) : BitVec 1 :=
  let arg3 : BitVec 32 := BitVec.ofNat 32 (i 3).val
  let c1_i32 : BitVec 32 := 1#32
  let v9 : BitVec 1 := Scalar.cmpi .eq arg3 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference4Ideal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x8x1408, .f32⟩
  | .hbm, ⟨10, _⟩ => ⟨S8x2048x1408, .f32⟩
  | .hbm, ⟨11, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x11264 : Shape := ⟨2, ![4096, 11264]⟩
abbrev S8x1x2048x1408 : Shape := ⟨4, ![8, 1, 2048, 1408]⟩
abbrev S4096x2048 : Shape := ⟨2, ![4096, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S8x1x2048x1408, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 8, 1], ![false, false, false, false]⟩

def k0_cond3 (i : grid0.Coords) : BitVec 1 :=
  let arg2 : BitVec 32 := BitVec.ofNat 32 (i 2).val
  let c1_i32 : BitVec 32 := 1#32
  let v0 : BitVec 32 := Scalar.muli arg2 c1_i32
  let arg3 : BitVec 32 := BitVec.ofNat 32 (i 3).val
  let v1 : BitVec 32 := Scalar.addi v0 arg3
  let c7_i32 : BitVec 32 := 7#32
  let v12 : BitVec 1 := Scalar.cmpi .eq v1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference5Ideal.lean ====
abbrev S4096x11264 : Shape := ⟨2, ![4096, 11264]⟩
abbrev S8x1x2048x1408 : Shape := ⟨4, ![8, 1, 2048, 1408]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S8x1x2048x1408, .bf16⟩
  | .hbm, ⟨2, _⟩ => ⟨S8x1x2048x1408, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S_, .f32⟩
  | .hbm, ⟨7, _⟩ => ⟨S4096x2048, .f32⟩
  | .hbm, ⟨8, _⟩ => ⟨S4096x11264, .f32⟩
  | .hbm, ⟨9, _⟩ => ⟨S4096x11264, .f32⟩
  | .hbm, ⟨10, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x5632 : Shape := ⟨2, ![4096, 5632]⟩
abbrev S4096x2048 : Shape := ⟨2, ![4096, 2048]⟩
abbrev S1x5632x2048 : Shape := ⟨3, ![1, 5632, 2048]⟩
abbrev S2048x512 : Shape := ⟨2, ![2048, 512]⟩
abbrev S2048x2048 : Shape := ⟨2, ![2048, 2048]⟩
abbrev S1x512x2048 : Shape := ⟨3, ![1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1x5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![11, 1, 1, 2], ![false, false, false, false]⟩

def k0_cond3 (i : grid0.Coords) : BitVec 1 :=
  let arg3 : BitVec 32 := BitVec.ofNat 32 (i 3).val
  let c1_i32 : BitVec 32 := 1#32
  let v9 : BitVec 1 := Scalar.cmpi .eq arg3 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference6Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S5632x1x2048 : Shape := ⟨3, ![5632, 1, 2048]⟩
abbrev S1x5632x2048 : Shape := ⟨3, ![1, 5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x1x2048, .f32⟩
  | .hbm, ⟨10, _⟩ => ⟨S1x5632x2048, .f32⟩
  | .hbm, ⟨11, _⟩ => ⟨S1x5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x2048 : Shape := ⟨2, ![4096, 2048]⟩
abbrev S1x1x5632x2048 : Shape := ⟨4, ![1, 1, 5632, 2048]⟩
abbrev S4096x5632 : Shape := ⟨2, ![4096, 5632]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1x1x5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 11, 1, 1], ![false, false, false, false]⟩

def k0_cond3 (i : grid0.Coords) : BitVec 1 :=
  let arg2 : BitVec 32 := BitVec.ofNat 32 (i 2).val
  let c1_i32 : BitVec 32 := 1#32
  let v0 : BitVec 32 := Scalar.muli arg2 c1_i32
  let arg3 : BitVec 32 := BitVec.ofNat 32 (i 3).val
  let v1 : BitVec 32 := Scalar.addi v0 arg3
  let c0_i32_8 : BitVec 32 := 0#32
  let v12 : BitVec 1 := Scalar.cmpi .eq v1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference7Ideal.lean ====
abbrev S4096x2048 : Shape := ⟨2, ![4096, 2048]⟩
abbrev S1x1x5632x2048 : Shape := ⟨4, ![1, 1, 5632, 2048]⟩
abbrev S1x5632x2048 : Shape := ⟨3, ![1, 5632, 2048]⟩
abbrev S5632x1x2048 : Shape := ⟨3, ![5632, 1, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1x5632x2048, .bf16⟩
  | .hbm, ⟨2, _⟩ => ⟨S1x1x5632x2048, .f32⟩
  | .hbm, ⟨3, _⟩ => ⟨S1x5632x2048, .f32⟩
  | .hbm, ⟨4, _⟩ => ⟨S5632x1x2048, .f32⟩
  | .hbm, ⟨5, _⟩ => ⟨S5632x2048, .f32⟩
  | .hbm, ⟨6, _⟩ => ⟨S_, .f32⟩
  | .hbm, ⟨7, _⟩ => ⟨S4096x5632, .f32⟩
  | .hbm, ⟨8, _⟩ => ⟨S4096x2048, .f32⟩
  | .hbm, ⟨9, _⟩ => ⟨S4096x2048, .f32⟩
  | .hbm, ⟨10, _⟩ => ⟨S4096x5632, .f32⟩
  | .hbm, ⟨11, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x2048 : Shape := ⟨2, ![4096, 2048]⟩
abbrev S1x2048x2048 : Shape := ⟨3, ![1, 2048, 2048]⟩
abbrev S2048x512 : Shape := ⟨2, ![2048, 512]⟩
abbrev S2048x2048 : Shape := ⟨2, ![2048, 2048]⟩
abbrev S1x512x2048 : Shape := ⟨3, ![1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 2], ![false, false, false, false]⟩

def k0_cond3 (i : grid0.Coords) : BitVec 1 :=
  let arg3 : BitVec 32 := BitVec.ofNat 32 (i 3).val
  let c1_i32 : BitVec 32 := 1#32
  let v9 : BitVec 1 := Scalar.cmpi .eq arg3 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference8Ideal.lean ====
abbrev S4096x2048 : Shape := ⟨2, ![4096, 2048]⟩
abbrev S_ : Shape := ⟨0, ![]⟩
abbrev S2048x2048 : Shape := ⟨2, ![2048, 2048]⟩
abbrev S2048x1x2048 : Shape := ⟨3, ![2048, 1, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x1x2048, .f32⟩
  | .hbm, ⟨10, _⟩ => ⟨S1x2048x2048, .f32⟩
  | .hbm, ⟨11, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4096x2048 : Shape := ⟨2, ![4096, 2048]⟩
abbrev S1x1x2048x2048 : Shape := ⟨4, ![1, 1, 2048, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1x1x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 1], ![false, false, false, false]⟩

def k0_cond3 (i : grid0.Coords) : BitVec 1 :=
  let arg2 : BitVec 32 := BitVec.ofNat 32 (i 2).val
  let c1_i32 : BitVec 32 := 1#32
  let v0 : BitVec 32 := Scalar.muli arg2 c1_i32
  let arg3 : BitVec 32 := BitVec.ofNat 32 (i 3).val
  let v1 : BitVec 32 := Scalar.addi v0 arg3
  let c0_i32_8 : BitVec 32 := 0#32
  let v12 : BitVec 1 := Scalar.cmpi .eq v1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference9Ideal.lean ====
abbrev S4096x2048 : Shape := ⟨2, ![4096, 2048]⟩
abbrev S1x1x2048x2048 : Shape := ⟨4, ![1, 1, 2048, 2048]⟩
abbrev S1x2048x2048 : Shape := ⟨3, ![1, 2048, 2048]⟩
abbrev S2048x1x2048 : Shape := ⟨3, ![2048, 1, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1x2048x2048, .bf16⟩
  | .hbm, ⟨2, _⟩ => ⟨S1x1x2048x2048, .f32⟩
  | .hbm, ⟨3, _⟩ => ⟨S1x2048x2048, .f32⟩
  | .hbm, ⟨4, _⟩ => ⟨S2048x1x2048, .f32⟩
  | .hbm, ⟨5, _⟩ => ⟨S2048x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S4096x2048 : Shape := ⟨2, ![4096, 2048]⟩
abbrev S1x1024x2048 : Shape := ⟨3, ![1, 1024, 2048]⟩
abbrev S2048x512 : Shape := ⟨2, ![2048, 512]⟩
abbrev S2048x2048 : Shape := ⟨2, ![2048, 2048]⟩
abbrev S1x512x2048 : Shape := ⟨3, ![1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S1x1024x2048, .bf16⟩
  | .local _ .vmem, ⟨0, _⟩ => ⟨S2048x512, .f32⟩
  | .local _ .vmem, ⟨1, _⟩ => ⟨S2048x512, .f32⟩
  | .local _ .vmem, ⟨2, _⟩ => ⟨S2048x2048, .bf16⟩
  | .local _ .vmem, ⟨3, _⟩ => ⟨S2048x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 1, 2], ![false, false, false, false]⟩

def k0_cond3 (i : grid0.Coords) : BitVec 1 :=
  let arg3 : BitVec 32 := BitVec.ofNat 32 (i 3).val
  let c1_i32 : BitVec 32 := 1#32
  let v10 : BitVec 1 := Scalar.cmpi .eq arg3 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference10Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x1x2048 : Shape := ⟨3, ![1024, 1, 2048]⟩
abbrev S1x1024x2048 : Shape := ⟨3, ![1, 1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S1024x1x2048, .f32⟩
  | .hbm, ⟨9, _⟩ => ⟨S1x1024x2048, .f32⟩
  | .hbm, ⟨10, _⟩ => ⟨S1x1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x2048 : Shape := ⟨2, ![4096, 2048]⟩
abbrev S1x1x1024x2048 : Shape := ⟨4, ![1, 1, 1024, 2048]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x1x1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def k0_cond3 (i : grid0.Coords) : BitVec 1 :=
  let arg2 : BitVec 32 := BitVec.ofNat 32 (i 2).val
  let c1_i32 : BitVec 32 := 1#32
  let v0 : BitVec 32 := Scalar.muli arg2 c1_i32
  let arg3 : BitVec 32 := BitVec.ofNat 32 (i 3).val
  let v1 : BitVec 32 := Scalar.addi v0 arg3
  let c0_i32_8 : BitVec 32 := 0#32
  let v12 : BitVec 1 := Scalar.cmpi .eq v1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S1x1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference11Ideal.lean ====
abbrev S4096x2048 : Shape := ⟨2, ![4096, 2048]⟩
abbrev S1x1x1024x2048 : Shape := ⟨4, ![1, 1, 1024, 2048]⟩
abbrev S1x1024x2048 : Shape := ⟨3, ![1, 1024, 2048]⟩
abbrev S1024x1x2048 : Shape := ⟨3, ![1024, 1, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1x1024x2048, .bf16⟩
  | .hbm, ⟨2, _⟩ => ⟨S1x1x1024x2048, .f32⟩
  | .hbm, ⟨3, _⟩ => ⟨S1x1024x2048, .f32⟩
  | .hbm, ⟨4, _⟩ => ⟨S1024x1x2048, .f32⟩
  | .hbm, ⟨5, _⟩ => ⟨S1024x2048, .f32⟩
  | .hbm, ⟨6, _⟩ => ⟨S_, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x512 : Shape := ⟨2, ![4096, 512]⟩
abbrev S4096x2048 : Shape := ⟨2, ![4096, 2048]⟩
abbrev S1x512x2048 : Shape := ⟨3, ![1, 512, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S1x512x2048, .bf16⟩
  | .local _ .vmem, ⟨0, _⟩ => ⟨S2048x512, .f32⟩
  | .local _ .vmem, ⟨1, _⟩ => ⟨S2048x512, .f32⟩
  | .local _ .vmem, ⟨2, _⟩ => ⟨S2048x2048, .bf16⟩
  | .local _ .vmem, ⟨3, _⟩ => ⟨S2048x2048, .bf16⟩
  | .local _ .vmem, ⟨4, _⟩ => ⟨S1x512x2048, .bf16⟩
  | .local _ .vmem, ⟨5, _⟩ => ⟨S512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 2], ![false, false, false, false]⟩

def k0_cond3 (i : grid0.Coords) : BitVec 1 :=
  let arg3 : BitVec 32 := BitVec.ofNat 32 (i 3).val
  let c1_i32 : BitVec 32 := 1#32
  let v10 : BitVec 1 := Scalar.cmpi .eq arg3 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat, arg2.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 1 → Memref sig .tc .vmem S1x512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference12Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩
abbrev S512x1x2048 : Shape := ⟨3, ![512, 1, 2048]⟩
abbrev S1x512x2048 : Shape := ⟨3, ![1, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S4096x2048, .f32⟩
  | .hbm, ⟨6, _⟩ => ⟨S2048x512, .f32⟩
  | .hbm, ⟨7, _⟩ => ⟨S512x2048, .f32⟩
  | .hbm, ⟨8, _⟩ => ⟨S512x1x2048, .f32⟩
  | .hbm, ⟨9, _⟩ => ⟨S1x512x2048, .f32⟩
  | .hbm, ⟨10, _⟩ => ⟨S1x512x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x2048 : Shape := ⟨2, ![4096, 2048]⟩
abbrev S1x1x512x2048 : Shape := ⟨4, ![1, 1, 512, 2048]⟩
abbrev S4096x512 : Shape := ⟨2, ![4096, 512]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x1x512x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def k0_cond3 (i : grid0.Coords) : BitVec 1 :=
  let arg2 : BitVec 32 := BitVec.ofNat 32 (i 2).val
  let c1_i32 : BitVec 32 := 1#32
  let v0 : BitVec 32 := Scalar.muli arg2 c1_i32
  let arg3 : BitVec 32 := BitVec.ofNat 32 (i 3).val
  let v1 : BitVec 32 := Scalar.addi v0 arg3
  let c0_i32_8 : BitVec 32 := 0#32
  let v12 : BitVec 1 := Scalar.cmpi .eq v1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S1x1x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference13Ideal.lean ====
abbrev S4096x2048 : Shape := ⟨2, ![4096, 2048]⟩
abbrev S1x1x512x2048 : Shape := ⟨4, ![1, 1, 512, 2048]⟩
abbrev S1x512x2048 : Shape := ⟨3, ![1, 512, 2048]⟩
abbrev S512x1x2048 : Shape := ⟨3, ![512, 1, 2048]⟩
abbrev S512x2048 : Shape := ⟨2, ![512, 2048]⟩
abbrev S_ : Shape := ⟨0, ![]⟩
abbrev S4096x512 : Shape := ⟨2, ![4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1x512x2048, .bf16⟩
  | .hbm, ⟨2, _⟩ => ⟨S1x1x512x2048, .f32⟩
  | .hbm, ⟨3, _⟩ => ⟨S1x512x2048, .f32⟩
  | .hbm, ⟨4, _⟩ => ⟨S512x1x2048, .f32⟩
  | .hbm, ⟨5, _⟩ => ⟨S512x2048, .f32⟩
  | .hbm, ⟨6, _⟩ => ⟨S_, .f32⟩
  | .hbm, ⟨7, _⟩ => ⟨S4096x512, .f32⟩
  | .hbm, ⟨8, _⟩ => ⟨S4096x2048, .f32⟩
  | .hbm, ⟨9, _⟩ => ⟨S4096x2048, .f32⟩
  | .hbm, ⟨10, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x1024 : Shape := ⟨2, ![4096, 1024]⟩
abbrev S1x1x1024x2048 : Shape := ⟨4, ![1, 1, 1024, 2048]⟩
abbrev S4096x2048 : Shape := ⟨2, ![4096, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1x1024x2048, .bf16⟩
  | .hbm, ⟨2, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1x1024x2048, .bf16⟩
  | .local _ .vmem, ⟨3, _⟩ => ⟨S512x2048, .bf16⟩
  | .local _ .vmem, ⟨4, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S1x1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference14Ideal.lean ====
abbrev S4096x1024 : Shape := ⟨2, ![4096, 1024]⟩
abbrev S1x1x1024x2048 : Shape := ⟨4, ![1, 1, 1024, 2048]⟩
abbrev S1x1024x2048 : Shape := ⟨3, ![1, 1024, 2048]⟩
abbrev S1024x1x2048 : Shape := ⟨3, ![1024, 1, 2048]⟩
abbrev S1024x2048 : Shape := ⟨2, ![1024, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1x1024x2048, .bf16⟩
  | .hbm, ⟨2, _⟩ => ⟨S1x1x1024x2048, .f32⟩
  | .hbm, ⟨3, _⟩ => ⟨S1x1024x2048, .f32⟩
  | .hbm, ⟨4, _⟩ => ⟨S1024x1x2048, .f32⟩
  | .hbm, ⟨5, _⟩ => ⟨S1024x2048, .f32⟩
  | .hbm, ⟨6, _⟩ => ⟨S4096x2048, .f32⟩
  | .hbm, ⟨7, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x512 : Shape := ⟨2, ![4096, 512]⟩
abbrev S1x1x512x2048 : Shape := ⟨4, ![1, 1, 512, 2048]⟩
abbrev S4096x2048 : Shape := ⟨2, ![4096, 2048]⟩
abbrev S512x512 : Shape := ⟨2, ![512, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S1x1x512x2048, .bf16⟩
  | .hbm, ⟨2, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S1x1x512x2048, .bf16⟩
  | .local _ .vmem, ⟨3, _⟩ => ⟨S512x2048, .bf16⟩
  | .local _ .vmem, ⟨4, _⟩ => ⟨S512x2048, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S1x1x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference15Ideal.lean ====
abbrev S4096x512 : Shape := ⟨2, ![4096, 512]⟩
abbrev S1x1x512x2048 : Shape := ⟨4, ![1, 1, 512, 2048]⟩
abbrev S1x512x2048 : Shape := ⟨3, ![1, 512, 2048]⟩
abbrev S512x1x2048 : Shape := ⟨3, ![512, 1, 2048]⟩
abbrev S512x2048 : Shape := ⟨2, ![512, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x1x512x2048, .bf16⟩
  | .hbm, ⟨2, _⟩ => ⟨S1x1x512x2048, .f32⟩
  | .hbm, ⟨3, _⟩ => ⟨S1x512x2048, .f32⟩
  | .hbm, ⟨4, _⟩ => ⟨S512x1x2048, .f32⟩
  | .hbm, ⟨5, _⟩ => ⟨S512x2048, .f32⟩
  | .hbm, ⟨6, _⟩ => ⟨S4096x2048, .f32⟩
  | .hbm, ⟨7, _⟩ => ⟨S4096x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S1x1x2048x2048 : Shape := ⟨4, ![1, 1, 2048, 2048]⟩
abbrev S512x2048 : Shape := ⟨2, ![512, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1x1x2048x2048, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S1x1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference16Ideal.lean ====
abbrev S4096x2048 : Shape := ⟨2, ![4096, 2048]⟩
abbrev S1x1x2048x2048 : Shape := ⟨4, ![1, 1, 2048, 2048]⟩
abbrev S1x2048x2048 : Shape := ⟨3, ![1, 2048, 2048]⟩
abbrev S2048x1x2048 : Shape := ⟨3, ![2048, 1, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x1x2048x2048, .bf16⟩
  | .hbm, ⟨2, _⟩ => ⟨S4096x2048, .f32⟩
  | .hbm, ⟨3, _⟩ => ⟨S4096x2048, .f32⟩
  | .hbm, ⟨4, _⟩ => ⟨S1x1x2048x2048, .f32⟩
  | .hbm, ⟨5, _⟩ => ⟨S1x2048x2048, .f32⟩
  | .hbm, ⟨6, _⟩ => ⟨S2048x1x2048, .f32⟩
  | .hbm, ⟨7, _⟩ => ⟨S2048x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x5632 : Shape := ⟨2, ![4096, 5632]⟩
abbrev S1x1x5632x2048 : Shape := ⟨4, ![1, 1, 5632, 2048]⟩
abbrev S4096x2048 : Shape := ⟨2, ![4096, 2048]⟩
abbrev S512x1408 : Shape := ⟨2, ![512, 1408]⟩
abbrev S1x1x1408x2048 : Shape := ⟨4, ![1, 1, 1408, 2048]⟩
abbrev S512x2048 : Shape := ⟨2, ![512, 2048]⟩
abbrev S1408x2048 : Shape := ⟨2, ![1408, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S1x1x5632x2048, .bf16⟩
  | .hbm, ⟨2, _⟩ => ⟨S4096x2048, .f32⟩
  | .hbm, ⟨3, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 1, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference17Ideal.lean ====
abbrev S4096x5632 : Shape := ⟨2, ![4096, 5632]⟩
abbrev S1x1x5632x2048 : Shape := ⟨4, ![1, 1, 5632, 2048]⟩
abbrev S4096x2048 : Shape := ⟨2, ![4096, 2048]⟩
abbrev S1x5632x2048 : Shape := ⟨3, ![1, 5632, 2048]⟩
abbrev S5632x1x2048 : Shape := ⟨3, ![5632, 1, 2048]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1x1x5632x2048, .bf16⟩
  | .hbm, ⟨2, _⟩ => ⟨S4096x2048, .f32⟩
  | .hbm, ⟨3, _⟩ => ⟨S4096x5632, .f32⟩
  | .hbm, ⟨4, _⟩ => ⟨S1x1x5632x2048, .f32⟩
  | .hbm, ⟨5, _⟩ => ⟨S1x5632x2048, .f32⟩
  | .hbm, ⟨6, _⟩ => ⟨S5632x1x2048, .f32⟩
  | .hbm, ⟨7, _⟩ => ⟨S5632x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x2048 : Shape := ⟨2, ![4096, 2048]⟩
abbrev S1x2048 : Shape := ⟨2, ![1, 2048]⟩
abbrev S8x1x2048x1920 : Shape := ⟨4, ![8, 1, 2048, 1920]⟩
abbrev S4096x15360 : Shape := ⟨2, ![4096, 15360]⟩
abbrev S512x2048 : Shape := ⟨2, ![512, 2048]⟩
abbrev S1x1x2048x1920 : Shape := ⟨4, ![1, 1, 2048, 1920]⟩
abbrev S512x1920 : Shape := ⟨2, ![512, 1920]⟩
abbrev S512 : Shape := ⟨1, ![512]⟩
abbrev S512x1 : Shape := ⟨2, ![512, 1]⟩
abbrev S2048x1920 : Shape := ⟨2, ![2048, 1920]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x1x2048x1920, .bf16⟩
  | .hbm, ⟨3, _⟩ => ⟨S4096x2048, .f32⟩
  | .hbm, ⟨4, _⟩ => ⟨S4096x15360, .f32⟩
  | .hbm, ⟨5, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048x1920, .bf16⟩
  | .local _ .vmem, ⟨4, _⟩ => ⟨S1x1x2048x1920, .bf16⟩
  | .local _ .vmem, ⟨5, _⟩ => ⟨S512x1920, .f32⟩
  | .local _ .vmem, ⟨6, _⟩ => ⟨S512x1920, .f32⟩
  | .local _ .vmem, ⟨7, _⟩ => ⟨S512x2048, .bf16⟩
  | .local _ .vmem, ⟨8, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference18Ideal.lean ====
abbrev S4096x2048 : Shape := ⟨2, ![4096, 2048]⟩
abbrev S1x2048 : Shape := ⟨2, ![1, 2048]⟩
abbrev S8x1x2048x1920 : Shape := ⟨4, ![8, 1, 2048, 1920]⟩
abbrev S_ : Shape := ⟨0, ![]⟩
abbrev S4096 : Shape := ⟨1, ![4096]⟩
abbrev S4096x1 : Shape := ⟨2, ![4096, 1]⟩
abbrev S8x2048x1920 : Shape := ⟨3, ![8, 2048, 1920]⟩
abbrev S2048x8x1920 : Shape := ⟨3, ![2048, 8, 1920]⟩
abbrev S2048x15360 : Shape := ⟨2, ![2048, 15360]⟩
abbrev S4096x15360 : Shape := ⟨2, ![4096, 15360]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x1x2048x1920, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .f32⟩
  | .hbm, ⟨21, _⟩ => ⟨S8x1x2048x1920, .f32⟩
  | .hbm, ⟨22, _⟩ => ⟨S8x2048x1920, .f32⟩
  | .hbm, ⟨23, _⟩ => ⟨S2048x8x1920, .f32⟩
  | .hbm, ⟨24, _⟩ => ⟨S2048x15360, .f32⟩
  | .hbm, ⟨25, _⟩ => ⟨S4096x15360, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel19.lean ====
abbrev S4096x2048 : Shape := ⟨2, ![4096, 2048]⟩
abbrev S1x2048 : Shape := ⟨2, ![1, 2048]⟩
abbrev S8x1x2048x1408 : Shape := ⟨4, ![8, 1, 2048, 1408]⟩
abbrev S4096x11264 : Shape := ⟨2, ![4096, 11264]⟩
abbrev S512x2048 : Shape := ⟨2, ![512, 2048]⟩
abbrev S1x1x2048x1408 : Shape := ⟨4, ![1, 1, 2048, 1408]⟩
abbrev S512x1408 : Shape := ⟨2, ![512, 1408]⟩
abbrev S512 : Shape := ⟨1, ![512]⟩
abbrev S512x1 : Shape := ⟨2, ![512, 1]⟩
abbrev S2048x1408 : Shape := ⟨2, ![2048, 1408]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x1x2048x1408, .bf16⟩
  | .hbm, ⟨3, _⟩ => ⟨S4096x2048, .f32⟩
  | .hbm, ⟨4, _⟩ => ⟨S4096x11264, .bf16⟩
  | .hbm, ⟨5, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048x1408, .bf16⟩
  | .local _ .vmem, ⟨4, _⟩ => ⟨S1x1x2048x1408, .bf16⟩
  | .local _ .vmem, ⟨5, _⟩ => ⟨S512x1408, .bf16⟩
  | .local _ .vmem, ⟨6, _⟩ => ⟨S512x1408, .bf16⟩
  | .local _ .vmem, ⟨7, _⟩ => ⟨S512x2048, .bf16⟩
  | .local _ .vmem, ⟨8, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference19Ideal.lean ====
abbrev S4096x2048 : Shape := ⟨2, ![4096, 2048]⟩
abbrev S1x2048 : Shape := ⟨2, ![1, 2048]⟩
abbrev S8x1x2048x1408 : Shape := ⟨4, ![8, 1, 2048, 1408]⟩
abbrev S_ : Shape := ⟨0, ![]⟩
abbrev S4096 : Shape := ⟨1, ![4096]⟩
abbrev S4096x1 : Shape := ⟨2, ![4096, 1]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x1x2048x1408, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .f32⟩
  | .hbm, ⟨21, _⟩ => ⟨S8x1x2048x1408, .f32⟩
  | .hbm, ⟨22, _⟩ => ⟨S8x2048x1408, .f32⟩
  | .hbm, ⟨23, _⟩ => ⟨S2048x8x1408, .f32⟩
  | .hbm, ⟨24, _⟩ => ⟨S2048x11264, .f32⟩
  | .hbm, ⟨25, _⟩ => ⟨S4096x11264, .f32⟩
  | .hbm, ⟨26, _⟩ => ⟨S4096x11264, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Spec.lean ====
module

public import proofs.«01_k».proof.Proof.Gen.KernelIdeal.Frame
public import proofs.«01_k».proof.Proof.Gen.KernelIdeal.Skeleton
public import Idealize.ShloMosaic.Lib.Tactic
public import Idealize.ShloMosaic.Lib.WritesUnit
public import Idealize.ShloMosaic.Lib.WholeRead
public import Idealize.ShloMosaic.Lib.ValueIdxCore

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! One grid point of the attention backward: eight blocks of 256 queries, each against a window of 512 keys. -/

/-- The first row of the window of 512 keys that block `s` of step `p` looks at. -/
def winRow (p s : ℕ) : ℕ := min 3584 ((p * 8 + s) * 256 - 128)

theorem winRow_le (p s : ℕ) : winRow p s + 512 ≤ 4096 := by unfold winRow; omega

/-- The kernel's own words for the window's first row compute `winRow`. -/
theorem off1_eq : ∀ i : grid0.Coords, ∀ r : Fin 8, k0_off1 i (BitVec.ofNat 32 r.val) = ![winRow (i 2).val r.val, 0] := by
  decide +kernel

instance closedOff1_0 (i : grid0.Coords) : ClosedOff (k0_off1 i 0#32) := ⟨![winRow (i 2).val 0, 0], off1_eq i 0⟩
instance closedOff1_1 (i : grid0.Coords) : ClosedOff (k0_off1 i 1#32) := ⟨![winRow (i 2).val 1, 0], off1_eq i 1⟩
instance closedOff1_2 (i : grid0.Coords) : ClosedOff (k0_off1 i 2#32) := ⟨![winRow (i 2).val 2, 0], off1_eq i 2⟩
instance closedOff1_3 (i : grid0.Coords) : ClosedOff (k0_off1 i 3#32) := ⟨![winRow (i 2).val 3, 0], off1_eq i 3⟩
instance closedOff1_4 (i : grid0.Coords) : ClosedOff (k0_off1 i 4#32) := ⟨![winRow (i 2).val 4, 0], off1_eq i 4⟩
instance closedOff1_5 (i : grid0.Coords) : ClosedOff (k0_off1 i 5#32) := ⟨![winRow (i 2).val 5, 0], off1_eq i 5⟩
instance closedOff1_6 (i : grid0.Coords) : ClosedOff (k0_off1 i 6#32) := ⟨![winRow (i 2).val 6, 0], off1_eq i 6⟩
instance closedOff1_7 (i : grid0.Coords) : ClosedOff (k0_off1 i 7#32) := ⟨![winRow (i 2).val 7, 0], off1_eq i 7⟩

/-- Rows `256 s … 256 s + 255` of a block of 2048 rows. -/
def rows (s : Fin 8) (x : Vec F S2048x128 .f32) : Vec F S256x128 .f32 := fun j =>
  x (ix2 (n0 := 2048) (n1 := 128) ⟨256 * s.val + (j 0).val, by have h : (j 0).val < 256 := (j 0).isLt; have := s.isLt; omega⟩ (j 1))

/-- The 512 rows from row `o` of a block of 4096 rows. -/
def win (o : ℕ) (ho : o + 512 ≤ 4096) (x : Vec F S4096x128 .f32) : Vec F S512x128 .f32 := fun j =>
  x (ix2 (n0 := 4096) (n1 := 128) ⟨o + (j 0).val, by have h : (j 0).val < 512 := (j 0).isLt; omega⟩ (j 1))

/-- A block of 4096 rows with the 512 rows from row `o` replaced. -/
def upd (o : ℕ) (w : Vec F S512x128 .f32) (x : Vec F S4096x128 .f32) : Vec F S4096x128 .f32 := fun y =>
  if h : o ≤ (y 0).val ∧ (y 0).val < o + 512 then
    w (ix2 (n0 := 512) (n1 := 128) ⟨(y 0).val - o, by omega⟩ (y 1))
  else x y

/-- Which of the 256 × 512 pairs of block `s`, step `p` lie within the radius. -/
def mask (p s : ℕ) : IVec S256x512 1 :=
  let b : BitVec 32 := Scalar.addi (Scalar.muli (BitVec.ofNat 32 p) 8#32) (BitVec.ofNat 32 s)
  let ws : BitVec 32 := Scalar.minsi 3584#32 (Scalar.maxsi 0#32 (Scalar.subi (Scalar.muli b 256#32) 128#32))
  cmpi .sle (absi (subi (addi (broadcast S256x512 ws) (iota .tc S256x512 32 [1] iota_S256x512_d1_w32))
    (addi (broadcast S256x512 (Scalar.muli b 256#32)) (iota .tc S256x512 32 [0] iota_S256x512_d0_w32)))) (broadcast S256x512 128#32)

variable (M : IVec S256x512 1) (q dO o lse : Vec F S256x128 .f32) (k v : Vec F S512x128 .f32)

/-- One block's gradient of its queries. -/
def dqBlk : Vec F S256x128 .f32 := k0_pay14 M (k0_pay6 q) (k0_pay7 k) (k0_pay8 v) dO lse o
/-- One block's window of the keys' gradient, what it adds put on what the window held. -/
def dkBlk (old : Vec F S512x128 .f32) : Vec F S512x128 .f32 := k0_pay15 M (k0_pay6 q) (k0_pay7 k) (k0_pay8 v) dO lse o old
/-- One block's window of the values' gradient. -/
def dvBlk (old : Vec F S512x128 .f32) : Vec F S512x128 .f32 := k0_pay18 (k0_pay11 dO) (k0_pay16 old) (k0_pay17 M (k0_pay6 q) (k0_pay7 k) lse)
/-- One block's share of the sink logit's gradient, put on what the row held. -/
def dsBlk (sink old : Vec F S1x1x128 .f32) : Vec F S1x1x128 .f32 := k0_pay19 (k0_pay9 lse) (k0_pay10 dO o) sink old

section Point

variable (p : ℕ) (x3 x6 x7 x8 : Vec F S2048x128 .f32) (x4 x5 : Vec F S4096x128 .f32) (x9 : Vec F S1x1x128 .f32)

/-- Block `s` of a grid point: the queries' gradient, and the steps of the keys', values' and sink's. -/
def dqAt (s : Fin 8) : Vec F S256x128 .f32 :=
  dqBlk (mask p s.val) (rows s x3) (rows s x6) (rows s x7) (rows s x8) (win (winRow p s.val) (winRow_le _ _) x4) (win (winRow p s.val) (winRow_le _ _) x5)
def dkStep (s : Fin 8) (g : Vec F S4096x128 .f32) : Vec F S4096x128 .f32 :=
  upd (winRow p s.val) (dkBlk (mask p s.val) (rows s x3) (rows s x6) (rows s x7) (rows s x8) (win (winRow p s.val) (winRow_le _ _) x4) (win (winRow p s.val) (winRow_le _ _) x5)
    (win (winRow p s.val) (winRow_le _ _) g)) g
def dvStep (s : Fin 8) (g : Vec F S4096x128 .f32) : Vec F S4096x128 .f32 :=
  upd (winRow p s.val) (dvBlk (mask p s.val) (rows s x3) (rows s x6) (rows s x8) (win (winRow p s.val) (winRow_le _ _) x4)
    (win (winRow p s.val) (winRow_le _ _) g)) g
def dsStep (s : Fin 8) (g : Vec F S1x1x128 .f32) : Vec F S1x1x128 .f32 := dsBlk (rows s x6) (rows s x7) (rows s x8) x9 g

/-- The queries' gradient of a grid point: its eight blocks one under the other. -/
def dqOut : Vec F S2048x128 .f32 := fun y =>
  dqAt p x3 x6 x7 x8 x4 x5 ⟨(y 0).val / 256, by have h : (y 0).val < 2048 := (y 0).isLt; omega⟩
    (ix2 (n0 := 256) (n1 := 128) ⟨(y 0).val % 256, by omega⟩ (y 1))
/-- The eight blocks in turn. -/
def eight {α : Type} (f : Fin 8 → α → α) (x : α) : α := f 7 (f 6 (f 5 (f 4 (f 3 (f 2 (f 1 (f 0 x)))))))
def dkOut (g : Vec F S4096x128 .f32) : Vec F S4096x128 .f32 := eight (dkStep p x3 x6 x7 x8 x4 x5) g
def dvOut (g : Vec F S4096x128 .f32) : Vec F S4096x128 .f32 := eight (dvStep p x3 x6 x8 x4) g
def dsOut (g : Vec F S1x1x128 .f32) : Vec F S1x1x128 .f32 := eight (dsStep x6 x7 x8 x9) g

end Point

/-! The kernel's stores, one at a time. -/

theorem readAt_rows {arg : Memref sig .tc .vmem S2048x128 .f32} (h : arg.IsWhole) (x : Vec F S2048x128 .f32) (k : ℕ) (s : Fin 8)
    (hk : k = 256 * s.val) (inb) :
    View.readAt (Elt F) arg.view (Rect.unit (s := S2048x128) ![k, 0] S256x128.size inb).toLoadRect (h.unread x) = rows s x := by
  subst hk
  funext j
  rw [h.readAt_unread]
  refine congrArg x (funext fun a => ?_)
  match a with
  | ⟨0, _⟩ => exact Fin.ext (by show 256 * s.val + 1 * (j 0).val = 256 * s.val + (j 0).val; omega)
  | ⟨1, _⟩ => exact Fin.ext (by show 0 + 1 * (j 1).val = (j 1).val; omega)

theorem readAt_win {arg : Memref sig .tc .vmem S4096x128 .f32} (f : arg.view.ty.Contents (Elt F)) (x : Vec F S4096x128 .f32)
    (hf : arg.view.read (Elt F) f = x) (off : Fin 2 → ℕ) (o : ℕ) (ho : off = ![o, 0]) (hb : o + 512 ≤ 4096) (inb) :
    View.readAt (Elt F) arg.view (Rect.unit (s := S4096x128) off S512x128.size inb).toLoadRect f = win o hb x := by
  subst ho; subst hf
  funext j
  refine congrArg (arg.view.read (Elt F) f) (funext fun a => ?_)
  match a with
  | ⟨0, _⟩ => exact Fin.ext (by show o + 1 * (j 0).val = o + (j 0).val; omega)
  | ⟨1, _⟩ => exact Fin.ext (by show 0 + 1 * (j 1).val = (j 1).val; omega)

theorem read_upd {arg : Memref sig .tc .vmem S4096x128 .f32} (f : arg.view.ty.Contents (Elt F)) (L : List (View.Piece (Elt F) S4096x128 .f32))
    (x : Vec F S4096x128 .f32) (hL : arg.view.read (Elt F) (arg.view.writes (Elt F) f L) = x)
    (off : Fin 2 → ℕ) (o : ℕ) (ho : off = ![o, 0]) (inb) (w : Vec F S512x128 .f32) :
    arg.view.read (Elt F) (arg.view.writes (Elt F) f ((⟨Rect.unit (s := S4096x128) off S512x128.size inb, w⟩ : View.Piece (Elt F) S4096x128 .f32) :: L)) = upd o w x := by
  subst hL
  funext y
  refine (View.read_writes_cons_rows (d := ![4096, 128]) arg.view f inb w L y ho (W := 512) rfl rfl).trans ?_
  unfold upd
  by_cases h : o ≤ (y 0).val ∧ (y 0).val < o + 512
  · rw [dif_pos h, dif_pos h]
    refine congrArg w (funext fun a => ?_)
    match a with
    | ⟨0, _⟩ => rfl
    | ⟨1, _⟩ => rfl
  · rw [dif_neg h, dif_neg h]

end Cert.KernelIdeal.Body
-- ==== Proof.Steps.lean ====
module

public import proofs.«01_k».proof.Proof.Spec
public import proofs.«01_k».proof.Proof.Gen.KernelIdeal.Frame
public import Idealize.ShloMosaic.Lib.VecWindow
public import proofs.«01_k».proof.Proof.Gen.KernelIdeal.Skeleton
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The two resets' conditions as the kernel computes them: of the keys' and values' gradients at the first query head's
first step, of the sink's at every first step. -/
def condKV (i : grid0.Coords) : Prop := (Scalar.cmpi .ne (Scalar.extui (Scalar.andi (Scalar.cmpi .eq (BitVec.ofNat 32 (i 1).val) 0#32) (Scalar.cmpi .eq (BitVec.ofNat 32 (i 2).val) 0#32)) : BitVec 32) 0#32) = 1#1
def condS (i : grid0.Coords) : Prop := (Scalar.cmpi .ne (Scalar.extui (Scalar.cmpi .eq (BitVec.ofNat 32 (i 2).val) 0#32) : BitVec 32) 0#32) = 1#1

section Steps

variable (p : ℕ) (x3 x6 x7 x8 : Vec F S2048x128 .f32) (x4 x5 : Vec F S4096x128 .f32) (x9 : Vec F S1x1x128 .f32)

theorem stepDk {arg : Memref sig .tc .vmem S4096x128 .f32} (s : Fin 8) (f : arg.view.ty.Contents (Elt F)) (L : List (View.Piece (Elt F) S4096x128 .f32))
    (x : Vec F S4096x128 .f32) (hL : arg.view.read (Elt F) (arg.view.writes (Elt F) f L) = x)
    (off : Fin 2 → ℕ) (ho : off = ![winRow p s.val, 0]) (inb : ∀ a, off a + S512x128.size a ≤ S4096x128.size a) (inb' : ∀ a, off a + S512x128.size a ≤ S4096x128.size a)
    (q dO o lse : Vec F S256x128 .f32) (k v : Vec F S512x128 .f32) (hq : q = rows s x3) (hd : dO = rows s x6) (hoo : o = rows s x7) (hl : lse = rows s x8)
    (hk : k = win (winRow p s.val) (winRow_le _ _) x4) (hv : v = win (winRow p s.val) (winRow_le _ _) x5) :
    arg.view.read (Elt F) (arg.view.writes (Elt F) f ((⟨Rect.unit (s := S4096x128) off S512x128.size inb,
      k0_pay15 (mask p s.val) (k0_pay6 q) (k0_pay7 k) (k0_pay8 v) dO lse o (View.readAt (Elt F) arg.view (Rect.unit (s := S4096x128) off S512x128.size inb').toLoadRect (arg.view.writes (Elt F) f L))⟩ : View.Piece (Elt F) S4096x128 .f32) :: L))
      = dkStep p x3 x6 x7 x8 x4 x5 s x := by
  rw [read_upd f L x hL off _ ho, readAt_win _ x hL off _ ho (winRow_le _ _), hq, hd, hoo, hl, hk, hv]
  rfl

theorem stepDv {arg : Memref sig .tc .vmem S4096x128 .f32} (s : Fin 8) (f : arg.view.ty.Contents (Elt F)) (L : List (View.Piece (Elt F) S4096x128 .f32))
    (x : Vec F S4096x128 .f32) (hL : arg.view.read (Elt F) (arg.view.writes (Elt F) f L) = x)
    (off : Fin 2 → ℕ) (ho : off = ![winRow p s.val, 0]) (inb : ∀ a, off a + S512x128.size a ≤ S4096x128.size a) (inb' : ∀ a, off a + S512x128.size a ≤ S4096x128.size a)
    (q dO lse : Vec F S256x128 .f32) (k : Vec F S512x128 .f32) (hq : q = rows s x3) (hd : dO = rows s x6) (hl : lse = rows s x8)
    (hk : k = win (winRow p s.val) (winRow_le _ _) x4) :
    arg.view.read (Elt F) (arg.view.writes (Elt F) f ((⟨Rect.unit (s := S4096x128) off S512x128.size inb,
      k0_pay18 (k0_pay11 dO) (k0_pay16 (View.readAt (Elt F) arg.view (Rect.unit (s := S4096x128) off S512x128.size inb').toLoadRect (arg.view.writes (Elt F) f L))) (k0_pay17 (mask p s.val) (k0_pay6 q) (k0_pay7 k) lse)⟩ : View.Piece (Elt F) S4096x128 .f32) :: L))
      = dvStep p x3 x6 x8 x4 s x := by
  rw [read_upd f L x hL off _ ho, readAt_win _ x hL off _ ho (winRow_le _ _), hq, hd, hl, hk]
  rfl

theorem stepDq {arg : Memref sig .tc .vmem S2048x128 .f32} (s : Fin 8) (n N : ℕ) (hn : n = 256 * s.val) (hN : N = n + 256) (f : arg.view.ty.Contents (Elt F))
    (L : List (View.Piece (Elt F) S2048x128 .f32))
    (hL : ∀ y : S2048x128.Idx, (y 0).val < n → arg.view.read (Elt F) (arg.view.writes (Elt F) f L) y = dqOut p x3 x6 x7 x8 x4 x5 y)
    (inb : ∀ a, (![n, 0] : Fin 2 → ℕ) a + S256x128.size a ≤ S2048x128.size a)
    (q dO o lse : Vec F S256x128 .f32) (k v : Vec F S512x128 .f32) (hq : q = rows s x3) (hd : dO = rows s x6) (hoo : o = rows s x7) (hl : lse = rows s x8)
    (hk : k = win (winRow p s.val) (winRow_le _ _) x4) (hv : v = win (winRow p s.val) (winRow_le _ _) x5) :
    ∀ y : S2048x128.Idx, (y 0).val < N →
    arg.view.read (Elt F) (arg.view.writes (Elt F) f ((⟨Rect.unit (s := S2048x128) ![n, 0] S256x128.size inb,
      k0_pay14 (mask p s.val) (k0_pay6 q) (k0_pay7 k) (k0_pay8 v) dO lse o⟩ : View.Piece (Elt F) S2048x128 .f32) :: L)) y
      = dqOut p x3 x6 x7 x8 x4 x5 y := by
  subst hN
  intro y hy
  by_cases h : (y 0).val < n
  · rw [View.read_writes_cons_rows_of_not_mem (d := ![2048, 128]) arg.view f inb _ L y rfl (W := 256) rfl (.inl h)]
    exact hL y h
  · have hlt : (y 0).val - n < 256 := by omega
    rw [View.read_writes_cons_rows_of_mem (d := ![2048, 128]) arg.view f inb _ L y (ix2 (n0 := 256) (n1 := 128) ⟨(y 0).val - n, hlt⟩ (y 1)) rfl
      (by show (y 0).val = n + ((y 0).val - n); omega) rfl, hq, hd, hoo, hl, hk, hv]
    have e1 : (y 0).val / 256 = s.val := by omega
    have e2 : (y 0).val % 256 = (y 0).val - n := by omega
    have e3 : (⟨(y 0).val / 256, by have h : (y 0).val < 2048 := (y 0).isLt; omega⟩ : Fin 8) = s := Fin.ext e1
    have e4 : (⟨(y 0).val % 256, by omega⟩ : Fin 256) = ⟨(y 0).val - n, hlt⟩ := Fin.ext e2
    unfold dqOut
    rw [e3, e4]
    rfl

theorem stepDs (s : Fin 8) (dO o lse : Vec F S256x128 .f32) (sink old x : Vec F S1x1x128 .f32) (hd : dO = rows s x6) (hoo : o = rows s x7) (hl : lse = rows s x8)
    (hs : sink = x9) (hold : old = x) : k0_pay19 (k0_pay9 lse) (k0_pay10 dO o) sink old = dsStep x6 x7 x8 x9 s x := by
  subst hd hoo hl hs hold
  rfl

/-- Two arrays of 2048 rows that agree on every row below 2048 are equal. -/
theorem eq_of_rows {a b : Vec F S2048x128 .f32} (h : ∀ y : S2048x128.Idx, (y 0).val < 2048 → a y = b y) : a = b :=
  funext fun y => h y (y 0).isLt

/-- A load of the sink's row reads the contents. -/
theorem readAt_row {arg : Memref sig .tc .vmem S1x1x128 .f32} (h : arg.IsWhole) (x : Vec F S1x1x128 .f32)
    (inb : ∀ a, (![0, 0, 0] : Fin 3 → ℕ) a + S1x1x128.size a ≤ S1x1x128.size a) :
    View.readAt (Elt F) arg.view (Rect.unit (s := S1x1x128) ![0, 0, 0] S1x1x128.size inb).toLoadRect (h.unread x) = x :=
  (View.readAt_full _ _ _).trans (h.read_unread _)

theorem stepDs' {arg : Memref sig .tc .vmem S1x1x128 .f32} (s : Fin 8) (f : arg.view.ty.Contents (Elt F)) (L : List (View.Piece (Elt F) S1x1x128 .f32))
    (dO o lse : Vec F S256x128 .f32) (sink w x : Vec F S1x1x128 .f32) (hd : dO = rows s x6) (hoo : o = rows s x7) (hl : lse = rows s x8)
    (hs : sink = x9) (inb : ∀ a, (![0, 0, 0] : Fin 3 → ℕ) a + S1x1x128.size a ≤ S1x1x128.size a)
    (inb' : ∀ a, (![0, 0, 0] : Fin 3 → ℕ) a + S1x1x128.size a ≤ S1x1x128.size a) (hw : w = x) :
    k0_pay19 (k0_pay9 lse) (k0_pay10 dO o) sink (View.readAt (Elt F) arg.view (Rect.unit (s := S1x1x128) ![0, 0, 0] S1x1x128.size inb).toLoadRect
      (arg.view.writes (Elt F) f ((⟨Rect.unit (s := S1x1x128) ![0, 0, 0] S1x1x128.size inb', w⟩ : View.Piece (Elt F) S1x1x128 .f32) :: L)))
      = dsStep x6 x7 x8 x9 s x :=
  stepDs x6 x7 x8 x9 s _ _ _ _ _ _ hd hoo hl hs ((View.readAt_writes_full _ _ _ _ _ _).trans hw)

theorem stepDs0 {arg : Memref sig .tc .vmem S1x1x128 .f32} (s : Fin 8) (h : arg.IsWhole)
    (dO o lse : Vec F S256x128 .f32) (sink x : Vec F S1x1x128 .f32) (hd : dO = rows s x6) (hoo : o = rows s x7) (hl : lse = rows s x8)
    (hs : sink = x9) (inb : ∀ a, (![0, 0, 0] : Fin 3 → ℕ) a + S1x1x128.size a ≤ S1x1x128.size a) :
    k0_pay19 (k0_pay9 lse) (k0_pay10 dO o) sink (View.readAt (Elt F) arg.view (Rect.unit (s := S1x1x128) ![0, 0, 0] S1x1x128.size inb).toLoadRect (h.unread x))
      = dsStep x6 x7 x8 x9 s x :=
  stepDs x6 x7 x8 x9 s _ _ _ _ _ _ hd hoo hl hs (readAt_row h x inb)

end Steps

end Cert.KernelIdeal.Body
-- ==== Proof.RunA.lean ====
module

public import proofs.«01_k».proof.Proof.Steps
public import proofs.«01_k».proof.Proof.Gen.KernelIdeal.Frame
public import Idealize.ShloMosaic.Lib.VecWindow
public import proofs.«01_k».proof.Proof.Gen.KernelIdeal.Skeleton
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first head's first step: it clears the keys', values' and sink's gradients, then adds its eight blocks. -/
theorem runA (c : Dev nD) (i : grid0.Coords) (arg3 : Memref sig .tc .vmem S2048x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x128 .f32) (harg9 : arg9.IsWhole) (arg10 : Memref sig .tc .hbm S4096x3584 .f32) (harg10 : arg10.IsWhole) (arg11 : Memref sig .tc .hbm S4096x2816 .f32) (harg11 : arg11.IsWhole) (arg12 : Memref sig .tc .hbm S4096x2816 .f32) (harg12 : arg12.IsWhole) (arg13 : Memref sig .tc .vmem S2048x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S1x1x128 .f32) (harg16 : arg16.IsWhole)
    (hc0 : condKV i) (hc1 : condS i) (x3 : Vec F S2048x128 .f32) (x4 x5 : Vec F S4096x128 .f32) (x6 x7 x8 : Vec F S2048x128 .f32) (x9 : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare (dqOut (i 2).val x3 x6 x7 x8 x4 x5) ∗ owns (c : Thread nD τ) arg14 fullShare (dkOut (i 2).val x3 x6 x7 x8 x4 x5 k0_pay2) ∗ owns (c : Thread nD τ) arg15 fullShare (dvOut (i 2).val x3 x6 x8 x4 k0_pay3) ∗ owns (c : Thread nD τ) arg16 fullShare (dsOut x6 x7 x8 x9 k0_pay4)) -∗ K ⟨⟩))
      ⊢ wp frame (wpE (defs₀ (F := F)) Variants.none c none) E (cc0_attn_a_bwd i arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_attn_a_bwd_eq_skeleton]; unfold cc0_attn_a_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d13, %f13, -, H13⟩, ⟨%d14, %f14, -, H14⟩, ⟨%d15, %f15, -, H15⟩, ⟨%d16, %f16, -, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H13]
    · iexists _; isplitr; rotate_left; · iexact H13
      ipureintro; refine eq_of_rows ?_
      refine stepDq (i 2).val x3 x6 x7 x8 x4 x5 7 1792 2048 rfl rfl _ _ ?_ _ _ _ _ _ _ _ (readAt_rows harg3 x3 1792 7 rfl _) (readAt_rows harg6 x6 1792 7 rfl _) (readAt_rows harg7 x7 1792 7 rfl _) (readAt_rows harg8 x8 1792 7 rfl _) (readAt_win _ x4 (harg4.read_unread _) _ _ (off1_eq i 7) _ _) (readAt_win _ x5 (harg5.read_unread _) _ _ (off1_eq i 7) _ _)
      refine stepDq (i 2).val x3 x6 x7 x8 x4 x5 6 1536 1792 rfl rfl _ _ ?_ _ _ _ _ _ _ _ (readAt_rows harg3 x3 1536 6 rfl _) (readAt_rows harg6 x6 1536 6 rfl _) (readAt_rows harg7 x7 1536 6 rfl _) (readAt_rows harg8 x8 1536 6 rfl _) (readAt_win _ x4 (harg4.read_unread _) _ _ (off1_eq i 6) _ _) (readAt_win _ x5 (harg5.read_unread _) _ _ (off1_eq i 6) _ _)
      refine stepDq (i 2).val x3 x6 x7 x8 x4 x5 5 1280 1536 rfl rfl _ _ ?_ _ _ _ _ _ _ _ (readAt_rows harg3 x3 1280 5 rfl _) (readAt_rows harg6 x6 1280 5 rfl _) (readAt_rows harg7 x7 1280 5 rfl _) (readAt_rows harg8 x8 1280 5 rfl _) (readAt_win _ x4 (harg4.read_unread _) _ _ (off1_eq i 5) _ _) (readAt_win _ x5 (harg5.read_unread _) _ _ (off1_eq i 5) _ _)
      refine stepDq (i 2).val x3 x6 x7 x8 x4 x5 4 1024 1280 rfl rfl _ _ ?_ _ _ _ _ _ _ _ (readAt_rows harg3 x3 1024 4 rfl _) (readAt_rows harg6 x6 1024 4 rfl _) (readAt_rows harg7 x7 1024 4 rfl _) (readAt_rows harg8 x8 1024 4 rfl _) (readAt_win _ x4 (harg4.read_unread _) _ _ (off1_eq i 4) _ _) (readAt_win _ x5 (harg5.read_unread _) _ _ (off1_eq i 4) _ _)
      refine stepDq (i 2).val x3 x6 x7 x8 x4 x5 3 768 1024 rfl rfl _ _ ?_ _ _ _ _ _ _ _ (readAt_rows harg3 x3 768 3 rfl _) (readAt_rows harg6 x6 768 3 rfl _) (readAt_rows harg7 x7 768 3 rfl _) (readAt_rows harg8 x8 768 3 rfl _) (readAt_win _ x4 (harg4.read_unread _) _ _ (off1_eq i 3) _ _) (readAt_win _ x5 (harg5.read_unread _) _ _ (off1_eq i 3) _ _)
      refine stepDq (i 2).val x3 x6 x7 x8 x4 x5 2 512 768 rfl rfl _ _ ?_ _ _ _ _ _ _ _ (readAt_rows harg3 x3 512 2 rfl _) (readAt_rows harg6 x6 512 2 rfl _) (readAt_rows harg7 x7 512 2 rfl _) (readAt_rows harg8 x8 512 2 rfl _) (readAt_win _ x4 (harg4.read_unread _) _ _ (off1_eq i 2) _ _) (readAt_win _ x5 (harg5.read_unread _) _ _ (off1_eq i 2) _ _)
      refine stepDq (i 2).val x3 x6 x7 x8 x4 x5 1 256 512 rfl rfl _ _ ?_ _ _ _ _ _ _ _ (readAt_rows harg3 x3 256 1 rfl _) (readAt_rows harg6 x6 256 1 rfl _) (readAt_rows harg7 x7 256 1 rfl _) (readAt_rows harg8 x8 256 1 rfl _) (readAt_win _ x4 (harg4.read_unread _) _ _ (off1_eq i 1) _ _) (readAt_win _ x5 (harg5.read_unread _) _ _ (off1_eq i 1) _ _)
      refine stepDq (i 2).val x3 x6 x7 x8 x4 x5 0 0 256 rfl rfl _ _ ?_ _ _ _ _ _ _ _ (readAt_rows harg3 x3 0 0 rfl _) (readAt_rows harg6 x6 0 0 rfl _) (readAt_rows harg7 x7 0 0 rfl _) (readAt_rows harg8 x8 0 0 rfl _) (readAt_win _ x4 (harg4.read_unread _) _ _ (off1_eq i 0) _ _) (readAt_win _ x5 (harg5.read_unread _) _ _ (off1_eq i 0) _ _)
      intro y h; exact absurd h (Nat.not_lt_zero _)
    isplitl [H14]
    · iexists _; isplitr; rotate_left; · iexact H14
      ipureintro; unfold dkOut eight
      refine stepDk (i 2).val x3 x6 x7 x8 x4 x5 7 _ _ _ ?_ _ (off1_eq i 7) _ _ _ _ _ _ _ _ (readAt_rows harg3 x3 1792 7 rfl _) (readAt_rows harg6 x6 1792 7 rfl _) (readAt_rows harg7 x7 1792 7 rfl _) (readAt_rows harg8 x8 1792 7 rfl _) (readAt_win _ x4 (harg4.read_unread _) _ _ (off1_eq i 7) _ _) (readAt_win _ x5 (harg5.read_unread _) _ _ (off1_eq i 7) _ _)
      refine stepDk (i 2).val x3 x6 x7 x8 x4 x5 6 _ _ _ ?_ _ (off1_eq i 6) _ _ _ _ _ _ _ _ (readAt_rows harg3 x3 1536 6 rfl _) (readAt_rows harg6 x6 1536 6 rfl _) (readAt_rows harg7 x7 1536 6 rfl _) (readAt_rows harg8 x8 1536 6 rfl _) (readAt_win _ x4 (harg4.read_unread _) _ _ (off1_eq i 6) _ _) (readAt_win _ x5 (harg5.read_unread _) _ _ (off1_eq i 6) _ _)
      refine stepDk (i 2).val x3 x6 x7 x8 x4 x5 5 _ _ _ ?_ _ (off1_eq i 5) _ _ _ _ _ _ _ _ (readAt_rows harg3 x3 1280 5 rfl _) (readAt_rows harg6 x6 1280 5 rfl _) (readAt_rows harg7 x7 1280 5 rfl _) (readAt_rows harg8 x8 1280 5 rfl _) (readAt_win _ x4 (harg4.read_unread _) _ _ (off1_eq i 5) _ _) (readAt_win _ x5 (harg5.read_unread _) _ _ (off1_eq i 5) _ _)
      refine stepDk (i 2).val x3 x6 x7 x8 x4 x5 4 _ _ _ ?_ _ (off1_eq i 4) _ _ _ _ _ _ _ _ (readAt_rows harg3 x3 1024 4 rfl _) (readAt_rows harg6 x6 1024 4 rfl _) (readAt_rows harg7 x7 1024 4 rfl _) (readAt_rows harg8 x8 1024 4 rfl _) (readAt_win _ x4 (harg4.read_unread _) _ _ (off1_eq i 4) _ _) (readAt_win _ x5 (harg5.read_unread _) _ _ (off1_eq i 4) _ _)
      refine stepDk (i 2).val x3 x6 x7 x8 x4 x5 3 _ _ _ ?_ _ (off1_eq i 3) _ _ _ _ _ _ _ _ (readAt_rows harg3 x3 768 3 rfl _) (readAt_rows harg6 x6 768 3 rfl _) (readAt_rows harg7 x7 768 3 rfl _) (readAt_rows harg8 x8 768 3 rfl _) (readAt_win _ x4 (harg4.read_unread _) _ _ (off1_eq i 3) _ _) (readAt_win _ x5 (harg5.read_unread _) _ _ (off1_eq i 3) _ _)
      refine stepDk (i 2).val x3 x6 x7 x8 x4 x5 2 _ _ _ ?_ _ (off1_eq i 2) _ _ _ _ _ _ _ _ (readAt_rows harg3 x3 512 2 rfl _) (readAt_rows harg6 x6 512 2 rfl _) (readAt_rows harg7 x7 512 2 rfl _) (readAt_rows harg8 x8 512 2 rfl _) (readAt_win _ x4 (harg4.read_unread _) _ _ (off1_eq i 2) _ _) (readAt_win _ x5 (harg5.read_unread _) _ _ (off1_eq i 2) _ _)
      refine stepDk (i 2).val x3 x6 x7 x8 x4 x5 1 _ _ _ ?_ _ (off1_eq i 1) _ _ _ _ _ _ _ _ (readAt_rows harg3 x3 256 1 rfl _) (readAt_rows harg6 x6 256 1 rfl _) (readAt_rows harg7 x7 256 1 rfl _) (readAt_rows harg8 x8 256 1 rfl _) (readAt_win _ x4 (harg4.read_unread _) _ _ (off1_eq i 1) _ _) (readAt_win _ x5 (harg5.read_unread _) _ _ (off1_eq i 1) _ _)
      refine stepDk (i 2).val x3 x6 x7 x8 x4 x5 0 _ _ _ ?_ _ (off1_eq i 0) _ _ _ _ _ _ _ _ (readAt_rows harg3 x3 0 0 rfl _) (readAt_rows harg6 x6 0 0 rfl _) (readAt_rows harg7 x7 0 0 rfl _) (readAt_rows harg8 x8 0 0 rfl _) (readAt_win _ x4 (harg4.read_unread _) _ _ (off1_eq i 0) _ _) (readAt_win _ x5 (harg5.read_unread _) _ _ (off1_eq i 0) _ _)
      exact View.read_writes_full _ _ _ _ _
    isplitl [H15]
    · iexists _; isplitr; rotate_left; · iexact H15
      ipureintro; unfold dvOut eight
      refine stepDv (i 2).val x3 x6 x8 x4 7 _ _ _ ?_ _ (off1_eq i 7) _ _ _ _ _ _ (readAt_rows harg3 x3 1792 7 rfl _) (readAt_rows harg6 x6 1792 7 rfl _) (readAt_rows harg8 x8 1792 7 rfl _) (readAt_win _ x4 (harg4.read_unread _) _ _ (off1_eq i 7) _ _)
      refine stepDv (i 2).val x3 x6 x8 x4 6 _ _ _ ?_ _ (off1_eq i 6) _ _ _ _ _ _ (readAt_rows harg3 x3 1536 6 rfl _) (readAt_rows harg6 x6 1536 6 rfl _) (readAt_rows harg8 x8 1536 6 rfl _) (readAt_win _ x4 (harg4.read_unread _) _ _ (off1_eq i 6) _ _)
      refine stepDv (i 2).val x3 x6 x8 x4 5 _ _ _ ?_ _ (off1_eq i 5) _ _ _ _ _ _ (readAt_rows harg3 x3 1280 5 rfl _) (readAt_rows harg6 x6 1280 5 rfl _) (readAt_rows harg8 x8 1280 5 rfl _) (readAt_win _ x4 (harg4.read_unread _) _ _ (off1_eq i 5) _ _)
      refine stepDv (i 2).val x3 x6 x8 x4 4 _ _ _ ?_ _ (off1_eq i 4) _ _ _ _ _ _ (readAt_rows harg3 x3 1024 4 rfl _) (readAt_rows harg6 x6 1024 4 rfl _) (readAt_rows harg8 x8 1024 4 rfl _) (readAt_win _ x4 (harg4.read_unread _) _ _ (off1_eq i 4) _ _)
      refine stepDv (i 2).val x3 x6 x8 x4 3 _ _ _ ?_ _ (off1_eq i 3) _ _ _ _ _ _ (readAt_rows harg3 x3 768 3 rfl _) (readAt_rows harg6 x6 768 3 rfl _) (readAt_rows harg8 x8 768 3 rfl _) (readAt_win _ x4 (harg4.read_unread _) _ _ (off1_eq i 3) _ _)
      refine stepDv (i 2).val x3 x6 x8 x4 2 _ _ _ ?_ _ (off1_eq i 2) _ _ _ _ _ _ (readAt_rows harg3 x3 512 2 rfl _) (readAt_rows harg6 x6 512 2 rfl _) (readAt_rows harg8 x8 512 2 rfl _) (readAt_win _ x4 (harg4.read_unread _) _ _ (off1_eq i 2) _ _)
      refine stepDv (i 2).val x3 x6 x8 x4 1 _ _ _ ?_ _ (off1_eq i 1) _ _ _ _ _ _ (readAt_rows harg3 x3 256 1 rfl _) (readAt_rows harg6 x6 256 1 rfl _) (readAt_rows harg8 x8 256 1 rfl _) (readAt_win _ x4 (harg4.read_unread _) _ _ (off1_eq i 1) _ _)
      refine stepDv (i 2).val x3 x6 x8 x4 0 _ _ _ ?_ _ (off1_eq i 0) _ _ _ _ _ _ (readAt_rows harg3 x3 0 0 rfl _) (readAt_rows harg6 x6 0 0 rfl _) (readAt_rows harg8 x8 0 0 rfl _) (readAt_win _ x4 (harg4.read_unread _) _ _ (off1_eq i 0) _ _)
      exact View.read_writes_full _ _ _ _ _
    iexists _; isplitr; rotate_left; · iexact H16
    ipureintro; unfold dsOut eight
    refine (View.read_writes_full _ _ _ _ _).trans ?_
    refine stepDs' (arg := arg16) x6 x7 x8 x9 7 _ _ _ _ _ _ _ _ (readAt_rows harg6 x6 1792 7 rfl _) (readAt_rows harg7 x7 1792 7 rfl _) (readAt_rows harg8 x8 1792 7 rfl _) (readAt_row harg9 x9 _) _ _ ?_
    refine stepDs' (arg := arg16) x6 x7 x8 x9 6 _ _ _ _ _ _ _ _ (readAt_rows harg6 x6 1536 6 rfl _) (readAt_rows harg7 x7 1536 6 rfl _) (readAt_rows harg8 x8 1536 6 rfl _) (readAt_row harg9 x9 _) _ _ ?_
    refine stepDs' (arg := arg16) x6 x7 x8 x9 5 _ _ _ _ _ _ _ _ (readAt_rows harg6 x6 1280 5 rfl _) (readAt_rows harg7 x7 1280 5 rfl _) (readAt_rows harg8 x8 1280 5 rfl _) (readAt_row harg9 x9 _) _ _ ?_
    refine stepDs' (arg := arg16) x6 x7 x8 x9 4 _ _ _ _ _ _ _ _ (readAt_rows harg6 x6 1024 4 rfl _) (readAt_rows harg7 x7 1024 4 rfl _) (readAt_rows harg8 x8 1024 4 rfl _) (readAt_row harg9 x9 _) _ _ ?_
    refine stepDs' (arg := arg16) x6 x7 x8 x9 3 _ _ _ _ _ _ _ _ (readAt_rows harg6 x6 768 3 rfl _) (readAt_rows harg7 x7 768 3 rfl _) (readAt_rows harg8 x8 768 3 rfl _) (readAt_row harg9 x9 _) _ _ ?_
    refine stepDs' (arg := arg16) x6 x7 x8 x9 2 _ _ _ _ _ _ _ _ (readAt_rows harg6 x6 512 2 rfl _) (readAt_rows harg7 x7 512 2 rfl _) (readAt_rows harg8 x8 512 2 rfl _) (readAt_row harg9 x9 _) _ _ ?_
    refine stepDs' (arg := arg16) x6 x7 x8 x9 1 _ _ _ _ _ _ _ _ (readAt_rows harg6 x6 256 1 rfl _) (readAt_rows harg7 x7 256 1 rfl _) (readAt_rows harg8 x8 256 1 rfl _) (readAt_row harg9 x9 _) _ _ ?_
    refine stepDs' (arg := arg16) x6 x7 x8 x9 0 _ _ _ _ _ _ _ _ (readAt_rows harg6 x6 0 0 rfl _) (readAt_rows harg7 x7 0 0 rfl _) (readAt_rows harg8 x8 0 0 rfl _) (readAt_row harg9 x9 _) _ _ ?_
    rfl

end Cert.KernelIdeal.Body
-- ==== Proof.RunB.lean ====
module

public import proofs.«01_k».proof.Proof.Steps
public import proofs.«01_k».proof.Proof.Gen.KernelIdeal.Frame
public import Idealize.ShloMosaic.Lib.VecWindow
public import proofs.«01_k».proof.Proof.Gen.KernelIdeal.Skeleton
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later head's first step: it clears the sink's gradient only. -/
theorem runB (c : Dev nD) (i : grid0.Coords) (arg3 : Memref sig .tc .vmem S2048x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x128 .f32) (harg9 : arg9.IsWhole) (arg10 : Memref sig .tc .hbm S4096x3584 .f32) (harg10 : arg10.IsWhole) (arg11 : Memref sig .tc .hbm S4096x2816 .f32) (harg11 : arg11.IsWhole) (arg12 : Memref sig .tc .hbm S4096x2816 .f32) (harg12 : arg12.IsWhole) (arg13 : Memref sig .tc .vmem S2048x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S1x1x128 .f32) (harg16 : arg16.IsWhole)
    (hc0 : ¬condKV i) (hc1 : condS i) (x3 : Vec F S2048x128 .f32) (x4 x5 : Vec F S4096x128 .f32) (x6 x7 x8 : Vec F S2048x128 .f32) (x9 : Vec F S1x1x128 .f32) (x14 x15 : Vec F S4096x128 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg13 fullShare d) ∗ owns (c : Thread nD τ) arg14 fullShare x14 ∗ owns (c : Thread nD τ) arg15 fullShare x15 ∗ (∃ d, owns (c : Thread nD τ) arg16 fullShare d) ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare (dqOut (i 2).val x3 x6 x7 x8 x4 x5) ∗ owns (c : Thread nD τ) arg14 fullShare (dkOut (i 2).val x3 x6 x7 x8 x4 x5 x14) ∗ owns (c : Thread nD τ) arg15 fullShare (dvOut (i 2).val x3 x6 x8 x4 x15) ∗ owns (c : Thread nD τ) arg16 fullShare (dsOut x6 x7 x8 x9 k0_pay4)) -∗ K ⟨⟩))
      ⊢ wp frame (wpE (defs₀ (F := F)) Variants.none c none) E (cc0_attn_a_bwd i arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_attn_a_bwd_eq_skeleton]; unfold cc0_attn_a_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d13, %f13, -, H13⟩, ⟨%f14, %hf14, H14⟩, ⟨%f15, %hf15, H15⟩, ⟨%d16, %f16, -, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg14.eq_unread hf14; obtain rfl := harg15.eq_unread hf15
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H13]
    · iexists _; isplitr; rotate_left; · iexact H13
      ipureintro; refine eq_of_rows ?_
      refine stepDq (i 2).val x3 x6 x7 x8 x4 x5 7 1792 2048 rfl rfl _ _ ?_ _ _ _ _ _ _ _ (readAt_rows harg3 x3 1792 7 rfl _) (readAt_rows harg6 x6 1792 7 rfl _) (readAt_rows harg7 x7 1792 7 rfl _) (readAt_rows harg8 x8 1792 7 rfl _) (readAt_win _ x4 (harg4.read_unread _) _ _ (off1_eq i 7) _ _) (readAt_win _ x5 (harg5.read_unread _) _ _ (off1_eq i 7) _ _)
      refine stepDq (i 2).val x3 x6 x7 x8 x4 x5 6 1536 1792 rfl rfl _ _ ?_ _ _ _ _ _ _ _ (readAt_rows harg3 x3 1536 6 rfl _) (readAt_rows harg6 x6 1536 6 rfl _) (readAt_rows harg7 x7 1536 6 rfl _) (readAt_rows harg8 x8 1536 6 rfl _) (readAt_win _ x4 (harg4.read_unread _) _ _ (off1_eq i 6) _ _) (readAt_win _ x5 (harg5.read_unread _) _ _ (off1_eq i 6) _ _)
      refine stepDq (i 2).val x3 x6 x7 x8 x4 x5 5 1280 1536 rfl rfl _ _ ?_ _ _ _ _ _ _ _ (readAt_rows harg3 x3 1280 5 rfl _) (readAt_rows harg6 x6 1280 5 rfl _) (readAt_rows harg7 x7 1280 5 rfl _) (readAt_rows harg8 x8 1280 5 rfl _) (readAt_win _ x4 (harg4.read_unread _) _ _ (off1_eq i 5) _ _) (readAt_win _ x5 (harg5.read_unread _) _ _ (off1_eq i 5) _ _)
      refine stepDq (i 2).val x3 x6 x7 x8 x4 x5 4 1024 1280 rfl rfl _ _ ?_ _ _ _ _ _ _ _ (readAt_rows harg3 x3 1024 4 rfl _) (readAt_rows harg6 x6 1024 4 rfl _) (readAt_rows harg7 x7 1024 4 rfl _) (readAt_rows harg8 x8 1024 4 rfl _) (readAt_win _ x4 (harg4.read_unread _) _ _ (off1_eq i 4) _ _) (readAt_win _ x5 (harg5.read_unread _) _ _ (off1_eq i 4) _ _)
      refine stepDq (i 2).val x3 x6 x7 x8 x4 x5 3 768 1024 rfl rfl _ _ ?_ _ _ _ _ _ _ _ (readAt_rows harg3 x3 768 3 rfl _) (readAt_rows harg6 x6 768 3 rfl _) (readAt_rows harg7 x7 768 3 rfl _) (readAt_rows harg8 x8 768 3 rfl _) (readAt_win _ x4 (harg4.read_unread _) _ _ (off1_eq i 3) _ _) (readAt_win _ x5 (harg5.read_unread _) _ _ (off1_eq i 3) _ _)
      refine stepDq (i 2).val x3 x6 x7 x8 x4 x5 2 512 768 rfl rfl _ _ ?_ _ _ _ _ _ _ _ (readAt_rows harg3 x3 512 2 rfl _) (readAt_rows harg6 x6 512 2 rfl _) (readAt_rows harg7 x7 512 2 rfl _) (readAt_rows harg8 x8 512 2 rfl _) (readAt_win _ x4 (harg4.read_unread _) _ _ (off1_eq i 2) _ _) (readAt_win _ x5 (harg5.read_unread _) _ _ (off1_eq i 2) _ _)
      refine stepDq (i 2).val x3 x6 x7 x8 x4 x5 1 256 512 rfl rfl _ _ ?_ _ _ _ _ _ _ _ (readAt_rows harg3 x3 256 1 rfl _) (readAt_rows harg6 x6 256 1 rfl _) (readAt_rows harg7 x7 256 1 rfl _) (readAt_rows harg8 x8 256 1 rfl _) (readAt_win _ x4 (harg4.read_unread _) _ _ (off1_eq i 1) _ _) (readAt_win _ x5 (harg5.read_unread _) _ _ (off1_eq i 1) _ _)
      refine stepDq (i 2).val x3 x6 x7 x8 x4 x5 0 0 256 rfl rfl _ _ ?_ _ _ _ _ _ _ _ (readAt_rows harg3 x3 0 0 rfl _) (readAt_rows harg6 x6 0 0 rfl _) (readAt_rows harg7 x7 0 0 rfl _) (readAt_rows harg8 x8 0 0 rfl _) (readAt_win _ x4 (harg4.read_unread _) _ _ (off1_eq i 0) _ _) (readAt_win _ x5 (harg5.read_unread _) _ _ (off1_eq i 0) _ _)
      intro y h; exact absurd h (Nat.not_lt_zero _)
    isplitl [H14]
    · iexists _; isplitr; rotate_left; · iexact H14
      ipureintro; unfold dkOut eight
      refine stepDk (i 2).val x3 x6 x7 x8 x4 x5 7 _ _ _ ?_ _ (off1_eq i 7) _ _ _ _ _ _ _ _ (readAt_rows harg3 x3 1792 7 rfl _) (readAt_rows harg6 x6 1792 7 rfl _) (readAt_rows harg7 x7 1792 7 rfl _) (readAt_rows harg8 x8 1792 7 rfl _) (readAt_win _ x4 (harg4.read_unread _) _ _ (off1_eq i 7) _ _) (readAt_win _ x5 (harg5.read_unread _) _ _ (off1_eq i 7) _ _)
      refine stepDk (i 2).val x3 x6 x7 x8 x4 x5 6 _ _ _ ?_ _ (off1_eq i 6) _ _ _ _ _ _ _ _ (readAt_rows harg3 x3 1536 6 rfl _) (readAt_rows harg6 x6 1536 6 rfl _) (readAt_rows harg7 x7 1536 6 rfl _) (readAt_rows harg8 x8 1536 6 rfl _) (readAt_win _ x4 (harg4.read_unread _) _ _ (off1_eq i 6) _ _) (readAt_win _ x5 (harg5.read_unread _) _ _ (off1_eq i 6) _ _)
      refine stepDk (i 2).val x3 x6 x7 x8 x4 x5 5 _ _ _ ?_ _ (off1_eq i 5) _ _ _ _ _ _ _ _ (readAt_rows harg3 x3 1280 5 rfl _) (readAt_rows harg6 x6 1280 5 rfl _) (readAt_rows harg7 x7 1280 5 rfl _) (readAt_rows harg8 x8 1280 5 rfl _) (readAt_win _ x4 (harg4.read_unread _) _ _ (off1_eq i 5) _ _) (readAt_win _ x5 (harg5.read_unread _) _ _ (off1_eq i 5) _ _)
      refine stepDk (i 2).val x3 x6 x7 x8 x4 x5 4 _ _ _ ?_ _ (off1_eq i 4) _ _ _ _ _ _ _ _ (readAt_rows harg3 x3 1024 4 rfl _) (readAt_rows harg6 x6 1024 4 rfl _) (readAt_rows harg7 x7 1024 4 rfl _) (readAt_rows harg8 x8 1024 4 rfl _) (readAt_win _ x4 (harg4.read_unread _) _ _ (off1_eq i 4) _ _) (readAt_win _ x5 (harg5.read_unread _) _ _ (off1_eq i 4) _ _)
      refine stepDk (i 2).val x3 x6 x7 x8 x4 x5 3 _ _ _ ?_ _ (off1_eq i 3) _ _ _ _ _ _ _ _ (readAt_rows harg3 x3 768 3 rfl _) (readAt_rows harg6 x6 768 3 rfl _) (readAt_rows harg7 x7 768 3 rfl _) (readAt_rows harg8 x8 768 3 rfl _) (readAt_win _ x4 (harg4.read_unread _) _ _ (off1_eq i 3) _ _) (readAt_win _ x5 (harg5.read_unread _) _ _ (off1_eq i 3) _ _)
      refine stepDk (i 2).val x3 x6 x7 x8 x4 x5 2 _ _ _ ?_ _ (off1_eq i 2) _ _ _ _ _ _ _ _ (readAt_rows harg3 x3 512 2 rfl _) (readAt_rows harg6 x6 512 2 rfl _) (readAt_rows harg7 x7 512 2 rfl _) (readAt_rows harg8 x8 512 2 rfl _) (readAt_win _ x4 (harg4.read_unread _) _ _ (off1_eq i 2) _ _) (readAt_win _ x5 (harg5.read_unread _) _ _ (off1_eq i 2) _ _)
      refine stepDk (i 2).val x3 x6 x7 x8 x4 x5 1 _ _ _ ?_ _ (off1_eq i 1) _ _ _ _ _ _ _ _ (readAt_rows harg3 x3 256 1 rfl _) (readAt_rows harg6 x6 256 1 rfl _) (readAt_rows harg7 x7 256 1 rfl _) (readAt_rows harg8 x8 256 1 rfl _) (readAt_win _ x4 (harg4.read_unread _) _ _ (off1_eq i 1) _ _) (readAt_win _ x5 (harg5.read_unread _) _ _ (off1_eq i 1) _ _)
      refine stepDk (i 2).val x3 x6 x7 x8 x4 x5 0 _ _ _ ?_ _ (off1_eq i 0) _ _ _ _ _ _ _ _ (readAt_rows harg3 x3 0 0 rfl _) (readAt_rows harg6 x6 0 0 rfl _) (readAt_rows harg7 x7 0 0 rfl _) (readAt_rows harg8 x8 0 0 rfl _) (readAt_win _ x4 (harg4.read_unread _) _ _ (off1_eq i 0) _ _) (readAt_win _ x5 (harg5.read_unread _) _ _ (off1_eq i 0) _ _)
      exact harg14.read_unread _
    isplitl [H15]
    · iexists _; isplitr; rotate_left; · iexact H15
      ipureintro; unfold dvOut eight
      refine stepDv (i 2).val x3 x6 x8 x4 7 _ _ _ ?_ _ (off1_eq i 7) _ _ _ _ _ _ (readAt_rows harg3 x3 1792 7 rfl _) (readAt_rows harg6 x6 1792 7 rfl _) (readAt_rows harg8 x8 1792 7 rfl _) (readAt_win _ x4 (harg4.read_unread _) _ _ (off1_eq i 7) _ _)
      refine stepDv (i 2).val x3 x6 x8 x4 6 _ _ _ ?_ _ (off1_eq i 6) _ _ _ _ _ _ (readAt_rows harg3 x3 1536 6 rfl _) (readAt_rows harg6 x6 1536 6 rfl _) (readAt_rows harg8 x8 1536 6 rfl _) (readAt_win _ x4 (harg4.read_unread _) _ _ (off1_eq i 6) _ _)
      refine stepDv (i 2).val x3 x6 x8 x4 5 _ _ _ ?_ _ (off1_eq i 5) _ _ _ _ _ _ (readAt_rows harg3 x3 1280 5 rfl _) (readAt_rows harg6 x6 1280 5 rfl _) (readAt_rows harg8 x8 1280 5 rfl _) (readAt_win _ x4 (harg4.read_unread _) _ _ (off1_eq i 5) _ _)
      refine stepDv (i 2).val x3 x6 x8 x4 4 _ _ _ ?_ _ (off1_eq i 4) _ _ _ _ _ _ (readAt_rows harg3 x3 1024 4 rfl _) (readAt_rows harg6 x6 1024 4 rfl _) (readAt_rows harg8 x8 1024 4 rfl _) (readAt_win _ x4 (harg4.read_unread _) _ _ (off1_eq i 4) _ _)
      refine stepDv (i 2).val x3 x6 x8 x4 3 _ _ _ ?_ _ (off1_eq i 3) _ _ _ _ _ _ (readAt_rows harg3 x3 768 3 rfl _) (readAt_rows harg6 x6 768 3 rfl _) (readAt_rows harg8 x8 768 3 rfl _) (readAt_win _ x4 (harg4.read_unread _) _ _ (off1_eq i 3) _ _)
      refine stepDv (i 2).val x3 x6 x8 x4 2 _ _ _ ?_ _ (off1_eq i 2) _ _ _ _ _ _ (readAt_rows harg3 x3 512 2 rfl _) (readAt_rows harg6 x6 512 2 rfl _) (readAt_rows harg8 x8 512 2 rfl _) (readAt_win _ x4 (harg4.read_unread _) _ _ (off1_eq i 2) _ _)
      refine stepDv (i 2).val x3 x6 x8 x4 1 _ _ _ ?_ _ (off1_eq i 1) _ _ _ _ _ _ (readAt_rows harg3 x3 256 1 rfl _) (readAt_rows harg6 x6 256 1 rfl _) (readAt_rows harg8 x8 256 1 rfl _) (readAt_win _ x4 (harg4.read_unread _) _ _ (off1_eq i 1) _ _)
      refine stepDv (i 2).val x3 x6 x8 x4 0 _ _ _ ?_ _ (off1_eq i 0) _ _ _ _ _ _ (readAt_rows harg3 x3 0 0 rfl _) (readAt_rows harg6 x6 0 0 rfl _) (readAt_rows harg8 x8 0 0 rfl _) (readAt_win _ x4 (harg4.read_unread _) _ _ (off1_eq i 0) _ _)
      exact harg15.read_unread _
    iexists _; isplitr; rotate_left; · iexact H16
    ipureintro; unfold dsOut eight
    refine (View.read_writes_full _ _ _ _ _).trans ?_
    refine stepDs' (arg := arg16) x6 x7 x8 x9 7 _ _ _ _ _ _ _ _ (readAt_rows harg6 x6 1792 7 rfl _) (readAt_rows harg7 x7 1792 7 rfl _) (readAt_rows harg8 x8 1792 7 rfl _) (readAt_row harg9 x9 _) _ _ ?_
    refine stepDs' (arg := arg16) x6 x7 x8 x9 6 _ _ _ _ _ _ _ _ (readAt_rows harg6 x6 1536 6 rfl _) (readAt_rows harg7 x7 1536 6 rfl _) (readAt_rows harg8 x8 1536 6 rfl _) (readAt_row harg9 x9 _) _ _ ?_
    refine stepDs' (arg := arg16) x6 x7 x8 x9 5 _ _ _ _ _ _ _ _ (readAt_rows harg6 x6 1280 5 rfl _) (readAt_rows harg7 x7 1280 5 rfl _) (readAt_rows harg8 x8 1280 5 rfl _) (readAt_row harg9 x9 _) _ _ ?_
    refine stepDs' (arg := arg16) x6 x7 x8 x9 4 _ _ _ _ _ _ _ _ (readAt_rows harg6 x6 1024 4 rfl _) (readAt_rows harg7 x7 1024 4 rfl _) (readAt_rows harg8 x8 1024 4 rfl _) (readAt_row harg9 x9 _) _ _ ?_
    refine stepDs' (arg := arg16) x6 x7 x8 x9 3 _ _ _ _ _ _ _ _ (readAt_rows harg6 x6 768 3 rfl _) (readAt_rows harg7 x7 768 3 rfl _) (readAt_rows harg8 x8 768 3 rfl _) (readAt_row harg9 x9 _) _ _ ?_
    refine stepDs' (arg := arg16) x6 x7 x8 x9 2 _ _ _ _ _ _ _ _ (readAt_rows harg6 x6 512 2 rfl _) (readAt_rows harg7 x7 512 2 rfl _) (readAt_rows harg8 x8 512 2 rfl _) (readAt_row harg9 x9 _) _ _ ?_
    refine stepDs' (arg := arg16) x6 x7 x8 x9 1 _ _ _ _ _ _ _ _ (readAt_rows harg6 x6 256 1 rfl _) (readAt_rows harg7 x7 256 1 rfl _) (readAt_rows harg8 x8 256 1 rfl _) (readAt_row harg9 x9 _) _ _ ?_
    refine stepDs' (arg := arg16) x6 x7 x8 x9 0 _ _ _ _ _ _ _ _ (readAt_rows harg6 x6 0 0 rfl _) (readAt_rows harg7 x7 0 0 rfl _) (readAt_rows harg8 x8 0 0 rfl _) (readAt_row harg9 x9 _) _ _ ?_
    rfl

end Cert.KernelIdeal.Body
-- ==== Proof.RunC.lean ====
module

public import proofs.«01_k».proof.Proof.Steps
public import proofs.«01_k».proof.Proof.Gen.KernelIdeal.Frame
public import Idealize.ShloMosaic.Lib.VecWindow
public import proofs.«01_k».proof.Proof.Gen.KernelIdeal.Skeleton
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a second step: it adds to all three gradients. -/
theorem runC (c : Dev nD) (i : grid0.Coords) (arg3 : Memref sig .tc .vmem S2048x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x128 .f32) (harg9 : arg9.IsWhole) (arg10 : Memref sig .tc .hbm S4096x3584 .f32) (harg10 : arg10.IsWhole) (arg11 : Memref sig .tc .hbm S4096x2816 .f32) (harg11 : arg11.IsWhole) (arg12 : Memref sig .tc .hbm S4096x2816 .f32) (harg12 : arg12.IsWhole) (arg13 : Memref sig .tc .vmem S2048x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S1x1x128 .f32) (harg16 : arg16.IsWhole)
    (hc0 : ¬condKV i) (hc1 : ¬condS i) (x3 : Vec F S2048x128 .f32) (x4 x5 : Vec F S4096x128 .f32) (x6 x7 x8 : Vec F S2048x128 .f32) (x9 : Vec F S1x1x128 .f32) (x14 x15 : Vec F S4096x128 .f32) (x16 : Vec F S1x1x128 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg13 fullShare d) ∗ owns (c : Thread nD τ) arg14 fullShare x14 ∗ owns (c : Thread nD τ) arg15 fullShare x15 ∗ owns (c : Thread nD τ) arg16 fullShare x16 ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare (dqOut (i 2).val x3 x6 x7 x8 x4 x5) ∗ owns (c : Thread nD τ) arg14 fullShare (dkOut (i 2).val x3 x6 x7 x8 x4 x5 x14) ∗ owns (c : Thread nD τ) arg15 fullShare (dvOut (i 2).val x3 x6 x8 x4 x15) ∗ owns (c : Thread nD τ) arg16 fullShare (dsOut x6 x7 x8 x9 x16)) -∗ K ⟨⟩))
      ⊢ wp frame (wpE (defs₀ (F := F)) Variants.none c none) E (cc0_attn_a_bwd i arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_attn_a_bwd_eq_skeleton]; unfold cc0_attn_a_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d13, %f13, -, H13⟩, ⟨%f14, %hf14, H14⟩, ⟨%f15, %hf15, H15⟩, ⟨%f16, %hf16, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg14.eq_unread hf14; obtain rfl := harg15.eq_unread hf15; obtain rfl := harg16.eq_unread hf16
    sl_exec (disch := first | sl_exact hc0 | sl_exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H13]
    · iexists _; isplitr; rotate_left; · iexact H13
      ipureintro; refine eq_of_rows ?_
      refine stepDq (i 2).val x3 x6 x7 x8 x4 x5 7 1792 2048 rfl rfl _ _ ?_ _ _ _ _ _ _ _ (readAt_rows harg3 x3 1792 7 rfl _) (readAt_rows harg6 x6 1792 7 rfl _) (readAt_rows harg7 x7 1792 7 rfl _) (readAt_rows harg8 x8 1792 7 rfl _) (readAt_win _ x4 (harg4.read_unread _) _ _ (off1_eq i 7) _ _) (readAt_win _ x5 (harg5.read_unread _) _ _ (off1_eq i 7) _ _)
      refine stepDq (i 2).val x3 x6 x7 x8 x4 x5 6 1536 1792 rfl rfl _ _ ?_ _ _ _ _ _ _ _ (readAt_rows harg3 x3 1536 6 rfl _) (readAt_rows harg6 x6 1536 6 rfl _) (readAt_rows harg7 x7 1536 6 rfl _) (readAt_rows harg8 x8 1536 6 rfl _) (readAt_win _ x4 (harg4.read_unread _) _ _ (off1_eq i 6) _ _) (readAt_win _ x5 (harg5.read_unread _) _ _ (off1_eq i 6) _ _)
      refine stepDq (i 2).val x3 x6 x7 x8 x4 x5 5 1280 1536 rfl rfl _ _ ?_ _ _ _ _ _ _ _ (readAt_rows harg3 x3 1280 5 rfl _) (readAt_rows harg6 x6 1280 5 rfl _) (readAt_rows harg7 x7 1280 5 rfl _) (readAt_rows harg8 x8 1280 5 rfl _) (readAt_win _ x4 (harg4.read_unread _) _ _ (off1_eq i 5) _ _) (readAt_win _ x5 (harg5.read_unread _) _ _ (off1_eq i 5) _ _)
      refine stepDq (i 2).val x3 x6 x7 x8 x4 x5 4 1024 1280 rfl rfl _ _ ?_ _ _ _ _ _ _ _ (readAt_rows harg3 x3 1024 4 rfl _) (readAt_rows harg6 x6 1024 4 rfl _) (readAt_rows harg7 x7 1024 4 rfl _) (readAt_rows harg8 x8 1024 4 rfl _) (readAt_win _ x4 (harg4.read_unread _) _ _ (off1_eq i 4) _ _) (readAt_win _ x5 (harg5.read_unread _) _ _ (off1_eq i 4) _ _)
      refine stepDq (i 2).val x3 x6 x7 x8 x4 x5 3 768 1024 rfl rfl _ _ ?_ _ _ _ _ _ _ _ (readAt_rows harg3 x3 768 3 rfl _) (readAt_rows harg6 x6 768 3 rfl _) (readAt_rows harg7 x7 768 3 rfl _) (readAt_rows harg8 x8 768 3 rfl _) (readAt_win _ x4 (harg4.read_unread _) _ _ (off1_eq i 3) _ _) (readAt_win _ x5 (harg5.read_unread _) _ _ (off1_eq i 3) _ _)
      refine stepDq (i 2).val x3 x6 x7 x8 x4 x5 2 512 768 rfl rfl _ _ ?_ _ _ _ _ _ _ _ (readAt_rows harg3 x3 512 2 rfl _) (readAt_rows harg6 x6 512 2 rfl _) (readAt_rows harg7 x7 512 2 rfl _) (readAt_rows harg8 x8 512 2 rfl _) (readAt_win _ x4 (harg4.read_unread _) _ _ (off1_eq i 2) _ _) (readAt_win _ x5 (harg5.read_unread _) _ _ (off1_eq i 2) _ _)
      refine stepDq (i 2).val x3 x6 x7 x8 x4 x5 1 256 512 rfl rfl _ _ ?_ _ _ _ _ _ _ _ (readAt_rows harg3 x3 256 1 rfl _) (readAt_rows harg6 x6 256 1 rfl _) (readAt_rows harg7 x7 256 1 rfl _) (readAt_rows harg8 x8 256 1 rfl _) (readAt_win _ x4 (harg4.read_unread _) _ _ (off1_eq i 1) _ _) (readAt_win _ x5 (harg5.read_unread _) _ _ (off1_eq i 1) _ _)
      refine stepDq (i 2).val x3 x6 x7 x8 x4 x5 0 0 256 rfl rfl _ _ ?_ _ _ _ _ _ _ _ (readAt_rows harg3 x3 0 0 rfl _) (readAt_rows harg6 x6 0 0 rfl _) (readAt_rows harg7 x7 0 0 rfl _) (readAt_rows harg8 x8 0 0 rfl _) (readAt_win _ x4 (harg4.read_unread _) _ _ (off1_eq i 0) _ _) (readAt_win _ x5 (harg5.read_unread _) _ _ (off1_eq i 0) _ _)
      intro y h; exact absurd h (Nat.not_lt_zero _)
    isplitl [H14]
    · iexists _; isplitr; rotate_left; · iexact H14
      ipureintro; unfold dkOut eight
      refine stepDk (i 2).val x3 x6 x7 x8 x4 x5 7 _ _ _ ?_ _ (off1_eq i 7) _ _ _ _ _ _ _ _ (readAt_rows harg3 x3 1792 7 rfl _) (readAt_rows harg6 x6 1792 7 rfl _) (readAt_rows harg7 x7 1792 7 rfl _) (readAt_rows harg8 x8 1792 7 rfl _) (readAt_win _ x4 (harg4.read_unread _) _ _ (off1_eq i 7) _ _) (readAt_win _ x5 (harg5.read_unread _) _ _ (off1_eq i 7) _ _)
      refine stepDk (i 2).val x3 x6 x7 x8 x4 x5 6 _ _ _ ?_ _ (off1_eq i 6) _ _ _ _ _ _ _ _ (readAt_rows harg3 x3 1536 6 rfl _) (readAt_rows harg6 x6 1536 6 rfl _) (readAt_rows harg7 x7 1536 6 rfl _) (readAt_rows harg8 x8 1536 6 rfl _) (readAt_win _ x4 (harg4.read_unread _) _ _ (off1_eq i 6) _ _) (readAt_win _ x5 (harg5.read_unread _) _ _ (off1_eq i 6) _ _)
      refine stepDk (i 2).val x3 x6 x7 x8 x4 x5 5 _ _ _ ?_ _ (off1_eq i 5) _ _ _ _ _ _ _ _ (readAt_rows harg3 x3 1280 5 rfl _) (readAt_rows harg6 x6 1280 5 rfl _) (readAt_rows harg7 x7 1280 5 rfl _) (readAt_rows harg8 x8 1280 5 rfl _) (readAt_win _ x4 (harg4.read_unread _) _ _ (off1_eq i 5) _ _) (readAt_win _ x5 (harg5.read_unread _) _ _ (off1_eq i 5) _ _)
      refine stepDk (i 2).val x3 x6 x7 x8 x4 x5 4 _ _ _ ?_ _ (off1_eq i 4) _ _ _ _ _ _ _ _ (readAt_rows harg3 x3 1024 4 rfl _) (readAt_rows harg6 x6 1024 4 rfl _) (readAt_rows harg7 x7 1024 4 rfl _) (readAt_rows harg8 x8 1024 4 rfl _) (readAt_win _ x4 (harg4.read_unread _) _ _ (off1_eq i 4) _ _) (readAt_win _ x5 (harg5.read_unread _) _ _ (off1_eq i 4) _ _)
      refine stepDk (i 2).val x3 x6 x7 x8 x4 x5 3 _ _ _ ?_ _ (off1_eq i 3) _ _ _ _ _ _ _ _ (readAt_rows harg3 x3 768 3 rfl _) (readAt_rows harg6 x6 768 3 rfl _) (readAt_rows harg7 x7 768 3 rfl _) (readAt_rows harg8 x8 768 3 rfl _) (readAt_win _ x4 (harg4.read_unread _) _ _ (off1_eq i 3) _ _) (readAt_win _ x5 (harg5.read_unread _) _ _ (off1_eq i 3) _ _)
      refine stepDk (i 2).val x3 x6 x7 x8 x4 x5 2 _ _ _ ?_ _ (off1_eq i 2) _ _ _ _ _ _ _ _ (readAt_rows harg3 x3 512 2 rfl _) (readAt_rows harg6 x6 512 2 rfl _) (readAt_rows harg7 x7 512 2 rfl _) (readAt_rows harg8 x8 512 2 rfl _) (readAt_win _ x4 (harg4.read_unread _) _ _ (off1_eq i 2) _ _) (readAt_win _ x5 (harg5.read_unread _) _ _ (off1_eq i 2) _ _)
      refine stepDk (i 2).val x3 x6 x7 x8 x4 x5 1 _ _ _ ?_ _ (off1_eq i 1) _ _ _ _ _ _ _ _ (readAt_rows harg3 x3 256 1 rfl _) (readAt_rows harg6 x6 256 1 rfl _) (readAt_rows harg7 x7 256 1 rfl _) (readAt_rows harg8 x8 256 1 rfl _) (readAt_win _ x4 (harg4.read_unread _) _ _ (off1_eq i 1) _ _) (readAt_win _ x5 (harg5.read_unread _) _ _ (off1_eq i 1) _ _)
      refine stepDk (i 2).val x3 x6 x7 x8 x4 x5 0 _ _ _ ?_ _ (off1_eq i 0) _ _ _ _ _ _ _ _ (readAt_rows harg3 x3 0 0 rfl _) (readAt_rows harg6 x6 0 0 rfl _) (readAt_rows harg7 x7 0 0 rfl _) (readAt_rows harg8 x8 0 0 rfl _) (readAt_win _ x4 (harg4.read_unread _) _ _ (off1_eq i 0) _ _) (readAt_win _ x5 (harg5.read_unread _) _ _ (off1_eq i 0) _ _)
      exact harg14.read_unread _
    isplitl [H15]
    · iexists _; isplitr; rotate_left; · iexact H15
      ipureintro; unfold dvOut eight
      refine stepDv (i 2).val x3 x6 x8 x4 7 _ _ _ ?_ _ (off1_eq i 7) _ _ _ _ _ _ (readAt_rows harg3 x3 1792 7 rfl _) (readAt_rows harg6 x6 1792 7 rfl _) (readAt_rows harg8 x8 1792 7 rfl _) (readAt_win _ x4 (harg4.read_unread _) _ _ (off1_eq i 7) _ _)
      refine stepDv (i 2).val x3 x6 x8 x4 6 _ _ _ ?_ _ (off1_eq i 6) _ _ _ _ _ _ (readAt_rows harg3 x3 1536 6 rfl _) (readAt_rows harg6 x6 1536 6 rfl _) (readAt_rows harg8 x8 1536 6 rfl _) (readAt_win _ x4 (harg4.read_unread _) _ _ (off1_eq i 6) _ _)
      refine stepDv (i 2).val x3 x6 x8 x4 5 _ _ _ ?_ _ (off1_eq i 5) _ _ _ _ _ _ (readAt_rows harg3 x3 1280 5 rfl _) (readAt_rows harg6 x6 1280 5 rfl _) (readAt_rows harg8 x8 1280 5 rfl _) (readAt_win _ x4 (harg4.read_unread _) _ _ (off1_eq i 5) _ _)
      refine stepDv (i 2).val x3 x6 x8 x4 4 _ _ _ ?_ _ (off1_eq i 4) _ _ _ _ _ _ (readAt_rows harg3 x3 1024 4 rfl _) (readAt_rows harg6 x6 1024 4 rfl _) (readAt_rows harg8 x8 1024 4 rfl _) (readAt_win _ x4 (harg4.read_unread _) _ _ (off1_eq i 4) _ _)
      refine stepDv (i 2).val x3 x6 x8 x4 3 _ _ _ ?_ _ (off1_eq i 3) _ _ _ _ _ _ (readAt_rows harg3 x3 768 3 rfl _) (readAt_rows harg6 x6 768 3 rfl _) (readAt_rows harg8 x8 768 3 rfl _) (readAt_win _ x4 (harg4.read_unread _) _ _ (off1_eq i 3) _ _)
      refine stepDv (i 2).val x3 x6 x8 x4 2 _ _ _ ?_ _ (off1_eq i 2) _ _ _ _ _ _ (readAt_rows harg3 x3 512 2 rfl _) (readAt_rows harg6 x6 512 2 rfl _) (readAt_rows harg8 x8 512 2 rfl _) (readAt_win _ x4 (harg4.read_unread _) _ _ (off1_eq i 2) _ _)
      refine stepDv (i 2).val x3 x6 x8 x4 1 _ _ _ ?_ _ (off1_eq i 1) _ _ _ _ _ _ (readAt_rows harg3 x3 256 1 rfl _) (readAt_rows harg6 x6 256 1 rfl _) (readAt_rows harg8 x8 256 1 rfl _) (readAt_win _ x4 (harg4.read_unread _) _ _ (off1_eq i 1) _ _)
      refine stepDv (i 2).val x3 x6 x8 x4 0 _ _ _ ?_ _ (off1_eq i 0) _ _ _ _ _ _ (readAt_rows harg3 x3 0 0 rfl _) (readAt_rows harg6 x6 0 0 rfl _) (readAt_rows harg8 x8 0 0 rfl _) (readAt_win _ x4 (harg4.read_unread _) _ _ (off1_eq i 0) _ _)
      exact harg15.read_unread _
    iexists _; isplitr; rotate_left; · iexact H16
    ipureintro; unfold dsOut eight
    refine (View.read_writes_full _ _ _ _ _).trans ?_
    refine stepDs' (arg := arg16) x6 x7 x8 x9 7 _ _ _ _ _ _ _ _ (readAt_rows harg6 x6 1792 7 rfl _) (readAt_rows harg7 x7 1792 7 rfl _) (readAt_rows harg8 x8 1792 7 rfl _) (readAt_row harg9 x9 _) _ _ ?_
    refine stepDs' (arg := arg16) x6 x7 x8 x9 6 _ _ _ _ _ _ _ _ (readAt_rows harg6 x6 1536 6 rfl _) (readAt_rows harg7 x7 1536 6 rfl _) (readAt_rows harg8 x8 1536 6 rfl _) (readAt_row harg9 x9 _) _ _ ?_
    refine stepDs' (arg := arg16) x6 x7 x8 x9 5 _ _ _ _ _ _ _ _ (readAt_rows harg6 x6 1280 5 rfl _) (readAt_rows harg7 x7 1280 5 rfl _) (readAt_rows harg8 x8 1280 5 rfl _) (readAt_row harg9 x9 _) _ _ ?_
    refine stepDs' (arg := arg16) x6 x7 x8 x9 4 _ _ _ _ _ _ _ _ (readAt_rows harg6 x6 1024 4 rfl _) (readAt_rows harg7 x7 1024 4 rfl _) (readAt_rows harg8 x8 1024 4 rfl _) (readAt_row harg9 x9 _) _ _ ?_
    refine stepDs' (arg := arg16) x6 x7 x8 x9 3 _ _ _ _ _ _ _ _ (readAt_rows harg6 x6 768 3 rfl _) (readAt_rows harg7 x7 768 3 rfl _) (readAt_rows harg8 x8 768 3 rfl _) (readAt_row harg9 x9 _) _ _ ?_
    refine stepDs' (arg := arg16) x6 x7 x8 x9 2 _ _ _ _ _ _ _ _ (readAt_rows harg6 x6 512 2 rfl _) (readAt_rows harg7 x7 512 2 rfl _) (readAt_rows harg8 x8 512 2 rfl _) (readAt_row harg9 x9 _) _ _ ?_
    refine stepDs' (arg := arg16) x6 x7 x8 x9 1 _ _ _ _ _ _ _ _ (readAt_rows harg6 x6 256 1 rfl _) (readAt_rows harg7 x7 256 1 rfl _) (readAt_rows harg8 x8 256 1 rfl _) (readAt_row harg9 x9 _) _ _ ?_
    exact stepDs0 x6 x7 x8 x9 0 harg16 _ _ _ _ _ (readAt_rows harg6 x6 0 0 rfl _) (readAt_rows harg7 x7 0 0 rfl _) (readAt_rows harg8 x8 0 0 rfl _) (readAt_row harg9 x9 _) _

end Cert.KernelIdeal.Body
-- ==== Proof.Frame.lean ====
module

public import proofs.«01_k».proof.Proof.Gen.KernelIdeal.Frame
public import proofs.«01_k».proof.Proof.RunA
public import proofs.«01_k».proof.Proof.RunB
public import proofs.«01_k».proof.Proof.RunC
public import proofs.«01_k».proof.Proof.Gen.KernelIdeal.Points
public import proofs.«01_k».proof.Proof.Gen.KernelIdeal.Launch
public import proofs.«01_k».proof.Proof.Gen.KernelIdeal.Frame
public import Idealize.ShloMosaic.Lib.Claim
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The whole run of the attention backward: what every grid point leaves in its four result blocks, and that every
execution ends with those blocks in the result arrays. -/

/-- A point's step, 0 or 1. -/
abbrev stp (t : Fin cfg0.N) : ℕ := (grid0.coords t 2).val

/-- A point's queries' gradient. -/
def dqPt (c : Dev nD) (t : Fin cfg0.N) : Vec F S2048x128 .f32 :=
  dqOut (stp t) (iblk m c 0 t) (iblk m c 3 t) (iblk m c 4 t) (iblk m c 5 t) (iblk m c 1 t) (iblk m c 2 t)
/-- What a point adds to the keys', the values' and the sink's gradient. -/
def dkPt (c : Dev nD) (t : Fin cfg0.N) (g : Vec F S4096x128 .f32) : Vec F S4096x128 .f32 :=
  dkOut (stp t) (iblk m c 0 t) (iblk m c 3 t) (iblk m c 4 t) (iblk m c 5 t) (iblk m c 1 t) (iblk m c 2 t) g
def dvPt (c : Dev nD) (t : Fin cfg0.N) (g : Vec F S4096x128 .f32) : Vec F S4096x128 .f32 :=
  dvOut (stp t) (iblk m c 0 t) (iblk m c 3 t) (iblk m c 5 t) (iblk m c 1 t) g
def dsPt (c : Dev nD) (t : Fin cfg0.N) (g : Vec F S1x1x128 .f32) : Vec F S1x1x128 .f32 :=
  dsOut (iblk m c 3 t) (iblk m c 4 t) (iblk m c 5 t) (iblk m c 6 t) g

/-- The keys' gradient after point `n`: cleared at the first of each eight points. -/
def dkAt (c : Dev nD) : (n : ℕ) → n < cfg0.N → Vec F S4096x128 .f32
  | 0, h => dkPt m c ⟨0, h⟩ k0_pay2
  | n + 1, h => dkPt m c ⟨n + 1, h⟩ (if (n + 1) % 8 = 0 then k0_pay2 else dkAt c n (Nat.lt_of_succ_lt h))
/-- The values' gradient after point `n`. -/
def dvAt (c : Dev nD) : (n : ℕ) → n < cfg0.N → Vec F S4096x128 .f32
  | 0, h => dvPt m c ⟨0, h⟩ k0_pay3
  | n + 1, h => dvPt m c ⟨n + 1, h⟩ (if (n + 1) % 8 = 0 then k0_pay3 else dvAt c n (Nat.lt_of_succ_lt h))
/-- The sink's gradient after point `n`: cleared at every first step. -/
def dsAt (c : Dev nD) : (n : ℕ) → n < cfg0.N → Vec F S1x1x128 .f32
  | 0, h => dsPt m c ⟨0, h⟩ k0_pay4
  | n + 1, h => dsPt m c ⟨n + 1, h⟩ (if (n + 1) % 2 = 0 then k0_pay4 else dsAt c n (Nat.lt_of_succ_lt h))

theorem dkAt_reset (c : Dev nD) (t : Fin cfg0.N) (h : t.val % 8 = 0) : dkAt m c t.val t.isLt = dkPt m c t k0_pay2 := by
  obtain ⟨n, hn⟩ := t
  cases n with
  | zero => rfl
  | succ n => exact congrArg (dkPt m c ⟨n + 1, hn⟩) (if_pos h)
theorem dkAt_add (c : Dev nD) (t : Fin cfg0.N) (h : ¬t.val % 8 = 0) :
    dkAt m c t.val t.isLt = dkPt m c t (dkAt m c (t.val - 1) (Nat.lt_of_le_of_lt (Nat.sub_le _ _) t.isLt)) := by
  obtain ⟨n, hn⟩ := t
  cases n with
  | zero => exact absurd rfl h
  | succ n => exact congrArg (dkPt m c ⟨n + 1, hn⟩) (if_neg h)

theorem dvAt_reset (c : Dev nD) (t : Fin cfg0.N) (h : t.val % 8 = 0) : dvAt m c t.val t.isLt = dvPt m c t k0_pay3 := by
  obtain ⟨n, hn⟩ := t
  cases n with
  | zero => rfl
  | succ n => exact congrArg (dvPt m c ⟨n + 1, hn⟩) (if_pos h)
theorem dvAt_add (c : Dev nD) (t : Fin cfg0.N) (h : ¬t.val % 8 = 0) :
    dvAt m c t.val t.isLt = dvPt m c t (dvAt m c (t.val - 1) (Nat.lt_of_le_of_lt (Nat.sub_le _ _) t.isLt)) := by
  obtain ⟨n, hn⟩ := t
  cases n with
  | zero => exact absurd rfl h
  | succ n => exact congrArg (dvPt m c ⟨n + 1, hn⟩) (if_neg h)

theorem dsAt_reset (c : Dev nD) (t : Fin cfg0.N) (h : t.val % 2 = 0) : dsAt m c t.val t.isLt = dsPt m c t k0_pay4 := by
  obtain ⟨n, hn⟩ := t
  cases n with
  | zero => rfl
  | succ n => exact congrArg (dsPt m c ⟨n + 1, hn⟩) (if_pos h)
theorem dsAt_add (c : Dev nD) (t : Fin cfg0.N) (h : ¬t.val % 2 = 0) :
    dsAt m c t.val t.isLt = dsPt m c t (dsAt m c (t.val - 1) (Nat.lt_of_le_of_lt (Nat.sub_le _ _) t.isLt)) := by
  obtain ⟨n, hn⟩ := t
  cases n with
  | zero => exact absurd rfl h
  | succ n => exact congrArg (dsPt m c ⟨n + 1, hn⟩) (if_neg h)

/-- The pipeline's proof data: an input's block stays, the results' blocks are the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqPt m c t
    | ⟨8, _⟩ => dkAt m c t.val t.isLt
    | ⟨9, _⟩ => dvAt m c t.val t.isLt
    | ⟨10, _⟩ => dsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dqPt m c t := by dsimp only [dats]
theorem after_8 (c : Dev nD) (t : Fin cfg0.N) : (dats m 0 c).after 8 t = dkAt m c t.val t.isLt := by dsimp only [dats]
theorem after_9 (c : Dev nD) (t : Fin cfg0.N) : (dats m 0 c).after 9 t = dvAt m c t.val t.isLt := by dsimp only [dats]
theorem after_10 (c : Dev nD) (t : Fin cfg0.N) : (dats m 0 c).after 10 t = dsAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Where it is not cleared, the keys' gradient's buffer holds what the point before left. -/
theorem before_8 (c : Dev nD) (t : Fin cfg0.N) (h : ¬t.val % 8 = 0) (d) :
    (dats m 0 c).before 8 t d = dkAt m c (t.val - 1) (Nat.lt_of_le_of_lt (Nat.sub_le _ _) t.isLt) :=
  ((dats m 0 c).before_out_kept 8 rfl t (fun h0 => h (by rw [h0])) (by
    refine Bool.eq_false_iff.mpr fun hf => ?_
    have := (flush0_8 _).mp hf
    dsimp only at this
    omega) (fun _ => rfl) (fun _ _ => rfl) d).trans (after_8 m c _)

/-- Where it is not cleared, the values' gradient's buffer holds what the point before left. -/
theorem before_9 (c : Dev nD) (t : Fin cfg0.N) (h : ¬t.val % 8 = 0) (d) :
    (dats m 0 c).before 9 t d = dvAt m c (t.val - 1) (Nat.lt_of_le_of_lt (Nat.sub_le _ _) t.isLt) :=
  ((dats m 0 c).before_out_kept 9 rfl t (fun h0 => h (by rw [h0])) (by
    refine Bool.eq_false_iff.mpr fun hf => ?_
    have := (flush0_9 _).mp hf
    dsimp only at this
    omega) (fun _ => rfl) (fun _ _ => rfl) d).trans (after_9 m c _)

/-- Where it is not cleared, the sink' gradient's buffer holds what the point before left. -/
theorem before_10 (c : Dev nD) (t : Fin cfg0.N) (h : ¬t.val % 2 = 0) (d) :
    (dats m 0 c).before 10 t d = dsAt m c (t.val - 1) (Nat.lt_of_le_of_lt (Nat.sub_le _ _) t.isLt) :=
  ((dats m 0 c).before_out_kept 10 rfl t (fun h0 => h (by rw [h0])) (by
    refine Bool.eq_false_iff.mpr fun hf => ?_
    have := (flush0_10 _).mp hf
    dsimp only at this
    omega) (fun _ => rfl) (fun _ _ => rfl) d).trans (after_10 m c _)

theorem hcondKV : ∀ t : Fin cfg0.N, condKV (grid0.coords t) ↔ t.val % 8 = 0 :=
  (by unfold condKV; decide +kernel : ∀ t : Fin grid0.N, condKV (grid0.coords t) ↔ t.val % 8 = 0)
theorem hcondS : ∀ t : Fin cfg0.N, condS (grid0.coords t) ↔ t.val % 2 = 0 :=
  (by unfold condS; decide +kernel : ∀ t : Fin grid0.N, condS (grid0.coords t) ↔ t.val % 2 = 0)

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) : (dats m 0 c).leavesExact 0 t = owns (c : Thread nD τ) (win0_0.stage (cfg0.slots t 0)) fullShare ((dats m 0 c).after 0 t) := by
  unfold Dat.leavesExact; rw [show cfg0.idle 0 (grid0.coords t) = false from rfl]
theorem leaves_1 (c : Dev nD) (t : Fin cfg0.N) : (dats m 0 c).leavesExact 1 t = owns (c : Thread nD τ) (win0_1.stage (cfg0.slots t 1)) fullShare ((dats m 0 c).after 1 t) := by
  unfold Dat.leavesExact; rw [show cfg0.idle 1 (grid0.coords t) = false from rfl]
theorem leaves_2 (c : Dev nD) (t : Fin cfg0.N) : (dats m 0 c).leavesExact 2 t = owns (c : Thread nD τ) (win0_2.stage (cfg0.slots t 2)) fullShare ((dats m 0 c).after 2 t) := by
  unfold Dat.leavesExact; rw [show cfg0.idle 2 (grid0.coords t) = false from rfl]
theorem leaves_3 (c : Dev nD) (t : Fin cfg0.N) : (dats m 0 c).leavesExact 3 t = owns (c : Thread nD τ) (win0_3.stage (cfg0.slots t 3)) fullShare ((dats m 0 c).after 3 t) := by
  unfold Dat.leavesExact; rw [show cfg0.idle 3 (grid0.coords t) = false from rfl]
theorem leaves_4 (c : Dev nD) (t : Fin cfg0.N) : (dats m 0 c).leavesExact 4 t = owns (c : Thread nD τ) (win0_4.stage (cfg0.slots t 4)) fullShare ((dats m 0 c).after 4 t) := by
  unfold Dat.leavesExact; rw [show cfg0.idle 4 (grid0.coords t) = false from rfl]
theorem leaves_5 (c : Dev nD) (t : Fin cfg0.N) : (dats m 0 c).leavesExact 5 t = owns (c : Thread nD τ) (win0_5.stage (cfg0.slots t 5)) fullShare ((dats m 0 c).after 5 t) := by
  unfold Dat.leavesExact; rw [show cfg0.idle 5 (grid0.coords t) = false from rfl]
theorem leaves_6 (c : Dev nD) (t : Fin cfg0.N) : (dats m 0 c).leavesExact 6 t = owns (c : Thread nD τ) (win0_6.stage (cfg0.slots t 6)) fullShare ((dats m 0 c).after 6 t) := by
  unfold Dat.leavesExact; rw [show cfg0.idle 6 (grid0.coords t) = false from rfl]
theorem leaves_7 (c : Dev nD) (t : Fin cfg0.N) : (dats m 0 c).leavesExact 7 t = owns (c : Thread nD τ) (win0_7.stage (cfg0.slots t 7)) fullShare ((dats m 0 c).after 7 t) := by
  unfold Dat.leavesExact; rw [show cfg0.idle 7 (grid0.coords t) = false from rfl]
theorem leaves_8 (c : Dev nD) (t : Fin cfg0.N) : (dats m 0 c).leavesExact 8 t = owns (c : Thread nD τ) (win0_8.stage (cfg0.slots t 8)) fullShare ((dats m 0 c).after 8 t) := by
  unfold Dat.leavesExact; rw [show cfg0.idle 8 (grid0.coords t) = false from rfl]
theorem leaves_9 (c : Dev nD) (t : Fin cfg0.N) : (dats m 0 c).leavesExact 9 t = owns (c : Thread nD τ) (win0_9.stage (cfg0.slots t 9)) fullShare ((dats m 0 c).after 9 t) := by
  unfold Dat.leavesExact; rw [show cfg0.idle 9 (grid0.coords t) = false from rfl]
theorem leaves_10 (c : Dev nD) (t : Fin cfg0.N) : (dats m 0 c).leavesExact 10 t = owns (c : Thread nD τ) (win0_10.stage (cfg0.slots t 10)) fullShare ((dats m 0 c).after 10 t) := by
  unfold Dat.leavesExact; rw [show cfg0.idle 10 (grid0.coords t) = false from rfl]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = (dats m 0 c).Φ t.castSucc from rfl]
  simp only [leaves_0, leaves_1, leaves_2, leaves_3, leaves_4, leaves_5, leaves_6, leaves_7, leaves_8, leaves_9, leaves_10, after_0, after_1, after_2, after_3, after_4, after_5, after_6, after_7, after_8, after_9, after_10]
  have hN : t.val < 16 := lt_of_lt_of_eq t.isLt (show cfg0.N = 16 from N_0)
  by_cases h0 : t.val % 8 = 0
  · have h1 : t.val % 2 = 0 := by omega
    rw [dkAt_reset m c t h0, dvAt_reset m c t h0, dsAt_reset m c t h1]
    simp only [before_0, before_1, before_2, before_3, before_4, before_5, before_6]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ _ _ _ _ ((hcondKV t).mpr h0) ((hcondS t).mpr h1) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  by_cases h1 : t.val % 2 = 0
  · skip
    rw [dkAt_add m c t h0, dvAt_add m c t h0, dsAt_reset m c t h1]
    simp only [before_0, before_1, before_2, before_3, before_4, before_5, before_6, before_8 m c t h0, before_9 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ _ _ _ _ _ _ (fun h => h0 ((hcondKV t).mp h)) ((hcondS t).mpr h1) (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · skip
    rw [dkAt_add m c t h0, dvAt_add m c t h0, dsAt_add m c t h1]
    simp only [before_0, before_1, before_2, before_3, before_4, before_5, before_6, before_8 m c t h0, before_9 m c t h0, before_10 m c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runC c (grid0.coords t) _ _ _ _ _ _ _ _ _ _ _ _ _ _ _ _ _ _ _ _ _ _ _ _ _ _ _ _ (fun h => h0 ((hcondKV t).mp h)) (fun h => h1 ((hcondS t).mp h)) (iblk m c 0 t) (iblk m c 1 t) (iblk m c 2 t) (iblk m c 3 t) (iblk m c 4 t) (iblk m c 5 t) (iblk m c 6 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with the result arrays at what the proof data say and every semaphore counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The arguments end as they began, and the semaphore counters end at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.KernelIdeal.Body
-- ==== Proof.KernelFrame.lean ====
module

public import proofs.«01_k».proof.Proof.Frame
public import proofs.«01_k».proof.Defs
public import proofs.«01_k».proof.Proof.Gen.Kernel.Skeleton
public import proofs.«01_k».proof.Proof.Gen.Kernel.Launch

@[expose] public section

noncomputable section
namespace Cert.Proof
open Idealize.ShloMosaic Idealize.SL.Sem

/-! The idealization rewrote nothing, so the printed kernel is the same program: its frame is the other's, read at bits. -/

set_option maxHeartbeats 2000000 in
theorem d0_eq : Cert.Kernel.defs₀ (F := Bits) = Cert.KernelIdeal.defs₀ := by
  unfold Cert.Kernel.defs₀ Cert.KernelIdeal.defs₀
  congr 1
  funext x y
  fin_cases x
  obtain ⟨t, s⟩ := y
  rfl
set_option maxHeartbeats 2000000 in
theorem defs_eq : Cert.Kernel.defs (F := Bits) = Cert.KernelIdeal.defs (F := Bits) := by
  unfold Cert.Kernel.defs Cert.KernelIdeal.defs
  exact congrArg (Pipeline.defs _) d0_eq
set_option maxHeartbeats 2000000 in
theorem main_eq : Cert.Kernel.main (F := Bits) = Cert.KernelIdeal.main (F := Bits) := by rfl
theorem quiescent_Kernel : Cert.quiescent_Kernel := fun m ρ _ => by
  rw [defs_eq, main_eq]
  exact Cert.KernelIdeal.Body.frame_main (F := Bits) m ρ
end Cert.Proof
end
end
-- ==== Proof.Attn.Finite.lean ====
module

public import proofs.«01_k».proof.Pre_finite
public import Idealize.ShloMosaic.Lib.Decide

@[expose] public section

namespace Cert.Proof

open Cert.Pre_finite

/-- The shapes the precondition's comparisons broadcast infinity to. -/
instance finite_facts : Cert.Pre_finite.Facts where
  bcast_S_S4096x3584 := by decide
  bcast_S_S4096x2816 := by decide
  bcast_S_S4096x15360 := by decide
  bcast_S_S4096x1024 := by decide
  bcast_S_S8 := by decide

end Cert.Proof
-- ==== Proof.Attn.RefTerm.lean ====
module

public import proofs.«01_k».proof.Proof.Gen.ReferenceIdeal.Run
public import Idealize.ShloMosaic.Lib.ValueIdxCore

@[expose] public section

set_option maxRecDepth 16384

noncomputable section

namespace Cert.ReferenceIdeal.Term

open Cert.ReferenceIdeal Cert.ReferenceIdeal.Gen Idealize.ShloMosaic Idealize.ShloMosaic.TcCoe Idealize.SL.Sem Idealize.ShloMosaic.StableHlo

variable {F : FTy → Type} [FloatOps F]

/-! The reference's own steps, each named: the forward attention by head, then its gradient. -/

/-- What the attention reads, by head. -/
structure In (F : FTy → Type) where
  /-- queries -/
  q : FVec F S2x4x4096x128 .f32
  /-- keys -/
  k : FVec F S2x4096x128 .f32
  /-- values -/
  v : FVec F S2x4096x128 .f32
  /-- sinks -/
  sk : FVec F S2x4 .f32
  /-- the output's gradient -/
  dO : FVec F S2x4x4096x128 .f32

variable (x : In F)

/-- The scaled scores. -/
def score : FVec F S2x4x4096x4096 .f32 :=
  mulf (Host.dotGeneral dot_S2x4x4096x128_S2x4096x128_S2x4x4096x4096_3_2_12_1_0_0 none x.q x.k : FVec F S2x4x4096x4096 .f32) (broadcastInDim S2x4x4096x4096 ![] bcast_S_S2x4x4096x4096 (constant S_ .f32 0x3DB504F3#32 : FVec F S_ .f32) : FVec F S2x4x4096x4096 .f32)
/-- Which pairs lie within the radius. -/
def near : IVec S2x4x4096x4096 1 :=
  broadcastInDim S2x4x4096x4096 ![2, 3] bcast_S4096x4096_S2x4x4096x4096_2_3 (cmpi .sle (absi (subi (broadcastInDim S4096x4096 ![0, 1] bcast_S1x4096_S4096x4096_0_1 (broadcastInDim S1x4096 ![1] bcast_S4096_S1x4096_1 (iotaInDim S4096 32 0 : IVec S4096 32) : IVec S1x4096 32) : IVec S4096x4096 32) (broadcastInDim S4096x4096 ![0, 1] bcast_S4096x1_S4096x4096_0_1 (broadcastInDim S4096x1 ![0] bcast_S4096_S4096x1_0 (iotaInDim S4096 32 0 : IVec S4096 32) : IVec S4096x1 32) : IVec S4096x4096 32) : IVec S4096x4096 32) : IVec S4096x4096 32) (broadcastInDim S4096x4096 ![] bcast_S_S4096x4096 (constantI S_ 32 128#32 : IVec S_ 32) : IVec S4096x4096 32) : IVec S4096x4096 1)
/-- The scores, −∞ off the band. -/
def masked : FVec F S2x4x4096x4096 .f32 :=
  select near (score x) (broadcastInDim S2x4x4096x4096 ![] bcast_S_S2x4x4096x4096 ((constant S_ .f32 0xFF800000#32 : FVec F S_ .f32) : FVec F S_ .f32) : FVec F S2x4x4096x4096 .f32)
/-- Each row's greatest score. -/
def rowMax : FVec F S2x4x4096 .f32 :=
  Host.reduce FloatOps.maximumf (masked x) (constant S_ .f32 0xFF800000#32 : FVec F S_ .f32) reducesTo_S2x4x4096x4096_S2x4x4096_d3 h_S_
/-- Which scores are their row's greatest, as 0 or 1. -/
def isMax : FVec F S2x4x4096x4096 .f32 :=
  uitofp .f32 (cmpf .oeq (masked x) (broadcastInDim S2x4x4096x4096 ![0, 1, 2, 3] bcast_S2x4x4096x1_S2x4x4096x4096_0_1_2_3 (shapeCast S2x4x4096x1 (rowMax x) shapeCasts_S2x4x4096_S2x4x4096x1 : FVec F S2x4x4096x1 .f32) : FVec F S2x4x4096x4096 .f32) : IVec S2x4x4096x4096 1)
/-- How many are. -/
def nMax : FVec F S2x4x4096 .f32 :=
  Host.reduceAdd (isMax x) (constant S_ .f32 0x00000000#32 : FVec F S_ .f32) reducesTo_S2x4x4096x4096_S2x4x4096_d3 h_S_
/-- The greater of a row's greatest score and its sink. -/
def top : FVec F S2x4x4096x1 .f32 :=
  maximumf (broadcastInDim S2x4x4096x1 ![0, 1, 2] bcast_S2x4x4096_S2x4x4096x1_0_1_2 (rowMax x) : FVec F S2x4x4096x1 .f32) (broadcastInDim S2x4x4096x1 ![0, 1, 2, 3] bcast_S2x4x1x1_S2x4x4096x1_0_1_2_3 (shapeCast S2x4x1x1 x.sk shapeCasts_S2x4_S2x4x1x1 : FVec F S2x4x1x1 .f32) : FVec F S2x4x4096x1 .f32)
/-- The row maximum's part in `top`: 1, ½ or 0. -/
def partM : FVec F S2x4x4096x1 .f32 :=
  select (cmpf .ogt (broadcastInDim S2x4x4096x1 ![0, 1, 2] bcast_S2x4x4096_S2x4x4096x1_0_1_2 (rowMax x) : FVec F S2x4x4096x1 .f32) (broadcastInDim S2x4x4096x1 ![0, 1, 2, 3] bcast_S2x4x1x1_S2x4x4096x1_0_1_2_3 (shapeCast S2x4x1x1 x.sk shapeCasts_S2x4_S2x4x1x1 : FVec F S2x4x1x1 .f32) : FVec F S2x4x4096x1 .f32) : IVec S2x4x4096x1 1) (broadcastInDim S2x4x4096x1 ![] bcast_S_S2x4x4096x1 (constant S_ .f32 0x3F800000#32 : FVec F S_ .f32) : FVec F S2x4x4096x1 .f32) (select (cmpf .oeq (broadcastInDim S2x4x4096x1 ![0, 1, 2] bcast_S2x4x4096_S2x4x4096x1_0_1_2 (rowMax x) : FVec F S2x4x4096x1 .f32) (broadcastInDim S2x4x4096x1 ![0, 1, 2, 3] bcast_S2x4x1x1_S2x4x4096x1_0_1_2_3 (shapeCast S2x4x1x1 x.sk shapeCasts_S2x4_S2x4x1x1 : FVec F S2x4x1x1 .f32) : FVec F S2x4x4096x1 .f32) : IVec S2x4x4096x1 1) (broadcastInDim S2x4x4096x1 ![] bcast_S_S2x4x4096x1 (constant S_ .f32 0x3F000000#32 : FVec F S_ .f32) : FVec F S2x4x4096x1 .f32) (broadcastInDim S2x4x4096x1 ![] bcast_S_S2x4x4096x1 (constant S_ .f32 0x00000000#32 : FVec F S_ .f32) : FVec F S2x4x4096x1 .f32) : FVec F S2x4x4096x1 .f32)
/-- The sink's part in `top`. -/
def partS : FVec F S2x4x4096x1 .f32 :=
  select (cmpf .ogt (broadcastInDim S2x4x4096x1 ![0, 1, 2, 3] bcast_S2x4x1x1_S2x4x4096x1_0_1_2_3 (shapeCast S2x4x1x1 x.sk shapeCasts_S2x4_S2x4x1x1 : FVec F S2x4x1x1 .f32) : FVec F S2x4x4096x1 .f32) (broadcastInDim S2x4x4096x1 ![0, 1, 2] bcast_S2x4x4096_S2x4x4096x1_0_1_2 (rowMax x) : FVec F S2x4x4096x1 .f32) : IVec S2x4x4096x1 1) (broadcastInDim S2x4x4096x1 ![] bcast_S_S2x4x4096x1 (constant S_ .f32 0x3F800000#32 : FVec F S_ .f32) : FVec F S2x4x4096x1 .f32) (select (cmpf .oeq (broadcastInDim S2x4x4096x1 ![0, 1, 2, 3] bcast_S2x4x1x1_S2x4x4096x1_0_1_2_3 (shapeCast S2x4x1x1 x.sk shapeCasts_S2x4_S2x4x1x1 : FVec F S2x4x1x1 .f32) : FVec F S2x4x4096x1 .f32) (broadcastInDim S2x4x4096x1 ![0, 1, 2] bcast_S2x4x4096_S2x4x4096x1_0_1_2 (rowMax x) : FVec F S2x4x4096x1 .f32) : IVec S2x4x4096x1 1) (broadcastInDim S2x4x4096x1 ![] bcast_S_S2x4x4096x1 (constant S_ .f32 0x3F000000#32 : FVec F S_ .f32) : FVec F S2x4x4096x1 .f32) (broadcastInDim S2x4x4096x1 ![] bcast_S_S2x4x4096x1 (constant S_ .f32 0x00000000#32 : FVec F S_ .f32) : FVec F S2x4x4096x1 .f32) : FVec F S2x4x4096x1 .f32)
/-- The exponentials. -/
def expo : FVec F S2x4x4096x4096 .f32 :=
  Host.exp (subf (masked x) (broadcastInDim S2x4x4096x4096 ![0, 1, 2, 3] bcast_S2x4x4096x1_S2x4x4096x4096_0_1_2_3 (top x) : FVec F S2x4x4096x4096 .f32) : FVec F S2x4x4096x4096 .f32)
/-- The sink's exponential. -/
def sinkExp : FVec F S2x4x4096x1 .f32 :=
  Host.exp (subf (broadcastInDim S2x4x4096x1 ![0, 1, 2, 3] bcast_S2x4x1x1_S2x4x4096x1_0_1_2_3 (shapeCast S2x4x1x1 x.sk shapeCasts_S2x4_S2x4x1x1 : FVec F S2x4x1x1 .f32) : FVec F S2x4x4096x1 .f32) (top x) : FVec F S2x4x4096x1 .f32)
/-- The denominators. -/
def den : FVec F S2x4x4096x1 .f32 :=
  addf (broadcastInDim S2x4x4096x1 ![0, 1, 2] bcast_S2x4x4096_S2x4x4096x1_0_1_2 (Host.reduceAdd (expo x) (constant S_ .f32 0x00000000#32 : FVec F S_ .f32) reducesTo_S2x4x4096x4096_S2x4x4096_d3 h_S_ : FVec F S2x4x4096 .f32) : FVec F S2x4x4096x1 .f32) (sinkExp x)
/-- The attention weights. -/
def wgt : FVec F S2x4x4096x4096 .f32 :=
  Host.divf (expo x) (broadcastInDim S2x4x4096x4096 ![0, 1, 2, 3] bcast_S2x4x4096x1_S2x4x4096x4096_0_1_2_3 (den x) : FVec F S2x4x4096x4096 .f32)
/-- One over the square of the denominators. -/
def invSq : FVec F S2x4x4096x1 .f32 :=
  Host.divf (broadcastInDim S2x4x4096x1 ![] bcast_S_S2x4x4096x1 (constant S_ .f32 0x3F800000#32 : FVec F S_ .f32) : FVec F S2x4x4096x1 .f32) (mulf (den x) (den x) : FVec F S2x4x4096x1 .f32)
/-- The attention's output. -/
def out : FVec F S2x4x4096x128 .f32 :=
  Host.dotGeneral dot_S2x4x4096x4096_S2x4096x128_S2x4x4096x128_3_1_12_2_0_0 none (wgt x) x.v
/-- The log-sum-exp. -/
def lse : FVec F S2x4x4096x1 .f32 :=
  addf (top x) (Host.log (den x) : FVec F S2x4x4096x1 .f32)
/-- The values' gradient. -/
def dV : FVec F S2x4096x128 .f32 :=
  transpose S2x4096x128 [0, 2, 1] (Host.dotGeneral dot_S2x4x4096x128_S2x4x4096x4096_S2x128x4096_12_12_3_3_0_0 none x.dO (wgt x) : FVec F S2x128x4096 .f32) transposes_S2x128x4096_S2x4096x128_0_2_1
/-- The weights' gradient. -/
def dWgt : FVec F S2x4x4096x4096 .f32 :=
  Host.dotGeneral dot_S2x4x4096x128_S2x4096x128_S2x4x4096x4096_3_2_12_1_0_0 none x.dO x.v
/-- The denominators' gradient. -/
def dDen : FVec F S2x4x4096x1 .f32 :=
  Host.negf (shapeCast S2x4x4096x1 (Host.reduceAdd (mulf (mulf (dWgt x) (broadcastInDim S2x4x4096x4096 ![0, 1, 2, 3] bcast_S2x4x4096x1_S2x4x4096x4096_0_1_2_3 (invSq x) : FVec F S2x4x4096x4096 .f32) : FVec F S2x4x4096x4096 .f32) (expo x) : FVec F S2x4x4096x4096 .f32) (constant S_ .f32 0x00000000#32 : FVec F S_ .f32) reducesTo_S2x4x4096x4096_S2x4x4096_d3 h_S_ : FVec F S2x4x4096 .f32) shapeCasts_S2x4x4096_S2x4x4096x1 : FVec F S2x4x4096x1 .f32)
/-- The gradient through the sink's exponential. -/
def dSinkExp : FVec F S2x4x4096x1 .f32 :=
  mulf (dDen x) (sinkExp x)
/-- The gradient through the exponentials. -/
def dExpo : FVec F S2x4x4096x4096 .f32 :=
  mulf (addf (Host.divf (dWgt x) (broadcastInDim S2x4x4096x4096 ![0, 1, 2, 3] bcast_S2x4x4096x1_S2x4x4096x4096_0_1_2_3 (den x) : FVec F S2x4x4096x4096 .f32) : FVec F S2x4x4096x4096 .f32) (broadcastInDim S2x4x4096x4096 ![0, 1, 2] bcast_S2x4x4096_S2x4x4096x4096_0_1_2 (Host.reduceAdd (dDen x) (constant S_ .f32 0x00000000#32 : FVec F S_ .f32) reducesTo_S2x4x4096x1_S2x4x4096_d3 h_S_ : FVec F S2x4x4096 .f32) : FVec F S2x4x4096x4096 .f32) : FVec F S2x4x4096x4096 .f32) (expo x)
/-- The gradient of `top`. -/
def dTop : FVec F S2x4x4096x1 .f32 :=
  addf (Host.negf (dSinkExp x) : FVec F S2x4x4096x1 .f32) (shapeCast S2x4x4096x1 (Host.reduceAdd (Host.negf (dExpo x) : FVec F S2x4x4096x4096 .f32) (constant S_ .f32 0x00000000#32 : FVec F S_ .f32) reducesTo_S2x4x4096x4096_S2x4x4096_d3 h_S_ : FVec F S2x4x4096 .f32) shapeCasts_S2x4x4096_S2x4x4096x1 : FVec F S2x4x4096x1 .f32)
/-- What the row maximum passes on. -/
def dMax : FVec F S2x4x4096x4096 .f32 :=
  mulf (broadcastInDim S2x4x4096x4096 ![0, 1, 2] bcast_S2x4x4096_S2x4x4096x4096_0_1_2 (Host.divf (Host.reduceAdd (mulf (dTop x) (partM x) : FVec F S2x4x4096x1 .f32) (constant S_ .f32 0x00000000#32 : FVec F S_ .f32) reducesTo_S2x4x4096x1_S2x4x4096_d3 h_S_ : FVec F S2x4x4096 .f32) (nMax x) : FVec F S2x4x4096 .f32) : FVec F S2x4x4096x4096 .f32) (isMax x)
/-- The sinks' gradient. -/
def dSink : FVec F S2x4 .f32 :=
  shapeCast S2x4 (addf (shapeCast S2x4x1x1 (Host.reduceAdd (dSinkExp x) (constant S_ .f32 0x00000000#32 : FVec F S_ .f32) reducesTo_S2x4x4096x1_S2x4x1_d2 h_S_ : FVec F S2x4x1 .f32) shapeCasts_S2x4x1_S2x4x1x1 : FVec F S2x4x1x1 .f32) (shapeCast S2x4x1x1 (Host.reduceAdd (mulf (dTop x) (partS x) : FVec F S2x4x4096x1 .f32) (constant S_ .f32 0x00000000#32 : FVec F S_ .f32) reducesTo_S2x4x4096x1_S2x4x1_d2 h_S_ : FVec F S2x4x1 .f32) shapeCasts_S2x4x1_S2x4x1x1 : FVec F S2x4x1x1 .f32) : FVec F S2x4x1x1 .f32) shapeCasts_S2x4x1x1_S2x4
/-- The gradient of the unscaled scores. -/
def dScore : FVec F S2x4x4096x4096 .f32 :=
  mulf (select near (addf (dExpo x) (dMax x) : FVec F S2x4x4096x4096 .f32) (broadcastInDim S2x4x4096x4096 ![] bcast_S_S2x4x4096x4096 (constant S_ .f32 0x00000000#32 : FVec F S_ .f32) : FVec F S2x4x4096x4096 .f32) : FVec F S2x4x4096x4096 .f32) (broadcastInDim S2x4x4096x4096 ![] bcast_S_S2x4x4096x4096 (constant S_ .f32 0x3DB504F3#32 : FVec F S_ .f32) : FVec F S2x4x4096x4096 .f32)
/-- The keys' gradient. -/
def dK : FVec F S2x4096x128 .f32 :=
  Host.dotGeneral dot_S2x4x4096x4096_S2x4x4096x128_S2x4096x128_12_12_3_3_0_0 none (dScore x) x.q
/-- The queries' gradient. -/
def dQ : FVec F S2x4x4096x128 .f32 :=
  Host.dotGeneral dot_S2x4x4096x4096_S2x4096x128_S2x4x4096x128_3_1_12_2_0_0 none (dScore x) x.k
/-- The values' gradient as columns. -/
def dVcols : FVec F S4096x256 .f32 :=
  shapeCast S4096x256 (transpose S4096x2x128 [1, 0, 2] (dV x) transposes_S2x4096x128_S4096x2x128_1_0_2 : FVec F S4096x2x128 .f32) shapeCasts_S4096x2x128_S4096x256
/-- The keys' gradient as columns. -/
def dKcols : FVec F S4096x256 .f32 :=
  shapeCast S4096x256 (transpose S4096x2x128 [1, 0, 2] (dK x) transposes_S2x4096x128_S4096x2x128_1_0_2 : FVec F S4096x2x128 .f32) shapeCasts_S4096x2x128_S4096x256
/-- The queries' gradient as columns. -/
def dQcols : FVec F S4096x1024 .f32 :=
  shapeCast S4096x1024 (transpose S4096x2x4x128 [2, 0, 1, 3] (dQ x) transposes_S2x4x4096x128_S4096x2x4x128_2_0_1_3 : FVec F S4096x2x4x128 .f32) shapeCasts_S4096x2x4x128_S4096x1024
/-- The sinks' gradient in every lane. -/
def dSinkLanes : FVec F S8x1x128 .f32 :=
  broadcastInDim S8x1x128 ![0, 1, 2] bcast_S8x1x1_S8x1x128_0_1_2 (broadcastInDim S8x1x1 ![0] bcast_S8_S8x1x1_0 (shapeCast S8 (dSink x) shapeCasts_S2x4_S8 : FVec F S8 .f32) : FVec F S8x1x1 .f32)

/-- The arrays a device's arguments give. -/
def inOf (m : (ℓ : Loc nD τ sig) → Buf (Elt F) ℓ) (c : Dev nD) : In F where
  q := transpose S2x4x4096x128 [1, 2, 0, 3] (shapeCast S4096x2x4x128 (extractStridedSlice S4096x1024 ![0, 0] (m ((c.tc : Thread nD τ).loc main_arg0)) slices_S4096x3584_S4096x1024_0_0) shapeCasts_S4096x1024_S4096x2x4x128) transposes_S4096x2x4x128_S2x4x4096x128_1_2_0_3
  k := transpose S2x4096x128 [1, 0, 2] (shapeCast S4096x2x128 (extractStridedSlice S4096x256 ![0, 0] (m ((c.tc : Thread nD τ).loc main_arg1)) slices_S4096x2816_S4096x256_0_0) shapeCasts_S4096x256_S4096x2x128) transposes_S4096x2x128_S2x4096x128_1_0_2
  v := transpose S2x4096x128 [1, 0, 2] (shapeCast S4096x2x128 (extractStridedSlice S4096x256 ![0, 1280] (m ((c.tc : Thread nD τ).loc main_arg2)) slices_S4096x15360_S4096x256_0_1280) shapeCasts_S4096x256_S4096x2x128) transposes_S4096x2x128_S2x4096x128_1_0_2
  sk := shapeCast S2x4 (m ((c.tc : Thread nD τ).loc main_arg4)) shapeCasts_S8_S2x4
  dO := transpose S2x4x4096x128 [1, 2, 0, 3] (shapeCast S4096x2x4x128 (m ((c.tc : Thread nD τ).loc main_arg3)) shapeCasts_S4096x1024_S4096x2x4x128) transposes_S4096x2x4x128_S2x4x4096x128_1_2_0_3

variable (m : (ℓ : Loc nD τ sig) → Buf (Elt F) ℓ) (c : Dev nD)

theorem res_dQ : Value.res_main_v121 m c = concatenate S4096x3584 1 [⟨S4096x1024, dQcols (inOf m c)⟩,
    ⟨S4096x2560, extractStridedSlice S4096x2560 ![0, 1024] (m ((c.tc : Thread nD τ).loc main_arg5)) slices_S4096x3584_S4096x2560_0_1024⟩]
    concatenates_S4096x1024_S4096x2560_S4096x3584_d1 := rfl
theorem res_dK : Value.res_main_v123 m c = concatenate S4096x2816 1 [⟨S4096x256, dKcols (inOf m c)⟩,
    ⟨S4096x2560, extractStridedSlice S4096x2560 ![0, 256] (m ((c.tc : Thread nD τ).loc main_arg6)) slices_S4096x2816_S4096x2560_0_256⟩]
    concatenates_S4096x256_S4096x2560_S4096x2816_d1 := rfl
theorem res_dV : Value.res_main_v125 m c = concatenate S4096x2816 1 [⟨S4096x256, dVcols (inOf m c)⟩,
    ⟨S4096x2560, extractStridedSlice S4096x2560 ![0, 256] (m ((c.tc : Thread nD τ).loc main_arg7)) slices_S4096x2816_S4096x2560_0_256⟩]
    concatenates_S4096x256_S4096x2560_S4096x2816_d1 := rfl
theorem res_dSink : Value.res_main_v127 m c = dSinkLanes (inOf m c) := rfl

end Cert.ReferenceIdeal.Term

end
-- ==== Proof.Attn.Host.lean ====
module

public import proofs.«01_k».proof.Proof.Gen.KernelIdeal.Frame
public import proofs.«01_k».proof.Proof.Attn.RefTerm
public import Idealize.ShloMosaic.Lib.Pipeline.ValueKit
public import Idealize.ShloMosaic.Lib.Tactic.ValueTie

@[expose] public section

set_option maxRecDepth 16384

noncomputable section

namespace Cert.KernelIdeal.Body

open Cert.KernelIdeal Cert.KernelIdeal.Gen
open Idealize.ShloMosaic Idealize.ShloMosaic.TcCoe Idealize.SL.Sem Idealize.ShloMosaic.StableHlo
open Cert.ReferenceIdeal (Term.In)

/-! What the host lines put in front of the kernel: the output and the log-sum-exp of the reference's forward lines, the
sinks in every lane, and copies of the arrays written into. -/

variable (m : (ℓ : Loc nD τ sig) → Buf (Elt Ideal) ℓ) (c : Dev nD)

/-- The arrays a device's arguments give. -/
def kin : Cert.ReferenceIdeal.Term.In Ideal where
  q := transpose S2x4x4096x128 [1, 2, 0, 3] (shapeCast S4096x2x4x128 (extractStridedSlice S4096x1024 ![0, 0] (m ((c.tc : Thread nD τ).loc main_arg0)) slices_S4096x3584_S4096x1024_0_0) shapeCasts_S4096x1024_S4096x2x4x128) transposes_S4096x2x4x128_S2x4x4096x128_1_2_0_3
  k := transpose S2x4096x128 [1, 0, 2] (shapeCast S4096x2x128 (extractStridedSlice S4096x256 ![0, 0] (m ((c.tc : Thread nD τ).loc main_arg1)) slices_S4096x2816_S4096x256_0_0) shapeCasts_S4096x256_S4096x2x128) transposes_S4096x2x128_S2x4096x128_1_0_2
  v := transpose S2x4096x128 [1, 0, 2] (shapeCast S4096x2x128 (extractStridedSlice S4096x256 ![0, 1280] (m ((c.tc : Thread nD τ).loc main_arg2)) slices_S4096x15360_S4096x256_0_1280) shapeCasts_S4096x256_S4096x2x128) transposes_S4096x2x128_S2x4096x128_1_0_2
  sk := shapeCast S2x4 (m ((c.tc : Thread nD τ).loc main_arg4)) shapeCasts_S8_S2x4
  dO := transpose S2x4x4096x128 [1, 2, 0, 3] (shapeCast S4096x2x4x128 (m ((c.tc : Thread nD τ).loc main_arg3)) shapeCasts_S4096x1024_S4096x2x4x128) transposes_S4096x2x4x128_S2x4x4096x128_1_2_0_3

theorem host_arg0 : V m c main_arg0 = m ((c.tc : Thread nD τ).loc main_arg0) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_arg1 : V m c main_arg1 = m ((c.tc : Thread nD τ).loc main_arg1) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_arg2 : V m c main_arg2 = m ((c.tc : Thread nD τ).loc main_arg2) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_arg3 : V m c main_arg3 = m ((c.tc : Thread nD τ).loc main_arg3) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_arg4 : V m c main_arg4 = m ((c.tc : Thread nD τ).loc main_arg4) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_v50_0 : V m c main_v50_0 = m ((c.tc : Thread nD τ).loc main_arg5) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_v50_1 : V m c main_v50_1 = m ((c.tc : Thread nD τ).loc main_arg6) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_v50_2 : V m c main_v50_2 = m ((c.tc : Thread nD τ).loc main_arg7) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_v44 : V m c main_v44 = shapeCast S4096x1024 (transpose S4096x2x4x128 [2, 0, 1, 3] (Cert.ReferenceIdeal.Term.out (kin m c)) transposes_S2x4x4096x128_S4096x2x4x128_2_0_1_3) shapeCasts_S4096x2x4x128_S4096x1024 := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_v47 : V m c main_v47 = shapeCast S4096x1024 (transpose S4096x2x4x128 [2, 0, 1, 3] (broadcastInDim S2x4x4096x128 ![0, 1, 2, 3] bcast_S2x4x4096x1_S2x4x4096x128_0_1_2_3 (Cert.ReferenceIdeal.Term.lse (kin m c))) transposes_S2x4x4096x128_S4096x2x4x128_2_0_1_3) shapeCasts_S4096x2x4x128_S4096x1024 := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl
theorem host_v49 : V m c main_v49 = broadcastInDim S8x1x128 ![0, 1, 2] bcast_S8x1x1_S8x1x128_0_1_2 (broadcastInDim S8x1x1 ![0] bcast_S8_S8x1x1_0 (m ((c.tc : Thread nD τ).loc main_arg4))) := by
  unfold V
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp <;> rfl

end Cert.KernelIdeal.Body

end
-- ==== Proof.Attn.BlkRead.lean ====
module

public import proofs.«01_k».proof.Proof.Spec
public import Idealize.ShloMosaic.Lib.Pipeline.ValueKit
public import Idealize.ShloMosaic.Lib.Tactic.ValueTie

@[expose] public section

set_option maxRecDepth 16384

noncomputable section

namespace Cert.KernelIdeal.Body

open Cert.KernelIdeal Cert.KernelIdeal.Gen
open Idealize.ShloMosaic Idealize.ShloMosaic.TcCoe

/-! One block's payloads read at one element. -/

variable (M : IVec S256x512 1) (q dO o lse : Vec Ideal S256x128 .f32) (k v old : Vec Ideal S512x128 .f32)
variable (i : Fin 256) (j : Fin 512) (d : Fin 128)

/-- A row sum of the output with its gradient. -/
theorem delta_at : k0_pay10 dO o (ix2 (n0 := 256) (n1 := 1) i 0) = (∑ d, dO (ix2 (n0 := 256) (n1 := 128) i d) * o (ix2 (n0 := 256) (n1 := 128) i d) : EReal) := by unfold k0_pay10; pointwise
theorem lse_col_at : k0_pay9 lse (ix2 (n0 := 256) (n1 := 1) i 0) = lse (ix2 (n0 := 256) (n1 := 128) i 0) := by unfold k0_pay9; pointwise
/-- The weights, by the saved log-sum-exp. -/
theorem wgt_at : k0_pay12 M (k0_pay6 q) (k0_pay7 k) lse (ix2 (n0 := 256) (n1 := 512) i j) =
    Scalar.select (M (ix2 (n0 := 256) (n1 := 512) i j)) (Ideal.exp ((∑ d, q (ix2 (n0 := 256) (n1 := 128) i d) * k (ix2 (n0 := 512) (n1 := 128) j d)) * Ideal.ofBits .f32 0x3DB504F3#32 - lse (ix2 (n0 := 256) (n1 := 128) i 0))) 0 := by
  unfold k0_pay12 k0_pay6 k0_pay7 k0_pay9; pointwise
/-- The scores' gradient. -/
theorem score_at (P : FVec Ideal S256x512 .f32) (D : FVec Ideal S256x1 .f32) (hP : k0_pay12 M (k0_pay6 q) (k0_pay7 k) lse = P) (hD : k0_pay10 dO o = D) :
    k0_pay13 M (k0_pay6 q) (k0_pay7 k) (k0_pay8 v) dO lse o (ix2 (n0 := 256) (n1 := 512) i j) =
      (P (ix2 (n0 := 256) (n1 := 512) i j) * ((∑ d, dO (ix2 (n0 := 256) (n1 := 128) i d) * v (ix2 (n0 := 512) (n1 := 128) j d)) - D (ix2 (n0 := 256) (n1 := 1) i 0)) : EReal) := by
  unfold k0_pay13; rw [hP, hD]; unfold k0_pay11 k0_pay8; pointwise
theorem dqBlk_at (E : FVec Ideal S256x512 .bf16) (hE : k0_pay13 M (k0_pay6 q) (k0_pay7 k) (k0_pay8 v) dO lse o = E) :
    dqBlk M q dO o lse k v (ix2 (n0 := 256) (n1 := 128) i d) = ((∑ j, E (ix2 (n0 := 256) (n1 := 512) i j) * k (ix2 (n0 := 512) (n1 := 128) j d)) * Ideal.ofBits .f32 0x3DB504F3#32 : EReal) := by
  unfold dqBlk k0_pay14; rw [hE]; unfold k0_pay7; pointwise
theorem dkBlk_at (E : FVec Ideal S256x512 .bf16) (hE : k0_pay13 M (k0_pay6 q) (k0_pay7 k) (k0_pay8 v) dO lse o = E) :
    dkBlk M q dO o lse k v old (ix2 (n0 := 512) (n1 := 128) j d) = (old (ix2 (n0 := 512) (n1 := 128) j d) + (∑ i, E (ix2 (n0 := 256) (n1 := 512) i j) * q (ix2 (n0 := 256) (n1 := 128) i d)) * Ideal.ofBits .f32 0x3DB504F3#32 : EReal) := by
  unfold dkBlk k0_pay15; rw [hE]; unfold k0_pay6; pointwise
theorem dvBlk_at (P : FVec Ideal S256x512 .f32) (hP : k0_pay12 M (k0_pay6 q) (k0_pay7 k) lse = P) :
    dvBlk M q dO lse k old (ix2 (n0 := 512) (n1 := 128) j d) = (old (ix2 (n0 := 512) (n1 := 128) j d) + ∑ i, P (ix2 (n0 := 256) (n1 := 512) i j) * dO (ix2 (n0 := 256) (n1 := 128) i d) : EReal) := by
  unfold dvBlk k0_pay18 k0_pay17; rw [hP]; unfold k0_pay11 k0_pay16; pointwise
theorem dsBlk_at (sink sold : Vec Ideal S1x1x128 .f32) (L D : FVec Ideal S256x1 .f32) (hL : k0_pay9 lse = L) (hD : k0_pay10 dO o = D) :
    dsBlk dO o lse sink sold (ix3 (n0 := 1) (n1 := 1) (n2 := 128) 0 0 d) = (sold (ix3 (n0 := 1) (n1 := 1) (n2 := 128) 0 0 d) + ∑ i, (0 - Ideal.exp (sink (ix3 (n0 := 1) (n1 := 1) (n2 := 128) 0 0 0) - L (ix2 (n0 := 256) (n1 := 1) i 0))) * D (ix2 (n0 := 256) (n1 := 1) i 0) : EReal) := by
  unfold dsBlk; rw [hL, hD]; unfold k0_pay19; pointwise
end Cert.KernelIdeal.Body

end
-- ==== Proof.Attn.Reals.lean ====
module

public import Idealize.ShloMosaic.PureOps.Ideal
public import Mathlib.Analysis.SpecialFunctions.Log.Basic

@[expose] public section

noncomputable section

namespace Cert.Attn

/-! The attention and its gradient in real numbers: the equations between the two ways of writing it. -/

/-- What the attention reads, by key head, query head in its group, row and column; `T` is what each row's scores are lowered by. -/
structure Reals where
  /-- queries -/
  q : Fin 2 → Fin 4 → Fin 4096 → Fin 128 → ℝ
  /-- keys -/
  k : Fin 2 → Fin 4096 → Fin 128 → ℝ
  /-- values -/
  v : Fin 2 → Fin 4096 → Fin 128 → ℝ
  /-- sinks -/
  sk : Fin 2 → Fin 4 → ℝ
  /-- the output's gradient -/
  dO : Fin 2 → Fin 4 → Fin 4096 → Fin 128 → ℝ
  /-- the scores' scale -/
  κ : ℝ
  /-- what a row's scores are lowered by -/
  T : Fin 2 → Fin 4 → Fin 4096 → ℝ

/-- Two rows within the radius. -/
def Near (a b : ℕ) : Prop := b ≤ a + 128 ∧ a ≤ b + 128
instance (a b : ℕ) : Decidable (Near a b) := inferInstanceAs (Decidable (_ ∧ _))

namespace Reals
variable (A : Reals) (h : Fin 2) (g : Fin 4) (r c : Fin 4096)

def s : ℝ := (∑ d, A.q h g r d * A.k h c d) * A.κ
def p : ℝ := if Near r.val c.val then Real.exp (A.s h g r c - A.T h g r) else 0
def e : ℝ := Real.exp (A.sk h g - A.T h g r)
def den : ℝ := (∑ c, A.p h g r c) + A.e h g r
def w : ℝ := A.p h g r c * (1 / A.den h g r)
def dw : ℝ := ∑ d, A.dO h g r d * A.v h c d
def S : ℝ := ∑ c, A.dw h g r c * (1 / (A.den h g r * A.den h g r)) * A.p h g r c
def E : ℝ := (A.dw h g r c * (1 / A.den h g r) + -A.S h g r) * A.p h g r c
def o (d : Fin 128) : ℝ := ∑ c, A.w h g r c * A.v h c d
def lse : ℝ := A.T h g r + Real.log (A.den h g r)
/-- The row sum of the output with its gradient. -/
def delta : ℝ := ∑ d, A.dO h g r d * A.o h g r d

theorem p_nonneg : 0 ≤ A.p h g r c := by
  unfold p; split
  · exact (Real.exp_pos _).le
  · exact le_rfl

theorem den_pos : 0 < A.den h g r :=
  add_pos_of_nonneg_of_pos (Finset.sum_nonneg fun c _ => A.p_nonneg h g r c) (Real.exp_pos _)

theorem sum_dw_p : ∑ c, A.dw h g r c * (1 / A.den h g r) * A.p h g r c = A.den h g r * A.S h g r := by
  have hd := (A.den_pos h g r).ne'
  unfold S
  rw [Finset.mul_sum]
  refine Finset.sum_congr rfl fun c _ => ?_
  field_simp

theorem delta_eq : A.delta h g r = A.den h g r * A.S h g r := by
  rw [← sum_dw_p]
  unfold delta o dw w
  simp only [Finset.mul_sum, Finset.sum_mul]
  rw [Finset.sum_comm]
  refine Finset.sum_congr rfl fun c _ => Finset.sum_congr rfl fun d _ => ?_
  ring

/-- Nothing is passed on through what the scores are lowered by. -/
theorem dTop_eq : -(-A.S h g r * A.e h g r) + ∑ c, -A.E h g r c = 0 := by
  have h1 : ∑ c, -A.E h g r c = -(A.den h g r * A.S h g r) + A.S h g r * ∑ c, A.p h g r c := by
    rw [← sum_dw_p, Finset.mul_sum, ← Finset.sum_neg_distrib, ← Finset.sum_add_distrib]
    refine Finset.sum_congr rfl fun c _ => ?_
    unfold E; ring
  have h2 : ∑ c, A.p h g r c = A.den h g r - A.e h g r := by unfold den; ring
  rw [h1, h2]; ring

theorem exp_lse (a : ℝ) : Real.exp (a - A.lse h g r) = Real.exp (a - A.T h g r) * (1 / A.den h g r) := by
  unfold lse
  rw [← sub_sub, Real.exp_sub _ (Real.log _), Real.exp_log (A.den_pos h g r), mul_one_div]

theorem w_eq : (if Near r.val c.val then Real.exp (A.s h g r c - A.lse h g r) else 0) = A.w h g r c := by
  unfold w p
  split
  · rw [exp_lse]
  · rw [zero_mul]

theorem E_eq : A.w h g r c * (A.dw h g r c - A.delta h g r) = A.E h g r c := by
  have hd := (A.den_pos h g r).ne'
  rw [delta_eq]; unfold w E
  field_simp
  ring

theorem sink_eq : (0 - Real.exp (A.sk h g - A.lse h g r)) * A.delta h g r = -A.S h g r * A.e h g r := by
  have hd := (A.den_pos h g r).ne'
  rw [exp_lse, delta_eq]; unfold e
  field_simp
  ring

theorem E_far (hn : ¬ Near r.val c.val) : A.E h g r c = 0 := by unfold E p; rw [if_neg hn, mul_zero]
theorem w_far (hn : ¬ Near r.val c.val) : A.w h g r c = 0 := by unfold w p; rw [if_neg hn, zero_mul]

end Reals

/-- A sum of real numbers is the real number of the sum. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Attn

end
-- ==== Proof.Attn.Band.lean ====
module

public import proofs.«01_k».proof.Proof.Attn.Reals
public import Idealize.ShloMosaic.PureOps.Float
public import Mathlib.Tactic.Linarith

@[expose] public section

namespace Cert.Attn

open Idealize.ShloMosaic

/-! The band's test on 32-bit words, and the numbers the programs' constants stand for. -/

theorem sle_128 (n : ℕ) (hn : n < 8192) : (BitVec.ofNat 32 n).sle 128#32 = decide (n ≤ 128) := by
  have h1 : (BitVec.ofNat 32 n).toInt = (n : ℤ) := by
    rw [BitVec.toInt_eq_toNat_cond, BitVec.toNat_ofNat, Nat.mod_eq_of_lt (by omega), if_pos (by omega)]
  rw [BitVec.sle, h1]
  have h2 : (128#32 : BitVec 32).toInt = 128 := by decide
  rw [h2]
  exact decide_eq_decide.mpr (by omega)

theorem absi_sub (a b : ℕ) (ha : a < 8192) (hb : b < 8192) :
    IntOp.absi (IntOp.subi (BitVec.ofNat 32 a) (BitVec.ofNat 32 b)) = BitVec.ofNat 32 (if b ≤ a then a - b else b - a) := by
  unfold IntOp.absi IntOp.subi
  by_cases h : b ≤ a
  · have e : BitVec.ofNat 32 a - BitVec.ofNat 32 b = BitVec.ofNat 32 (a - b) := by
      apply BitVec.eq_of_toNat_eq
      rw [BitVec.toNat_sub, BitVec.toNat_ofNat, BitVec.toNat_ofNat, BitVec.toNat_ofNat]
      omega
    rw [if_pos h, e, if_neg]
    rw [BitVec.msb_eq_decide, BitVec.toNat_ofNat, decide_eq_true_eq]
    omega
  · have e : BitVec.ofNat 32 a - BitVec.ofNat 32 b = -BitVec.ofNat 32 (b - a) := by
      apply BitVec.eq_of_toNat_eq
      rw [BitVec.toNat_sub, BitVec.toNat_neg, BitVec.toNat_ofNat, BitVec.toNat_ofNat, BitVec.toNat_ofNat]
      omega
    rw [if_neg h, e, if_pos, BitVec.neg_neg]
    rw [BitVec.msb_eq_decide, BitVec.toNat_neg, BitVec.toNat_ofNat, decide_eq_true_eq]
    omega

/-- The words' test is the test on the rows. -/
theorem near_word (a b : ℕ) (ha : a < 8192) (hb : b < 8192) :
    IntOp.cmpi .sle (IntOp.absi (IntOp.subi (BitVec.ofNat 32 b) (BitVec.ofNat 32 a))) 128#32 = if Near a b then 1#1 else 0#1 := by
  rw [absi_sub b a hb ha]
  show BitVec.ofBool ((BitVec.ofNat 32 _).sle 128#32) = _
  rw [sle_128 _ (by split <;> omega)]
  by_cases h : Near a b
  · rw [if_pos h, decide_eq_true]
    · rfl
    · unfold Near at h; split <;> omega
  · rw [if_neg h, decide_eq_false]
    · rfl
    · unfold Near at h; split <;> omega

theorem select_near (a b : ℕ) {α : Type} (y z : α) :
    Scalar.select (if Near a b then 1#1 else 0#1) y z = if Near a b then y else z := by
  unfold Scalar.select
  by_cases h : Near a b
  · simp only [if_pos h]; rfl
  · simp only [if_neg h]; rfl

/-- The pattern of −∞. -/
theorem ofBits_bot : Ideal.ofBits FTy.f32 0xFF800000#32 = (⊥ : EReal) := by
  simp [Ideal.ofBits, Ideal.ieee]

/-- The scale is a real number. -/
theorem scale_real : Ideal.ofBits FTy.f32 0x3DB504F3#32 = (((Ideal.ofBits FTy.f32 0x3DB504F3#32 : EReal).toReal : ℝ) : EReal) := by
  have h : ∃ y : ℝ, Ideal.ofBits FTy.f32 0x3DB504F3#32 = (y : EReal) := by
    simp only [Ideal.ofBits, Ideal.ieee]
    rw [if_neg (by decide), if_neg (by decide)]
    exact ⟨_, rfl⟩
  obtain ⟨y, hy⟩ := h
  rw [hy, EReal.toReal_coe]

end Cert.Attn
-- ==== Proof.Attn.BlkVal.lean ====
module

public import proofs.«01_k».proof.Proof.Attn.BlkRead
public import proofs.«01_k».proof.Proof.Attn.Band
public import Idealize.ShloMosaic.PureOps.Ideal.Laws
public import Mathlib.Data.EReal.Operations

@[expose] public section

set_option maxRecDepth 16384

noncomputable section

namespace Cert.KernelIdeal.Body

open Cert.KernelIdeal Cert.KernelIdeal.Gen
open Idealize.ShloMosaic Idealize.ShloMosaic.TcCoe
open Cert.Attn (Reals Near coe_sum)

/-! One block's results where its arrays hold real numbers: the rows `R` of the queries and the rows `C` of the keys. -/

variable (A : Reals) (h : Fin 2) (g : Fin 4) (R : Fin 256 → Fin 4096) (C : Fin 512 → Fin 4096)

/-- What a block's arrays hold. -/
structure BlkHas (M : IVec S256x512 1) (q dO o lse : Vec Ideal S256x128 .f32) (k v : Vec Ideal S512x128 .f32) : Prop where
  M : ∀ i j, M (ix2 (n0 := 256) (n1 := 512) i j) = if Near (R i).val (C j).val then 1#1 else 0#1
  q : ∀ i d, q (ix2 (n0 := 256) (n1 := 128) i d) = ((A.q h g (R i) d : ℝ) : EReal)
  dO : ∀ i d, dO (ix2 (n0 := 256) (n1 := 128) i d) = ((A.dO h g (R i) d : ℝ) : EReal)
  o : ∀ i d, o (ix2 (n0 := 256) (n1 := 128) i d) = ((A.o h g (R i) d : ℝ) : EReal)
  lse : ∀ i, lse (ix2 (n0 := 256) (n1 := 128) i 0) = ((A.lse h g (R i) : ℝ) : EReal)
  k : ∀ j d, k (ix2 (n0 := 512) (n1 := 128) j d) = ((A.k h (C j) d : ℝ) : EReal)
  v : ∀ j d, v (ix2 (n0 := 512) (n1 := 128) j d) = ((A.v h (C j) d : ℝ) : EReal)
  κ : Ideal.ofBits .f32 0x3DB504F3#32 = ((A.κ : ℝ) : EReal)

variable {A h g R C} {M : IVec S256x512 1} {q dO o lse : Vec Ideal S256x128 .f32} {k v : Vec Ideal S512x128 .f32}
variable (H : BlkHas A h g R C M q dO o lse k v) (i : Fin 256) (j : Fin 512) (d : Fin 128)
include H

theorem delta_val : k0_pay10 dO o (ix2 (n0 := 256) (n1 := 1) i 0) = ((A.delta h g (R i) : ℝ) : EReal) := by
  rw [delta_at]; simp only [H.dO, H.o, ← EReal.coe_mul, ← coe_sum]; rfl
theorem wgt_val : k0_pay12 M (k0_pay6 q) (k0_pay7 k) lse (ix2 (n0 := 256) (n1 := 512) i j) = ((A.w h g (R i) (C j) : ℝ) : EReal) := by
  rw [wgt_at, H.M, Cert.Attn.select_near, H.κ, H.lse]
  simp only [H.q, H.k, ← EReal.coe_mul, ← coe_sum]
  rw [← EReal.coe_sub, Ideal.exp_coe, ← A.w_eq]
  by_cases hn : Near (R i).val (C j).val
  · rw [if_pos hn, if_pos hn]; rfl
  · rw [if_neg hn, if_neg hn, EReal.coe_zero]
theorem score_val : k0_pay13 M (k0_pay6 q) (k0_pay7 k) (k0_pay8 v) dO lse o (ix2 (n0 := 256) (n1 := 512) i j) = ((A.E h g (R i) (C j) : ℝ) : EReal) := by
  rw [score_at M q dO o lse k v i j _ _ rfl rfl, wgt_val H, delta_val H]
  simp only [H.dO, H.v, ← EReal.coe_mul, ← coe_sum]
  rw [← EReal.coe_sub, ← EReal.coe_mul, ← A.E_eq]; rfl
theorem dqBlk_val : dqBlk M q dO o lse k v (ix2 (n0 := 256) (n1 := 128) i d) = (((∑ j, A.E h g (R i) (C j) * A.k h (C j) d) * A.κ : ℝ) : EReal) := by
  rw [dqBlk_at M q dO o lse k v i d _ rfl, H.κ]
  simp only [score_val H, H.k, ← EReal.coe_mul, ← coe_sum]
theorem dkBlk_val (old : Vec Ideal S512x128 .f32) (y : ℝ) (hy : old (ix2 (n0 := 512) (n1 := 128) j d) = (y : EReal)) :
    dkBlk M q dO o lse k v old (ix2 (n0 := 512) (n1 := 128) j d) = ((y + (∑ i, A.E h g (R i) (C j) * A.q h g (R i) d) * A.κ : ℝ) : EReal) := by
  rw [dkBlk_at M q dO o lse k v old j d _ rfl, H.κ, hy]
  simp only [score_val H, H.q, ← EReal.coe_mul, ← coe_sum, ← EReal.coe_add]
theorem dvBlk_val (old : Vec Ideal S512x128 .f32) (y : ℝ) (hy : old (ix2 (n0 := 512) (n1 := 128) j d) = (y : EReal)) :
    dvBlk M q dO lse k old (ix2 (n0 := 512) (n1 := 128) j d) = ((y + ∑ i, A.w h g (R i) (C j) * A.dO h g (R i) d : ℝ) : EReal) := by
  rw [dvBlk_at M q dO lse k old j d _ rfl, hy]
  simp only [wgt_val H, H.dO, ← EReal.coe_mul, ← coe_sum, ← EReal.coe_add]
theorem dsBlk_val (sink sold : Vec Ideal S1x1x128 .f32) (hs : sink (ix3 (n0 := 1) (n1 := 1) (n2 := 128) 0 0 0) = ((A.sk h g : ℝ) : EReal)) (y : ℝ) (hy : sold (ix3 (n0 := 1) (n1 := 1) (n2 := 128) 0 0 d) = (y : EReal)) :
    dsBlk dO o lse sink sold (ix3 (n0 := 1) (n1 := 1) (n2 := 128) 0 0 d) = ((y + ∑ i, -A.S h g (R i) * A.e h g (R i) : ℝ) : EReal) := by
  rw [dsBlk_at dO o lse d sink sold _ _ rfl rfl, hy, hs]
  simp only [delta_val H, lse_col_at, H.lse, ← EReal.coe_sub, Ideal.exp_coe]
  simp only [← EReal.coe_zero, ← EReal.coe_sub, ← EReal.coe_mul, ← coe_sum, ← EReal.coe_add, A.sink_eq]

end Cert.KernelIdeal.Body

end
-- ==== Proof.Attn.Point.lean ====
module

public import proofs.«01_k».proof.Proof.Attn.BlkVal
public import Mathlib.Algebra.BigOperators.Fin

@[expose] public section

set_option maxRecDepth 16384

noncomputable section

namespace Cert.KernelIdeal.Body

open Cert.KernelIdeal Cert.KernelIdeal.Gen
open Idealize.ShloMosaic Idealize.ShloMosaic.TcCoe
open Cert.Attn (Reals Near coe_sum)

/-! One grid point's results where its arrays hold real numbers. -/

/-- Row `y` of the queries of step `p`. -/
def stepRow (p : Fin 2) (y : Fin 2048) : Fin 4096 := ⟨p.val * 2048 + y.val, by omega⟩
/-- Query `i` of block `s`. -/
def blkRow (s : Fin 8) (i : Fin 256) : Fin 2048 := ⟨256 * s.val + i.val, by omega⟩
/-- Key `j` of the window of block `s`, step `p`. -/
def winCol (p : Fin 2) (s : Fin 8) (j : Fin 512) : Fin 4096 := ⟨winRow p.val s.val + j.val, by have := winRow_le p.val s.val; omega⟩

theorem word_row : ∀ p : Fin 2, ∀ s : Fin 8, Scalar.muli (Scalar.addi (Scalar.muli (BitVec.ofNat 32 p.val) 8#32) (BitVec.ofNat 32 s.val)) 256#32
    = BitVec.ofNat 32 (p.val * 2048 + 256 * s.val) := by decide
theorem word_win : ∀ p : Fin 2, ∀ s : Fin 8, Scalar.minsi (3584#32) (Scalar.maxsi (0#32) (Scalar.subi (Scalar.muli (Scalar.addi (Scalar.muli (BitVec.ofNat 32 p.val) 8#32) (BitVec.ofNat 32 s.val)) 256#32) 128#32))
    = BitVec.ofNat 32 (winRow p.val s.val) := by decide

theorem mask_val (p : Fin 2) (s : Fin 8) (i : Fin 256) (j : Fin 512) :
    mask p.val s.val (ix2 (n0 := 256) (n1 := 512) i j) = if Near (stepRow p (blkRow s i)).val (winCol p s j).val then 1#1 else 0#1 := by
  have h1 : mask p.val s.val (ix2 (n0 := 256) (n1 := 512) i j) = IntOp.cmpi .sle (IntOp.absi (IntOp.subi (BitVec.ofNat 32 (winRow p.val s.val + j.val)) (BitVec.ofNat 32 (p.val * 2048 + 256 * s.val + i.val)))) 128#32 := by
    rw [BitVec.ofNat_add, BitVec.ofNat_add (p.val * 2048 + 256 * s.val), ← word_row, ← word_win]
    unfold mask; pointwise; simp only [IntOp.addi]
  rw [h1, Cert.Attn.near_word (p.val * 2048 + 256 * s.val + i.val) _ (by omega) (by have := winRow_le p.val s.val; omega)]
  have : (stepRow p (blkRow s i)).val = p.val * 2048 + 256 * s.val + i.val := by unfold stepRow blkRow; simp only; omega
  rw [this]; rfl

/-- A row of a block and a row outside its window are further apart than the radius. -/
theorem far_of_out (p : Fin 2) (s : Fin 8) (i : Fin 256) (c : Fin 4096) (hc : ¬(winRow p.val s.val ≤ c.val ∧ c.val < winRow p.val s.val + 512)) :
    ¬ Near (stepRow p (blkRow s i)).val c.val := by
  unfold Near stepRow blkRow winRow at *
  simp only at *
  omega

section Point
variable (A : Reals) (h : Fin 2) (g : Fin 4) (p : Fin 2)

/-- What a grid point's arrays hold. -/
structure PtHas (x3 x6 x7 x8 : Vec Ideal S2048x128 .f32) (x4 x5 : Vec Ideal S4096x128 .f32) (x9 : Vec Ideal S1x1x128 .f32) : Prop where
  q : ∀ y d, x3 (ix2 (n0 := 2048) (n1 := 128) y d) = ((A.q h g (stepRow p y) d : ℝ) : EReal)
  dO : ∀ y d, x6 (ix2 (n0 := 2048) (n1 := 128) y d) = ((A.dO h g (stepRow p y) d : ℝ) : EReal)
  o : ∀ y d, x7 (ix2 (n0 := 2048) (n1 := 128) y d) = ((A.o h g (stepRow p y) d : ℝ) : EReal)
  lse : ∀ y, x8 (ix2 (n0 := 2048) (n1 := 128) y 0) = ((A.lse h g (stepRow p y) : ℝ) : EReal)
  k : ∀ c d, x4 (ix2 (n0 := 4096) (n1 := 128) c d) = ((A.k h c d : ℝ) : EReal)
  v : ∀ c d, x5 (ix2 (n0 := 4096) (n1 := 128) c d) = ((A.v h c d : ℝ) : EReal)
  sk : x9 (ix3 (n0 := 1) (n1 := 1) (n2 := 128) 0 0 0) = ((A.sk h g : ℝ) : EReal)
  κ : Ideal.ofBits .f32 0x3DB504F3#32 = ((A.κ : ℝ) : EReal)

/-- What block `s` adds to the keys' gradient, to the values' and to the sink's. -/
def dkAdd (s : Fin 8) (c : Fin 4096) (d : Fin 128) : ℝ := (∑ i, A.E h g (stepRow p (blkRow s i)) c * A.q h g (stepRow p (blkRow s i)) d) * A.κ
def dvAdd (s : Fin 8) (c : Fin 4096) (d : Fin 128) : ℝ := ∑ i, A.w h g (stepRow p (blkRow s i)) c * A.dO h g (stepRow p (blkRow s i)) d
def dsAdd (s : Fin 8) : ℝ := ∑ i, -A.S h g (stepRow p (blkRow s i)) * A.e h g (stepRow p (blkRow s i))

variable {A h g p} {x3 x6 x7 x8 : Vec Ideal S2048x128 .f32} {x4 x5 : Vec Ideal S4096x128 .f32} {x9 : Vec Ideal S1x1x128 .f32}
variable (H : PtHas A h g p x3 x6 x7 x8 x4 x5 x9)
include H

theorem blkHas (s : Fin 8) : BlkHas A h g (fun i => stepRow p (blkRow s i)) (winCol p s) (mask p.val s.val) (rows s x3) (rows s x6) (rows s x7) (rows s x8)
    (win (winRow p.val s.val) (winRow_le _ _) x4) (win (winRow p.val s.val) (winRow_le _ _) x5) where
  M := mask_val p s
  q i d := H.q (blkRow s i) d
  dO i d := H.dO (blkRow s i) d
  o i d := H.o (blkRow s i) d
  lse i := H.lse (blkRow s i)
  k j d := H.k (winCol p s j) d
  v j d := H.v (winCol p s j) d
  κ := H.κ

theorem dkStep_val (s : Fin 8) (x : Vec Ideal S4096x128 .f32) (G : Fin 4096 → Fin 128 → ℝ) (hG : ∀ c d, x (ix2 (n0 := 4096) (n1 := 128) c d) = ((G c d : ℝ) : EReal)) (c : Fin 4096) (d : Fin 128) :
    dkStep p.val x3 x6 x7 x8 x4 x5 s x (ix2 (n0 := 4096) (n1 := 128) c d) = ((G c d + dkAdd A h g p s c d : ℝ) : EReal) := by
  unfold dkStep upd
  by_cases hc : winRow p.val s.val ≤ c.val ∧ c.val < winRow p.val s.val + 512
  · refine (dif_pos hc).trans ?_
    have hj : winCol p s ⟨c.val - winRow p.val s.val, by omega⟩ = c := Fin.ext (by unfold winCol; simp only; omega)
    refine (dkBlk_val (blkHas H s) ⟨c.val - winRow p.val s.val, by omega⟩ d _ (G c d) ?_).trans ?_
    · exact (congrArg (fun c => x (ix2 (n0 := 4096) (n1 := 128) c d)) hj).trans (hG c d)
    · rw [hj]; rfl
  · refine ((dif_neg hc).trans (hG c d)).trans ?_
    unfold dkAdd
    simp only [A.E_far h g _ c (far_of_out p s _ c hc), zero_mul, Finset.sum_const_zero, add_zero]

theorem dvStep_val (s : Fin 8) (x : Vec Ideal S4096x128 .f32) (G : Fin 4096 → Fin 128 → ℝ) (hG : ∀ c d, x (ix2 (n0 := 4096) (n1 := 128) c d) = ((G c d : ℝ) : EReal)) (c : Fin 4096) (d : Fin 128) :
    dvStep p.val x3 x6 x8 x4 s x (ix2 (n0 := 4096) (n1 := 128) c d) = ((G c d + dvAdd A h g p s c d : ℝ) : EReal) := by
  unfold dvStep upd
  by_cases hc : winRow p.val s.val ≤ c.val ∧ c.val < winRow p.val s.val + 512
  · refine (dif_pos hc).trans ?_
    have hj : winCol p s ⟨c.val - winRow p.val s.val, by omega⟩ = c := Fin.ext (by unfold winCol; simp only; omega)
    refine (dvBlk_val (blkHas H s) ⟨c.val - winRow p.val s.val, by omega⟩ d _ (G c d) ?_).trans ?_
    · exact (congrArg (fun c => x (ix2 (n0 := 4096) (n1 := 128) c d)) hj).trans (hG c d)
    · rw [hj]; rfl
  · refine ((dif_neg hc).trans (hG c d)).trans ?_
    unfold dvAdd
    simp only [A.w_far h g _ c (far_of_out p s _ c hc), zero_mul, Finset.sum_const_zero, add_zero]

theorem dsStep_val (s : Fin 8) (x : Vec Ideal S1x1x128 .f32) (G : Fin 128 → ℝ) (hG : ∀ d, x (ix3 (n0 := 1) (n1 := 1) (n2 := 128) 0 0 d) = ((G d : ℝ) : EReal)) (d : Fin 128) :
    dsStep x6 x7 x8 x9 s x (ix3 (n0 := 1) (n1 := 1) (n2 := 128) 0 0 d) = ((G d + dsAdd A h g p s : ℝ) : EReal) :=
  dsBlk_val (blkHas H s) d x9 x H.sk (G d) (hG d)

/-- The queries' gradient sums over every key: those outside the window add nothing. -/
theorem dqOut_val (y : Fin 2048) (d : Fin 128) :
    dqOut p.val x3 x6 x7 x8 x4 x5 (ix2 (n0 := 2048) (n1 := 128) y d) = (((∑ c, A.E h g (stepRow p y) c * A.k h c d) * A.κ : ℝ) : EReal) := by
  have hs : blkRow ⟨y.val / 256, by omega⟩ ⟨y.val % 256, by omega⟩ = y := Fin.ext (by unfold blkRow; simp only; omega)
  refine (dqBlk_val (blkHas H ⟨y.val / 256, by omega⟩) ⟨y.val % 256, by omega⟩ d).trans ?_
  simp only [hs]
  have hinj : Function.Injective (winCol p ⟨y.val / 256, by omega⟩) := fun a b hab => Fin.ext (by
    have := congrArg Fin.val hab; unfold winCol at this; simp only at this; omega)
  have key : ∑ j, A.E h g (stepRow p y) (winCol p ⟨y.val / 256, by omega⟩ j) * A.k h (winCol p ⟨y.val / 256, by omega⟩ j) d = ∑ c, A.E h g (stepRow p y) c * A.k h c d := by
    refine Finset.sum_of_injOn _ hinj.injOn (fun _ _ => Finset.mem_univ _) (fun c _ hc => ?_) (fun _ _ => rfl)
    rw [A.E_far, zero_mul]
    rw [← hs]
    refine far_of_out p _ _ c fun hin => hc ?_
    have h1 : winRow p.val (y.val / 256) ≤ c.val := hin.1
    have h2 : c.val < winRow p.val (y.val / 256) + 512 := hin.2
    refine ⟨⟨c.val - winRow p.val (y.val / 256), by omega⟩, Finset.mem_coe.mpr (Finset.mem_univ _), Fin.ext ?_⟩
    show winRow p.val (y.val / 256) + (c.val - winRow p.val (y.val / 256)) = c.val
    omega
  rw [key]

end Point

/-! The eight blocks in turn. -/

theorem eight_rel {α β : Type} (P : α → β → Prop) (f : Fin 8 → α → α) (f' : Fin 8 → β → β) (hf : ∀ s x y, P x y → P (f s x) (f' s y)) (x : α) (y : β)
    (h0 : P x y) : P (eight f x) (eight f' y) := by
  unfold eight
  exact hf 7 _ _ (hf 6 _ _ (hf 5 _ _ (hf 4 _ _ (hf 3 _ _ (hf 2 _ _ (hf 1 _ _ (hf 0 _ _ h0)))))))

theorem eight_add (K : Fin 8 → ℝ) (G : ℝ) : eight (fun s G => G + K s) G = G + ∑ s, K s := by
  unfold eight
  rw [Fin.sum_univ_eight]; ring

theorem eight_app {ι : Type} (K : Fin 8 → ι → ℝ) (G : ι → ℝ) : eight (fun s G => fun i => G i + K s i) G = fun i => G i + ∑ s, K s i := by
  funext i
  unfold eight
  rw [Fin.sum_univ_eight]; ring

section Sums
variable {A : Reals} {h : Fin 2} {g : Fin 4} {p : Fin 2} {x3 x6 x7 x8 : Vec Ideal S2048x128 .f32} {x4 x5 : Vec Ideal S4096x128 .f32} {x9 : Vec Ideal S1x1x128 .f32}
variable (H : PtHas A h g p x3 x6 x7 x8 x4 x5 x9)
include H

theorem dkOut_val (x : Vec Ideal S4096x128 .f32) (G : Fin 4096 × Fin 128 → ℝ) (hG : ∀ c d, x (ix2 (n0 := 4096) (n1 := 128) c d) = ((G (c, d) : ℝ) : EReal)) (c : Fin 4096) (d : Fin 128) :
    dkOut p.val x3 x6 x7 x8 x4 x5 x (ix2 (n0 := 4096) (n1 := 128) c d) = ((G (c, d) + ∑ s, dkAdd A h g p s c d : ℝ) : EReal) := by
  have := eight_rel (fun (x : Vec Ideal S4096x128 .f32) (G : Fin 4096 × Fin 128 → ℝ) => ∀ c d, x (ix2 (n0 := 4096) (n1 := 128) c d) = ((G (c, d) : ℝ) : EReal))
    (dkStep p.val x3 x6 x7 x8 x4 x5) (fun s G i => G i + dkAdd A h g p s i.1 i.2)
    (fun s x G hx => dkStep_val H s x (fun c d => G (c, d)) hx) x G hG c d
  rw [eight_app (fun s (i : Fin 4096 × Fin 128) => dkAdd A h g p s i.1 i.2)] at this
  exact this
theorem dvOut_val (x : Vec Ideal S4096x128 .f32) (G : Fin 4096 × Fin 128 → ℝ) (hG : ∀ c d, x (ix2 (n0 := 4096) (n1 := 128) c d) = ((G (c, d) : ℝ) : EReal)) (c : Fin 4096) (d : Fin 128) :
    dvOut p.val x3 x6 x8 x4 x (ix2 (n0 := 4096) (n1 := 128) c d) = ((G (c, d) + ∑ s, dvAdd A h g p s c d : ℝ) : EReal) := by
  have := eight_rel (fun (x : Vec Ideal S4096x128 .f32) (G : Fin 4096 × Fin 128 → ℝ) => ∀ c d, x (ix2 (n0 := 4096) (n1 := 128) c d) = ((G (c, d) : ℝ) : EReal))
    (dvStep p.val x3 x6 x8 x4) (fun s G i => G i + dvAdd A h g p s i.1 i.2)
    (fun s x G hx => dvStep_val H s x (fun c d => G (c, d)) hx) x G hG c d
  rw [eight_app (fun s (i : Fin 4096 × Fin 128) => dvAdd A h g p s i.1 i.2)] at this
  exact this
theorem dsOut_val (x : Vec Ideal S1x1x128 .f32) (G : Fin 128 → ℝ) (hG : ∀ d, x (ix3 (n0 := 1) (n1 := 1) (n2 := 128) 0 0 d) = ((G d : ℝ) : EReal)) (d : Fin 128) :
    dsOut x6 x7 x8 x9 x (ix3 (n0 := 1) (n1 := 1) (n2 := 128) 0 0 d) = ((G d + ∑ s, dsAdd A h g p s : ℝ) : EReal) := by
  have := eight_rel (fun (x : Vec Ideal S1x1x128 .f32) (G : Fin 128 → ℝ) => ∀ d, x (ix3 (n0 := 1) (n1 := 1) (n2 := 128) 0 0 d) = ((G d : ℝ) : EReal))
    (dsStep x6 x7 x8 x9) (fun s G i => G i + dsAdd A h g p s)
    (fun s x G hx => dsStep_val H s x G hx) x G hG d
  rw [eight_app (fun s (_ : Fin 128) => dsAdd A h g p s)] at this
  exact this

end Sums

end Cert.KernelIdeal.Body

end
-- ==== Proof.Attn.RefRead.lean ====
module

public import proofs.«01_k».proof.Proof.Attn.RefTerm
public import Idealize.ShloMosaic.Lib.Pipeline.ValueKit
public import Idealize.ShloMosaic.Lib.Tactic.ValueTie

@[expose] public section

set_option maxRecDepth 16384

noncomputable section

namespace Cert.ReferenceIdeal.Term

open Cert.ReferenceIdeal Cert.ReferenceIdeal.Gen Idealize.ShloMosaic
open Idealize.ShloMosaic.TcCoe Idealize.SL.Sem Idealize.ShloMosaic.StableHlo

variable (x : In Ideal) (h : Fin 2) (g : Fin 4) (r c : Fin 4096) (d : Fin 128)

/-! Each of the reference's steps read at one element. -/

theorem addf_elt {s : Shape} (a b : FVec Ideal s .f32) (j : s.Idx) : addf a b j = ((a j : EReal) + b j : EReal) := rfl
theorem mulf_elt {s : Shape} (a b : FVec Ideal s .f32) (j : s.Idx) : mulf a b j = ((a j : EReal) * b j : EReal) := rfl
theorem max_elt {s : Shape} (a b : FVec Ideal s .f32) (j : s.Idx) : maximumf a b j = (max (a j : EReal) (b j) : EReal) := rfl
theorem div_elt {s : Shape} (a b : FVec Ideal s .f32) (j : s.Idx) : Host.divf a b j = Ideal.div (a j) (b j) := rfl
theorem log_elt {s : Shape} (a : FVec Ideal s .f32) (j : s.Idx) : Host.log a j = Ideal.log (a j) := rfl

theorem score_at : score x (ix4 (n0 := 2) (n1 := 4) (n2 := 4096) (n3 := 4096) h g r c) = (∑ d, x.q (ix4 (n0 := 2) (n1 := 4) (n2 := 4096) (n3 := 128) h g r d) * x.k (ix3 (n0 := 2) (n1 := 4096) (n2 := 128) h c d)) * Ideal.ofBits .f32 0x3DB504F3#32 := by
  unfold score; pointwise
theorem near_at : near (ix4 (n0 := 2) (n1 := 4) (n2 := 4096) (n3 := 4096) h g r c) = IntOp.cmpi .sle (IntOp.absi (IntOp.subi (BitVec.ofNat 32 c.val) (BitVec.ofNat 32 r.val))) 128#32 := by
  unfold near; pointwise
theorem masked_at : masked x (ix4 (n0 := 2) (n1 := 4) (n2 := 4096) (n3 := 4096) h g r c) = Scalar.select (near (ix4 (n0 := 2) (n1 := 4) (n2 := 4096) (n3 := 4096) h g r c)) (score x (ix4 (n0 := 2) (n1 := 4) (n2 := 4096) (n3 := 4096) h g r c)) (Ideal.ofBits .f32 0xFF800000#32) := by
  unfold masked; pointwise
theorem isMax_at : isMax x (ix4 (n0 := 2) (n1 := 4) (n2 := 4096) (n3 := 4096) h g r c) = FloatOps.uitofp (F := Ideal) .f32 (BitVec.ofBool (decide (masked x (ix4 (n0 := 2) (n1 := 4) (n2 := 4096) (n3 := 4096) h g r c) = rowMax x (ix3 (n0 := 2) (n1 := 4) (n2 := 4096) h g r)))) := by
  unfold isMax; generalize masked x = y0; generalize rowMax x = y1; pointwise
theorem nMax_at : nMax x (ix3 (n0 := 2) (n1 := 4) (n2 := 4096) h g r) = ∑ c, isMax x (ix4 (n0 := 2) (n1 := 4) (n2 := 4096) (n3 := 4096) h g r c) := by unfold nMax; generalize isMax x = y0; pointwise
theorem top_at : top x (ix4 (n0 := 2) (n1 := 4) (n2 := 4096) (n3 := 1) h g r 0) = max (rowMax x (ix3 (n0 := 2) (n1 := 4) (n2 := 4096) h g r)) (x.sk (ix2 (n0 := 2) (n1 := 4) h g)) := by
  unfold top
  exact (max_elt _ _ _).trans (congrArg₂ max (by generalize rowMax x = y; pointwise) (by pointwise))
theorem expo_at : expo x (ix4 (n0 := 2) (n1 := 4) (n2 := 4096) (n3 := 4096) h g r c) = Ideal.exp (masked x (ix4 (n0 := 2) (n1 := 4) (n2 := 4096) (n3 := 4096) h g r c) - top x (ix4 (n0 := 2) (n1 := 4) (n2 := 4096) (n3 := 1) h g r 0)) := by unfold expo; pointwise
theorem sinkExp_at : sinkExp x (ix4 (n0 := 2) (n1 := 4) (n2 := 4096) (n3 := 1) h g r 0) = Ideal.exp (x.sk (ix2 (n0 := 2) (n1 := 4) h g) - top x (ix4 (n0 := 2) (n1 := 4) (n2 := 4096) (n3 := 1) h g r 0)) := by unfold sinkExp; pointwise
theorem den_at : den x (ix4 (n0 := 2) (n1 := 4) (n2 := 4096) (n3 := 1) h g r 0) = ∑ c, expo x (ix4 (n0 := 2) (n1 := 4) (n2 := 4096) (n3 := 4096) h g r c) + sinkExp x (ix4 (n0 := 2) (n1 := 4) (n2 := 4096) (n3 := 1) h g r 0) := by unfold den; pointwise
theorem wgt_at : wgt x (ix4 (n0 := 2) (n1 := 4) (n2 := 4096) (n3 := 4096) h g r c) = Ideal.div (expo x (ix4 (n0 := 2) (n1 := 4) (n2 := 4096) (n3 := 4096) h g r c)) (den x (ix4 (n0 := 2) (n1 := 4) (n2 := 4096) (n3 := 1) h g r 0)) := by unfold wgt; pointwise
theorem invSq_at : invSq x (ix4 (n0 := 2) (n1 := 4) (n2 := 4096) (n3 := 1) h g r 0) = Ideal.div 1 (den x (ix4 (n0 := 2) (n1 := 4) (n2 := 4096) (n3 := 1) h g r 0) * den x (ix4 (n0 := 2) (n1 := 4) (n2 := 4096) (n3 := 1) h g r 0)) := by unfold invSq; pointwise
theorem out_at : out x (ix4 (n0 := 2) (n1 := 4) (n2 := 4096) (n3 := 128) h g r d) = ∑ c, wgt x (ix4 (n0 := 2) (n1 := 4) (n2 := 4096) (n3 := 4096) h g r c) * x.v (ix3 (n0 := 2) (n1 := 4096) (n2 := 128) h c d) := by unfold out; generalize wgt x = y0; pointwise
theorem lse_at : lse x (ix4 (n0 := 2) (n1 := 4) (n2 := 4096) (n3 := 1) h g r 0) = top x (ix4 (n0 := 2) (n1 := 4) (n2 := 4096) (n3 := 1) h g r 0) + Ideal.log (den x (ix4 (n0 := 2) (n1 := 4) (n2 := 4096) (n3 := 1) h g r 0)) := (addf_elt _ _ _).trans (congrArg (top x (ix4 (n0 := 2) (n1 := 4) (n2 := 4096) (n3 := 1) h g r 0) + ·) (log_elt _ _))
theorem dV_at : dV x (ix3 (n0 := 2) (n1 := 4096) (n2 := 128) h c d) = ∑ g, ∑ r, x.dO (ix4 (n0 := 2) (n1 := 4) (n2 := 4096) (n3 := 128) h g r d) * wgt x (ix4 (n0 := 2) (n1 := 4) (n2 := 4096) (n3 := 4096) h g r c) := by unfold dV; generalize wgt x = y0; pointwise
theorem dWgt_at : dWgt x (ix4 (n0 := 2) (n1 := 4) (n2 := 4096) (n3 := 4096) h g r c) = ∑ d, x.dO (ix4 (n0 := 2) (n1 := 4) (n2 := 4096) (n3 := 128) h g r d) * x.v (ix3 (n0 := 2) (n1 := 4096) (n2 := 128) h c d) := by unfold dWgt; pointwise
theorem dDen_at : dDen x (ix4 (n0 := 2) (n1 := 4) (n2 := 4096) (n3 := 1) h g r 0) = -∑ c, dWgt x (ix4 (n0 := 2) (n1 := 4) (n2 := 4096) (n3 := 4096) h g r c) * invSq x (ix4 (n0 := 2) (n1 := 4) (n2 := 4096) (n3 := 1) h g r 0) * expo x (ix4 (n0 := 2) (n1 := 4) (n2 := 4096) (n3 := 4096) h g r c) := by unfold dDen; pointwise
theorem dSinkExp_at : dSinkExp x (ix4 (n0 := 2) (n1 := 4) (n2 := 4096) (n3 := 1) h g r 0) = dDen x (ix4 (n0 := 2) (n1 := 4) (n2 := 4096) (n3 := 1) h g r 0) * sinkExp x (ix4 (n0 := 2) (n1 := 4) (n2 := 4096) (n3 := 1) h g r 0) := by unfold dSinkExp; pointwise
theorem dExpo_at : dExpo x (ix4 (n0 := 2) (n1 := 4) (n2 := 4096) (n3 := 4096) h g r c) =
    (Ideal.div (dWgt x (ix4 (n0 := 2) (n1 := 4) (n2 := 4096) (n3 := 4096) h g r c)) (den x (ix4 (n0 := 2) (n1 := 4) (n2 := 4096) (n3 := 1) h g r 0)) + ∑ z, dDen x (ix4 (n0 := 2) (n1 := 4) (n2 := 4096) (n3 := 1) h g r z)) * expo x (ix4 (n0 := 2) (n1 := 4) (n2 := 4096) (n3 := 4096) h g r c) := by unfold dExpo; pointwise
theorem dTop_at : dTop x (ix4 (n0 := 2) (n1 := 4) (n2 := 4096) (n3 := 1) h g r 0) = -dSinkExp x (ix4 (n0 := 2) (n1 := 4) (n2 := 4096) (n3 := 1) h g r 0) + ∑ c, -dExpo x (ix4 (n0 := 2) (n1 := 4) (n2 := 4096) (n3 := 4096) h g r c) := by unfold dTop; pointwise
theorem bcast_row (z : FVec Ideal S2x4x4096 .f32) :
    broadcastInDim S2x4x4096x4096 ![0, 1, 2] bcast_S2x4x4096_S2x4x4096x4096_0_1_2 z (ix4 (n0 := 2) (n1 := 4) (n2 := 4096) (n3 := 4096) h g r c) = z (ix3 (n0 := 2) (n1 := 4) (n2 := 4096) h g r) := by pointwise
theorem sum_part (a : FVec Ideal S2x4x4096x1 .f32) :
    Host.reduceAdd a (constant S_ .f32 0x00000000#32 : FVec Ideal S_ .f32) reducesTo_S2x4x4096x1_S2x4x4096_d3 h_S_ (ix3 (n0 := 2) (n1 := 4) (n2 := 4096) h g r) = ∑ z, a (ix4 (n0 := 2) (n1 := 4) (n2 := 4096) (n3 := 1) h g r z) := by pointwise
theorem dMax_at : dMax x (ix4 (n0 := 2) (n1 := 4) (n2 := 4096) (n3 := 4096) h g r c) =
    Ideal.div (∑ z, mulf (dTop x) (partM x) (ix4 (n0 := 2) (n1 := 4) (n2 := 4096) (n3 := 1) h g r z)) (nMax x (ix3 (n0 := 2) (n1 := 4) (n2 := 4096) h g r)) * isMax x (ix4 (n0 := 2) (n1 := 4) (n2 := 4096) (n3 := 4096) h g r c) := by
  unfold dMax
  rw [mulf_elt, bcast_row, div_elt, sum_part]
theorem dScore_at : dScore x (ix4 (n0 := 2) (n1 := 4) (n2 := 4096) (n3 := 4096) h g r c) = Scalar.select (near (ix4 (n0 := 2) (n1 := 4) (n2 := 4096) (n3 := 4096) h g r c))
    ((dExpo x (ix4 (n0 := 2) (n1 := 4) (n2 := 4096) (n3 := 4096) h g r c) + dMax x (ix4 (n0 := 2) (n1 := 4) (n2 := 4096) (n3 := 4096) h g r c)) * Ideal.ofBits .f32 0x3DB504F3#32) 0 := by unfold dScore; generalize near = y0; generalize dExpo x = y1; generalize dMax x = y2; pointwise
theorem dSink_at : dSink x (ix2 (n0 := 2) (n1 := 4) h g) = ∑ r, dSinkExp x (ix4 (n0 := 2) (n1 := 4) (n2 := 4096) (n3 := 1) h g r 0) + ∑ r, dTop x (ix4 (n0 := 2) (n1 := 4) (n2 := 4096) (n3 := 1) h g r 0) * partS x (ix4 (n0 := 2) (n1 := 4) (n2 := 4096) (n3 := 1) h g r 0) := by unfold dSink; generalize dSinkExp x = y0; generalize dTop x = y1; generalize partS x = y2; pointwise
theorem dK_at : dK x (ix3 (n0 := 2) (n1 := 4096) (n2 := 128) h c d) = ∑ g, ∑ r, dScore x (ix4 (n0 := 2) (n1 := 4) (n2 := 4096) (n3 := 4096) h g r c) * x.q (ix4 (n0 := 2) (n1 := 4) (n2 := 4096) (n3 := 128) h g r d) := by unfold dK; pointwise
theorem dQ_at : dQ x (ix4 (n0 := 2) (n1 := 4) (n2 := 4096) (n3 := 128) h g r d) = ∑ c, dScore x (ix4 (n0 := 2) (n1 := 4) (n2 := 4096) (n3 := 4096) h g r c) * x.k (ix3 (n0 := 2) (n1 := 4096) (n2 := 128) h c d) := by unfold dQ; pointwise

end Cert.ReferenceIdeal.Term

end
-- ==== Proof.Attn.RefVal.lean ====
module

public import proofs.«01_k».proof.Proof.Attn.RefRead
public import proofs.«01_k».proof.Proof.Attn.Band
public import Idealize.ShloMosaic.PureOps.Reduce
public import Idealize.ShloMosaic.PureOps.Ideal.Laws
public import Mathlib.Data.EReal.Operations

@[expose] public section

set_option maxRecDepth 16384

noncomputable section

namespace Cert.ReferenceIdeal.Term

open Cert.ReferenceIdeal Cert.ReferenceIdeal.Gen Idealize.ShloMosaic
open Idealize.ShloMosaic.TcCoe Idealize.SL.Sem Idealize.ShloMosaic.StableHlo
open Cert.Attn (Reals Near coe_sum)

variable (x : In Ideal) (A : Reals) (h : Fin 2) (g : Fin 4) (r c : Fin 4096) (d : Fin 128)

/-! The reference's steps where the arrays hold real numbers. -/

/-- The arrays hold the real numbers `A`. -/
structure Has : Prop where
  q : ∀ h g r d, x.q (ix4 (n0 := 2) (n1 := 4) (n2 := 4096) (n3 := 128) h g r d) = ((A.q h g r d : ℝ) : EReal)
  k : ∀ h c d, x.k (ix3 (n0 := 2) (n1 := 4096) (n2 := 128) h c d) = ((A.k h c d : ℝ) : EReal)
  v : ∀ h c d, x.v (ix3 (n0 := 2) (n1 := 4096) (n2 := 128) h c d) = ((A.v h c d : ℝ) : EReal)
  sk : ∀ h g, x.sk (ix2 (n0 := 2) (n1 := 4) h g) = ((A.sk h g : ℝ) : EReal)
  dO : ∀ h g r d, x.dO (ix4 (n0 := 2) (n1 := 4) (n2 := 4096) (n3 := 128) h g r d) = ((A.dO h g r d : ℝ) : EReal)
  κ : Ideal.ofBits .f32 0x3DB504F3#32 = ((A.κ : ℝ) : EReal)
  T : ∀ h g r, top x (ix4 (n0 := 2) (n1 := 4) (n2 := 4096) (n3 := 1) h g r 0) = ((A.T h g r : ℝ) : EReal)

theorem near_val : near (ix4 (n0 := 2) (n1 := 4) (n2 := 4096) (n3 := 4096) h g r c) = if Near r.val c.val then 1#1 else 0#1 :=
  (near_at h g r c).trans (Cert.Attn.near_word r.val c.val (by omega) (by omega))

section Values
variable {x A} (H : Has x A)
include H

theorem score_val : score x (ix4 (n0 := 2) (n1 := 4) (n2 := 4096) (n3 := 4096) h g r c) = ((A.s h g r c : ℝ) : EReal) := by
  rw [score_at, H.κ]
  simp only [H.q, H.k, ← EReal.coe_mul, ← coe_sum]
  rfl
theorem masked_val : masked x (ix4 (n0 := 2) (n1 := 4) (n2 := 4096) (n3 := 4096) h g r c) = if Near r.val c.val then ((A.s h g r c : ℝ) : EReal) else ⊥ := by
  rw [masked_at, near_val, Cert.Attn.select_near, score_val h g r c H, Cert.Attn.ofBits_bot]
theorem expo_val : expo x (ix4 (n0 := 2) (n1 := 4) (n2 := 4096) (n3 := 4096) h g r c) = ((A.p h g r c : ℝ) : EReal) := by
  rw [expo_at, masked_val h g r c H, H.T]
  unfold Reals.p
  by_cases hn : Near r.val c.val
  · rw [if_pos hn, if_pos hn, ← EReal.coe_sub, Ideal.exp_coe]
  · rw [if_neg hn, if_neg hn, EReal.bot_sub, Ideal.exp_bot, EReal.coe_zero]
theorem sinkExp_val : sinkExp x (ix4 (n0 := 2) (n1 := 4) (n2 := 4096) (n3 := 1) h g r 0) = ((A.e h g r : ℝ) : EReal) := by
  rw [sinkExp_at, H.T, H.sk, ← EReal.coe_sub, Ideal.exp_coe]; rfl
theorem den_val : den x (ix4 (n0 := 2) (n1 := 4) (n2 := 4096) (n3 := 1) h g r 0) = ((A.den h g r : ℝ) : EReal) := by
  rw [den_at]
  simp only [expo_val h g r _ H, sinkExp_val h g r H, ← coe_sum, ← EReal.coe_add]
  rfl
theorem div_den (y : ℝ) : Ideal.div (y : EReal) (den x (ix4 (n0 := 2) (n1 := 4) (n2 := 4096) (n3 := 1) h g r 0)) = ((y * (1 / A.den h g r) : ℝ) : EReal) := by
  rw [den_val h g r H, Ideal.div_coe (A.den_pos h g r).ne', ← EReal.coe_mul]
theorem wgt_val : wgt x (ix4 (n0 := 2) (n1 := 4) (n2 := 4096) (n3 := 4096) h g r c) = ((A.w h g r c : ℝ) : EReal) := by
  rw [wgt_at, expo_val h g r c H, div_den h g r H]; rfl
theorem invSq_val : invSq x (ix4 (n0 := 2) (n1 := 4) (n2 := 4096) (n3 := 1) h g r 0) = ((1 / (A.den h g r * A.den h g r) : ℝ) : EReal) := by
  have hd := A.den_pos h g r
  rw [invSq_at, den_val h g r H, ← EReal.coe_mul, Ideal.div_coe (mul_pos hd hd).ne', one_mul]
theorem out_val : out x (ix4 (n0 := 2) (n1 := 4) (n2 := 4096) (n3 := 128) h g r d) = ((A.o h g r d : ℝ) : EReal) := by
  rw [out_at]
  simp only [wgt_val h g r _ H, H.v, ← EReal.coe_mul, ← coe_sum]
  rfl
theorem lse_val : lse x (ix4 (n0 := 2) (n1 := 4) (n2 := 4096) (n3 := 1) h g r 0) = ((A.lse h g r : ℝ) : EReal) := by
  rw [lse_at, H.T, den_val h g r H, Ideal.log_coe, if_neg (not_le.mpr (A.den_pos h g r)), ← EReal.coe_add]; rfl
theorem dV_val : dV x (ix3 (n0 := 2) (n1 := 4096) (n2 := 128) h c d) = ((∑ g, ∑ r, A.dO h g r d * A.w h g r c : ℝ) : EReal) := by
  rw [dV_at]
  simp only [wgt_val _ _ _ _ H, H.dO, ← EReal.coe_mul, ← coe_sum]
theorem dWgt_val : dWgt x (ix4 (n0 := 2) (n1 := 4) (n2 := 4096) (n3 := 4096) h g r c) = ((A.dw h g r c : ℝ) : EReal) := by
  rw [dWgt_at]
  simp only [H.dO, H.v, ← EReal.coe_mul, ← coe_sum]
  rfl
theorem dDen_val : dDen x (ix4 (n0 := 2) (n1 := 4) (n2 := 4096) (n3 := 1) h g r 0) = ((-A.S h g r : ℝ) : EReal) := by
  rw [dDen_at]
  simp only [dWgt_val _ _ _ _ H, invSq_val _ _ _ H, expo_val _ _ _ _ H, ← EReal.coe_mul, ← coe_sum, ← EReal.coe_neg]
  rfl
theorem dSinkExp_val : dSinkExp x (ix4 (n0 := 2) (n1 := 4) (n2 := 4096) (n3 := 1) h g r 0) = ((-A.S h g r * A.e h g r : ℝ) : EReal) := by
  rw [dSinkExp_at, dDen_val h g r H, sinkExp_val h g r H, ← EReal.coe_mul]
theorem dExpo_val : dExpo x (ix4 (n0 := 2) (n1 := 4) (n2 := 4096) (n3 := 4096) h g r c) = ((A.E h g r c : ℝ) : EReal) := by
  rw [dExpo_at, Fin.sum_univ_one, dDen_val h g r H, dWgt_val h g r c H, div_den h g r H, expo_val h g r c H, ← EReal.coe_add, ← EReal.coe_mul]; rfl
theorem dTop_val : dTop x (ix4 (n0 := 2) (n1 := 4) (n2 := 4096) (n3 := 1) h g r 0) = 0 := by
  rw [dTop_at]
  simp only [dSinkExp_val _ _ _ H, dExpo_val _ _ _ _ H, ← EReal.coe_neg, ← coe_sum, ← EReal.coe_add]
  rw [A.dTop_eq, EReal.coe_zero]
end Values

/-- Each of these is 0 or 1. -/
theorem isMax_cases : isMax x (ix4 (n0 := 2) (n1 := 4) (n2 := 4096) (n3 := 4096) h g r c) = 0 ∨ isMax x (ix4 (n0 := 2) (n1 := 4) (n2 := 4096) (n3 := 4096) h g r c) = 1 := by
  rw [isMax_at]
  by_cases hm : masked x (ix4 (n0 := 2) (n1 := 4) (n2 := 4096) (n3 := 4096) h g r c) = rowMax x (ix3 (n0 := 2) (n1 := 4) (n2 := 4096) h g r)
  · rw [decide_eq_true hm]; right
    show ((((1 : ℕ) : ℝ)) : EReal) = 1
    norm_num
  · rw [decide_eq_false hm]; left
    show ((((0 : ℕ) : ℝ)) : EReal) = 0
    norm_num

theorem nMax_ne (h1 : isMax x (ix4 (n0 := 2) (n1 := 4) (n2 := 4096) (n3 := 4096) h g r c) = 1) : nMax x (ix3 (n0 := 2) (n1 := 4) (n2 := 4096) h g r) ≠ 0 := by
  rw [nMax_at]
  have hn : ∀ c ∈ (Finset.univ : Finset (Fin 4096)), (0 : EReal) ≤ isMax x (ix4 (n0 := 2) (n1 := 4) (n2 := 4096) (n3 := 4096) h g r c) := fun c _ => by
    rcases isMax_cases x h g r c with h0 | h0 <;> rw [h0]
    exact zero_le_one
  have := Finset.single_le_sum hn (Finset.mem_univ c)
  rw [h1] at this
  exact (lt_of_lt_of_le zero_lt_one this).ne'

section Values
variable {x A} (H : Has x A)
include H
theorem dMax_val : dMax x (ix4 (n0 := 2) (n1 := 4) (n2 := 4096) (n3 := 4096) h g r c) = 0 := by
  rw [dMax_at, Fin.sum_univ_one, mulf_elt, dTop_val h g r H, zero_mul]
  rcases isMax_cases x h g r c with h0 | h1
  · rw [h0, mul_zero]
  · unfold Ideal.div
    rw [if_neg (nMax_ne x h g r c h1), zero_mul, zero_mul]
theorem dScore_val : dScore x (ix4 (n0 := 2) (n1 := 4) (n2 := 4096) (n3 := 4096) h g r c) = ((A.E h g r c * A.κ : ℝ) : EReal) := by
  rw [dScore_at, near_val, Cert.Attn.select_near, dMax_val h g r c H, dExpo_val h g r c H, add_zero, H.κ, ← EReal.coe_mul]
  by_cases hn : Near r.val c.val
  · rw [if_pos hn]
  · rw [if_neg hn, A.E_far h g r c hn, zero_mul, EReal.coe_zero]
theorem dSink_val : dSink x (ix2 (n0 := 2) (n1 := 4) h g) = ((∑ r, -A.S h g r * A.e h g r : ℝ) : EReal) := by
  rw [dSink_at]
  simp only [dSinkExp_val _ _ _ H, dTop_val _ _ _ H, zero_mul, Finset.sum_const_zero, add_zero, ← coe_sum]
theorem dK_val : dK x (ix3 (n0 := 2) (n1 := 4096) (n2 := 128) h c d) = ((∑ g, ∑ r, A.E h g r c * A.κ * A.q h g r d : ℝ) : EReal) := by
  rw [dK_at]
  simp only [dScore_val _ _ _ _ H, H.q, ← EReal.coe_mul, ← coe_sum]
theorem dQ_val : dQ x (ix4 (n0 := 2) (n1 := 4) (n2 := 4096) (n3 := 128) h g r d) = ((∑ c, A.E h g r c * A.κ * A.k h c d : ℝ) : EReal) := by
  rw [dQ_at]
  simp only [dScore_val _ _ _ _ H, H.k, ← EReal.coe_mul, ← coe_sum]
end Values

/-- Where the inputs hold real numbers, so does `top`. -/
theorem top_real (hq : ∀ h g r d, ∃ y : ℝ, x.q (ix4 (n0 := 2) (n1 := 4) (n2 := 4096) (n3 := 128) h g r d) = y) (hk : ∀ h c d, ∃ y : ℝ, x.k (ix3 (n0 := 2) (n1 := 4096) (n2 := 128) h c d) = y)
    (hs : ∀ h g, ∃ y : ℝ, x.sk (ix2 (n0 := 2) (n1 := 4) h g) = y) : ∃ y : ℝ, top x (ix4 (n0 := 2) (n1 := 4) (n2 := 4096) (n3 := 1) h g r 0) = y := by
  have hsc : ∀ h g r c, ∃ y : ℝ, score x (ix4 (n0 := 2) (n1 := 4) (n2 := 4096) (n3 := 4096) h g r c) = y := fun h g r c => by
    choose fq hq using hq
    choose fk hk using hk
    refine ⟨(∑ d, fq h g r d * fk h c d) * (Ideal.ofBits FTy.f32 0x3DB504F3#32 : EReal).toReal, ?_⟩
    rw [score_at]
    conv_lhs => rw [Cert.Attn.scale_real]
    simp only [hq, hk, ← EReal.coe_mul, ← coe_sum]
  have hm : ∀ i, masked x i < ⊤ := fun i => by
    obtain ⟨a, b, e, f, rfl⟩ : ∃ a b e f, i = ix4 (n0 := 2) (n1 := 4) (n2 := 4096) (n3 := 4096) a b e f := ⟨_, _, _, _, eq_ix4 i⟩
    rw [masked_at, near_val, Cert.Attn.select_near, Cert.Attn.ofBits_bot]
    obtain ⟨y, hy⟩ := hsc a b e f
    split
    · rw [hy]; exact EReal.coe_lt_top y
    · exact bot_lt_top
  have hr : rowMax x (ix3 (n0 := 2) (n1 := 4) (n2 := 4096) h g r) < ⊤ := by
    unfold rowMax
    rw [Host.reduce_eq_fold]
    refine (Finset.fold_max_lt (⊤ : EReal)).mpr ⟨?_, fun i _ => hm i⟩
    show Ideal.ofBits FTy.f32 0xFF800000#32 < ⊤
    rw [Cert.Attn.ofBits_bot]; exact bot_lt_top
  obtain ⟨s, hs⟩ := hs h g
  rw [top_at, hs]
  have hf : ∀ R : EReal, R < ⊤ → ∃ y : ℝ, max R (s : EReal) = y := fun R hR => by
    induction R using EReal.rec with
    | bot => exact ⟨s, max_eq_right bot_le⟩
    | top => exact absurd hR (lt_irrefl _)
    | coe y => exact ⟨max y s, (EReal.coe_strictMono.monotone.map_max).symm⟩
  exact hf _ hr

/-- Arrays of real numbers hold some. -/
theorem exists_has (hq : ∀ h g r d, ∃ y : ℝ, x.q (ix4 (n0 := 2) (n1 := 4) (n2 := 4096) (n3 := 128) h g r d) = y) (hk : ∀ h c d, ∃ y : ℝ, x.k (ix3 (n0 := 2) (n1 := 4096) (n2 := 128) h c d) = y)
    (hv : ∀ h c d, ∃ y : ℝ, x.v (ix3 (n0 := 2) (n1 := 4096) (n2 := 128) h c d) = y) (hs : ∀ h g, ∃ y : ℝ, x.sk (ix2 (n0 := 2) (n1 := 4) h g) = y)
    (hO : ∀ h g r d, ∃ y : ℝ, x.dO (ix4 (n0 := 2) (n1 := 4) (n2 := 4096) (n3 := 128) h g r d) = y) : ∃ A, Has x A := by
  have hT := fun h g r => top_real x h g r hq hk hs
  choose fq hq using hq
  choose fk hk using hk
  choose fv hv using hv
  choose fs hs using hs
  choose fO hO using hO
  choose fT hT using hT
  exact ⟨⟨fq, fk, fv, fs, fO, _, fT⟩, ⟨hq, hk, hv, hs, hO, Cert.Attn.scale_real, hT⟩⟩

end Cert.ReferenceIdeal.Term

end
-- ==== Proof.Attn.Window.lean ====
module

public import proofs.«01_k».proof.Proof.Frame
public import proofs.«01_k».proof.Proof.Attn.Host
public import proofs.«01_k».proof.Proof.Attn.Point
public import proofs.«01_k».proof.Proof.Attn.RefVal
public import Idealize.ShloMosaic.Lib.Pipeline.ReadBack

@[expose] public section

set_option maxRecDepth 16384

noncomputable section

namespace Cert.KernelIdeal.Body

open Cert.KernelIdeal Cert.KernelIdeal.Gen
open Idealize.ShloMosaic Idealize.ShloMosaic.TcCoe Idealize.SL.Sem
open Cert.Attn (Reals Near coe_sum)
open Cert.ReferenceIdeal.Term (Has)

/-! A grid point's input blocks hold what its key head, query head and step say. -/

variable (m : (ℓ : Loc nD τ sig) → Buf (Elt Ideal) ℓ) (c : Dev nD)

theorem lt16 (t : Fin cfg0.N) : t.val < 16 := lt_of_lt_of_eq t.isLt (show cfg0.N = 16 from N_0)

/-- A point's key head, query head in its group, and step. -/
def hd (t : Fin cfg0.N) : Fin 2 := ⟨t.val / 8, by have := lt16 t; omega⟩
def gp (t : Fin cfg0.N) : Fin 4 := ⟨t.val / 2 % 4, by omega⟩
def st (t : Fin cfg0.N) : Fin 2 := ⟨t.val % 2, by omega⟩

theorem stp_eq : ∀ t : Fin cfg0.N, stp t = (st t).val :=
  (by decide +kernel : ∀ t : Fin grid0.N, (grid0.coords t 2).val = t.val % 2)

/-- Which block of its array each window looks at. -/
theorem idxQ : ∀ t : Fin cfg0.N, win0_0.index t 0 = t.val % 2 ∧ win0_0.index t 1 = t.val / 2 ∧ win0_3.index t 0 = t.val % 2 ∧ win0_3.index t 1 = t.val / 2
    ∧ win0_4.index t 0 = t.val % 2 ∧ win0_4.index t 1 = t.val / 2 ∧ win0_5.index t 0 = t.val % 2 ∧ win0_5.index t 1 = t.val / 2 := by decide +kernel
theorem idxK : ∀ t : Fin cfg0.N, win0_1.index t 0 = 0 ∧ win0_1.index t 1 = t.val / 8 ∧ win0_2.index t 0 = 0 ∧ win0_2.index t 1 = 10 + t.val / 8
    ∧ win0_6.index t 0 = t.val / 2 ∧ win0_6.index t 1 = 0 ∧ win0_6.index t 2 = 0 := by decide +kernel

section Reads
variable (t : Fin cfg0.N) (y : Fin 2048) (k : Fin 4096) (d : Fin 128)
theorem read0 : iblk m c 0 t (ix2 (n0 := 2048) (n1 := 128) y d) = m ((c.tc : Thread nD τ).loc main_arg0) (ix2 (stepRow (st t) y) ⟨t.val / 2 * 128 + d.val, by have := lt16 t; omega⟩) := by
  obtain ⟨e0, e1, -⟩ := idxQ t
  rw [← host_arg0 m c]
  unfold stepRow st
  change View.read (Elt Ideal) ((cfg0.win 0).blk t).view (V m c main_arg0) _ = V m c main_arg0 _
  generalize V m c main_arg0 = a
  blk_ext [e0, e1]
theorem read3 : iblk m c 3 t (ix2 (n0 := 2048) (n1 := 128) y d) = m ((c.tc : Thread nD τ).loc main_arg3) (ix2 (stepRow (st t) y) ⟨t.val / 2 * 128 + d.val, by have := lt16 t; omega⟩) := by
  obtain ⟨-, -, e0, e1, -⟩ := idxQ t
  rw [← host_arg3 m c]
  unfold stepRow st
  change View.read (Elt Ideal) ((cfg0.win 3).blk t).view (V m c main_arg3) _ = V m c main_arg3 _
  generalize V m c main_arg3 = a
  blk_ext [e0, e1]
theorem blk4 (a : Vec Ideal S4096x1024 .f32) : View.read (Elt Ideal) ((cfg0.win 4).blk t).view a (ix2 (n0 := 2048) (n1 := 128) y d) = a (ix2 (stepRow (st t) y) ⟨t.val / 2 * 128 + d.val, by have := lt16 t; omega⟩) := by
  obtain ⟨-, -, -, -, e0, e1, -⟩ := idxQ t
  unfold stepRow st
  blk_ext [e0, e1]
theorem read4 : iblk m c 4 t (ix2 (n0 := 2048) (n1 := 128) y d) = V m c main_v44 (ix2 (stepRow (st t) y) ⟨t.val / 2 * 128 + d.val, by have := lt16 t; omega⟩) :=
  blk4 t y d (V m c main_v44)
theorem blk5 (a : Vec Ideal S4096x1024 .f32) : View.read (Elt Ideal) ((cfg0.win 5).blk t).view a (ix2 (n0 := 2048) (n1 := 128) y d) = a (ix2 (stepRow (st t) y) ⟨t.val / 2 * 128 + d.val, by have := lt16 t; omega⟩) := by
  obtain ⟨-, -, -, -, -, -, e0, e1⟩ := idxQ t
  unfold stepRow st
  blk_ext [e0, e1]
theorem read5 : iblk m c 5 t (ix2 (n0 := 2048) (n1 := 128) y d) = V m c main_v47 (ix2 (stepRow (st t) y) ⟨t.val / 2 * 128 + d.val, by have := lt16 t; omega⟩) :=
  blk5 t y d (V m c main_v47)
theorem read1 : iblk m c 1 t (ix2 (n0 := 4096) (n1 := 128) k d) = m ((c.tc : Thread nD τ).loc main_arg1) (ix2 k ⟨t.val / 8 * 128 + d.val, by have := lt16 t; omega⟩) := by
  obtain ⟨e0, e1, -⟩ := idxK t
  rw [← host_arg1 m c]
  change View.read (Elt Ideal) ((cfg0.win 1).blk t).view (V m c main_arg1) _ = V m c main_arg1 _
  generalize V m c main_arg1 = a
  blk_ext [e0, e1]
theorem read2 : iblk m c 2 t (ix2 (n0 := 4096) (n1 := 128) k d) = m ((c.tc : Thread nD τ).loc main_arg2) (ix2 k ⟨(10 + t.val / 8) * 128 + d.val, by have := lt16 t; omega⟩) := by
  obtain ⟨-, -, e0, e1, -⟩ := idxK t
  rw [← host_arg2 m c]
  change View.read (Elt Ideal) ((cfg0.win 2).blk t).view (V m c main_arg2) _ = V m c main_arg2 _
  generalize V m c main_arg2 = a
  blk_ext [e0, e1]
theorem blk6 (a : Vec Ideal S8x1x128 .f32) : View.read (Elt Ideal) ((cfg0.win 6).blk t).view a (ix3 (n0 := 1) (n1 := 1) (n2 := 128) 0 0 d) = a (ix3 ⟨t.val / 2, by have := lt16 t; omega⟩ 0 d) := by
  obtain ⟨-, -, -, -, e0, e1, e2⟩ := idxK t
  blk_ext [e0, e1, e2]
theorem read6 : iblk m c 6 t (ix3 (n0 := 1) (n1 := 1) (n2 := 128) 0 0 d) = V m c main_v49 (ix3 ⟨t.val / 2, by have := lt16 t; omega⟩ 0 d) :=
  blk6 t d (V m c main_v49)
end Reads

section Arrays
variable (h : Fin 2) (g : Fin 4) (r : Fin 4096) (d : Fin 128)
theorem kin_q : (kin m c).q (ix4 h g r d) = m ((c.tc : Thread nD τ).loc main_arg0) (ix2 r ⟨h.val * 512 + g.val * 128 + d.val, by omega⟩) := by
  unfold kin; generalize m ((c.tc : Thread nD τ).loc main_arg0) = a; pointwise
theorem kin_dO : (kin m c).dO (ix4 h g r d) = m ((c.tc : Thread nD τ).loc main_arg3) (ix2 r ⟨h.val * 512 + g.val * 128 + d.val, by omega⟩) := by
  unfold kin; generalize m ((c.tc : Thread nD τ).loc main_arg3) = a; pointwise
theorem kin_k : (kin m c).k (ix3 h r d) = m ((c.tc : Thread nD τ).loc main_arg1) (ix2 r ⟨h.val * 128 + d.val, by omega⟩) := by
  unfold kin; generalize m ((c.tc : Thread nD τ).loc main_arg1) = a; pointwise
theorem kin_v : (kin m c).v (ix3 h r d) = m ((c.tc : Thread nD τ).loc main_arg2) (ix2 r ⟨1280 + (h.val * 128 + d.val), by omega⟩) := by
  unfold kin; generalize m ((c.tc : Thread nD τ).loc main_arg2) = a; pointwise
theorem kin_sk : (kin m c).sk (ix2 h g) = m ((c.tc : Thread nD τ).loc main_arg4) (ix1 ⟨h.val * 4 + g.val, by omega⟩) := by
  unfold kin; generalize m ((c.tc : Thread nD τ).loc main_arg4) = a; pointwise
theorem v44_at (j : Fin 1024) : V m c main_v44 (ix2 r j) = Cert.ReferenceIdeal.Term.out (kin m c) (ix4 ⟨j.val / 512, by omega⟩ ⟨j.val / 128 % 4, by omega⟩ r ⟨j.val % 128, by omega⟩) := by
  rw [host_v44]; generalize Cert.ReferenceIdeal.Term.out (kin m c) = a; pointwise
theorem v47_at (j : Fin 1024) : V m c main_v47 (ix2 r j) = Cert.ReferenceIdeal.Term.lse (kin m c) (ix4 ⟨j.val / 512, by omega⟩ ⟨j.val / 128 % 4, by omega⟩ r 0) := by
  rw [host_v47]; generalize Cert.ReferenceIdeal.Term.lse (kin m c) = a; pointwise
theorem v49_at (j : Fin 8) : V m c main_v49 (ix3 j 0 d) = m ((c.tc : Thread nD τ).loc main_arg4) (ix1 j) := by
  rw [host_v49]; generalize m ((c.tc : Thread nD τ).loc main_arg4) = a; pointwise
theorem ix4_of {a a' : Fin 2} {b b' : Fin 4} {e e' : Fin 128} (ha : a.val = a'.val) (hb : b.val = b'.val) (he : e.val = e'.val) :
    ix4 (n0 := 2) (n1 := 4) (n2 := 4096) (n3 := 128) a b r e = ix4 a' b' r e' := by
  rw [Fin.ext ha, Fin.ext hb, Fin.ext he]
theorem ix4_of1 {a a' : Fin 2} {b b' : Fin 4} (ha : a.val = a'.val) (hb : b.val = b'.val) :
    ix4 (n0 := 2) (n1 := 4) (n2 := 4096) (n3 := 1) a b r 0 = ix4 a' b' r 0 := by
  rw [Fin.ext ha, Fin.ext hb]
theorem v44_t (t : Fin cfg0.N) : V m c main_v44 (ix2 r ⟨t.val / 2 * 128 + d.val, by have := lt16 t; omega⟩) = Cert.ReferenceIdeal.Term.out (kin m c) (ix4 (hd t) (gp t) r d) := by
  have := lt16 t
  refine (v44_at m c r _).trans (congrArg (Cert.ReferenceIdeal.Term.out (kin m c)) (ix4_of r ?_ ?_ ?_))
  · show (t.val / 2 * 128 + d.val) / 512 = t.val / 8; omega
  · show (t.val / 2 * 128 + d.val) / 128 % 4 = t.val / 2 % 4; omega
  · show (t.val / 2 * 128 + d.val) % 128 = d.val; omega
theorem v47_t (t : Fin cfg0.N) : V m c main_v47 (ix2 r ⟨t.val / 2 * 128 + d.val, by have := lt16 t; omega⟩) = Cert.ReferenceIdeal.Term.lse (kin m c) (ix4 (hd t) (gp t) r 0) := by
  have := lt16 t
  refine (v47_at m c r _).trans (congrArg (Cert.ReferenceIdeal.Term.lse (kin m c)) (ix4_of1 r ?_ ?_))
  · show (t.val / 2 * 128 + d.val) / 512 = t.val / 8; omega
  · show (t.val / 2 * 128 + d.val) / 128 % 4 = t.val / 2 % 4; omega
end Arrays

/-- A grid point's arrays hold the real numbers of its heads and rows. -/
theorem ptHas {A : Reals} (H : Has (kin m c) A) (t : Fin cfg0.N) :
    PtHas A (hd t) (gp t) (st t) (iblk m c 0 t) (iblk m c 3 t) (iblk m c 4 t) (iblk m c 5 t) (iblk m c 1 t) (iblk m c 2 t) (iblk m c 6 t) where
  q y d := by
    rw [read0, ← H.q, kin_q]
    refine congrArg (fun j => m ((c.tc : Thread nD τ).loc main_arg0) (ix2 (stepRow (st t) y) j)) (Fin.ext ?_)
    unfold hd gp; have := lt16 t; simp only; omega
  dO y d := by
    rw [read3, ← H.dO, kin_dO]
    refine congrArg (fun j => m ((c.tc : Thread nD τ).loc main_arg3) (ix2 (stepRow (st t) y) j)) (Fin.ext ?_)
    unfold hd gp; have := lt16 t; simp only; omega
  o y d := by
    rw [read4, v44_t, Cert.ReferenceIdeal.Term.out_val _ _ _ _ H]
  lse y := by
    rw [read5, v47_t, Cert.ReferenceIdeal.Term.lse_val _ _ _ H]
  k y d := by
    rw [read1, ← H.k, kin_k]; rfl
  v y d := by
    rw [read2, ← H.v, kin_v]
    refine congrArg (fun j => m ((c.tc : Thread nD τ).loc main_arg2) (ix2 y j)) (Fin.ext ?_)
    unfold hd; simp only; omega
  sk := by
    rw [read6, v49_at, ← H.sk, kin_sk]
    refine congrArg (fun j => m ((c.tc : Thread nD τ).loc main_arg4) (ix1 j)) (Fin.ext ?_)
    unfold hd gp; have := lt16 t; simp only; omega
  κ := H.κ

end Cert.KernelIdeal.Body

end
-- ==== Proof.Attn.Total.lean ====
module

public import proofs.«01_k».proof.Proof.Attn.Window
public import Idealize.ShloMosaic.Lib.Pointwise.Sums

@[expose] public section

set_option maxRecDepth 16384

noncomputable section

namespace Cert.KernelIdeal.Body

open Cert.KernelIdeal Cert.KernelIdeal.Gen
open Idealize.ShloMosaic Idealize.ShloMosaic.TcCoe Idealize.SL.Sem
open Cert.Attn (Reals Near coe_sum)
open Cert.ReferenceIdeal.Term (Has)

/-! The accumulated blocks at the end of their run of points: the sums over all queries of all heads of the group. -/

/-- The key head, the query head in its group and the step of point `n`. -/
def hdN (n : ℕ) : Fin 2 := ⟨n / 8 % 2, by omega⟩
def gpN (n : ℕ) : Fin 4 := ⟨n / 2 % 4, by omega⟩
def stN (n : ℕ) : Fin 2 := ⟨n % 2, by omega⟩

theorem hd_eq (t : Fin cfg0.N) : hd t = hdN t.val := Fin.ext (by have := lt16 t; unfold hd hdN; simp only; omega)
theorem gp_eq (t : Fin cfg0.N) : gp t = gpN t.val := rfl
theorem st_eq (t : Fin cfg0.N) : st t = stN t.val := rfl

/-- A block cleared at every `K`-th point holds, `u` points later, the sum of what the points since have added. -/
theorem at_sum {α ι : Type} (P : α → (ι → ℝ) → Prop) (At : (n : ℕ) → n < cfg0.N → α) (f : Fin cfg0.N → α → α) (z : α) (D : ℕ → ι → ℝ) (K : ℕ)
    (hreset : ∀ t : Fin cfg0.N, t.val % K = 0 → At t.val t.isLt = f t z)
    (hadd : ∀ t : Fin cfg0.N, ¬t.val % K = 0 → At t.val t.isLt = f t (At (t.val - 1) (Nat.lt_of_le_of_lt (Nat.sub_le _ _) t.isLt)))
    (hz : P z (fun _ => 0)) (hf : ∀ (t : Fin cfg0.N) x G, P x G → P (f t x) (fun i => G i + D t.val i)) (h : ℕ) :
    ∀ u, u < K → ∀ hu : h * K + u < cfg0.N, P (At (h * K + u) hu) (fun i => ∑ v ∈ Finset.range (u + 1), D (h * K + v) i) := by
  intro u
  induction u with
  | zero =>
    intro _ hu
    have e := hreset ⟨h * K + 0, hu⟩ (Nat.mul_mod_left h K)
    refine e ▸ ?_
    have := hf ⟨h * K + 0, hu⟩ _ _ hz
    simpa using this
  | succ u ih =>
    intro huK hu
    have hmod : ¬(h * K + (u + 1)) % K = 0 := by
      rw [Nat.add_comm, Nat.add_mul_mod_self_right, Nat.mod_eq_of_lt huK]; exact Nat.succ_ne_zero u
    have e := hadd ⟨h * K + (u + 1), hu⟩ hmod
    refine e ▸ ?_
    have := hf ⟨h * K + (u + 1), hu⟩ _ _ (ih (Nat.lt_of_succ_lt huK) (Nat.lt_of_succ_lt hu))
    refine cast (congrArg (P _) (funext fun i => ?_)) this
    rw [Finset.sum_range_succ _ (u + 1)]

/-- All queries, by steps, blocks and queries of a block. -/
theorem sum_rows (f : Fin 4096 → ℝ) : ∑ p, ∑ s, ∑ i, f (stepRow p (blkRow s i)) = ∑ r, f r := by
  rw [Fin.sum_univ_tiles 2 2048 (by norm_num) f]
  refine Finset.sum_congr rfl fun p _ => ?_
  rw [Fin.sum_univ_tiles 8 256 (by norm_num) (fun y : Fin 2048 => f ⟨p.val * 2048 + y.val, by omega⟩)]
  refine Finset.sum_congr rfl fun s _ => Finset.sum_congr rfl fun i _ => congrArg f (Fin.ext ?_)
  unfold stepRow blkRow
  simp only
  omega

variable (m : (ℓ : Loc nD τ sig) → Buf (Elt Ideal) ℓ) (c : Dev nD) {A : Reals} (H : Has (kin m c) A)

/-- What point `n` adds. -/
def dkN (A : Reals) (n : ℕ) (i : Fin 4096 × Fin 128) : ℝ := ∑ s, dkAdd A (hdN n) (gpN n) (stN n) s i.1 i.2
def dvN (A : Reals) (n : ℕ) (i : Fin 4096 × Fin 128) : ℝ := ∑ s, dvAdd A (hdN n) (gpN n) (stN n) s i.1 i.2
def dsN (A : Reals) (n : ℕ) (_ : Fin 128) : ℝ := ∑ s, dsAdd A (hdN n) (gpN n) (stN n) s

theorem zero2 (k : Fin 4096) (d : Fin 128) : (k0_pay2 (F := Ideal)) (ix2 (n0 := 4096) (n1 := 128) k d) = (((0 : ℝ)) : EReal) := by
  unfold k0_pay2; exact Ideal.ofBits_zero_f32
theorem zero3 (k : Fin 4096) (d : Fin 128) : (k0_pay3 (F := Ideal)) (ix2 (n0 := 4096) (n1 := 128) k d) = (((0 : ℝ)) : EReal) := by
  unfold k0_pay3; exact Ideal.ofBits_zero_f32
theorem zero4 (d : Fin 128) : (k0_pay4 (F := Ideal)) (ix3 (n0 := 1) (n1 := 1) (n2 := 128) 0 0 d) = (((0 : ℝ)) : EReal) := by
  unfold k0_pay4; exact Ideal.ofBits_zero_f32

include H

theorem dkPt_val (t : Fin cfg0.N) (x : Vec Ideal S4096x128 .f32) (G : Fin 4096 × Fin 128 → ℝ) (hG : ∀ k d, x (ix2 (n0 := 4096) (n1 := 128) k d) = ((G (k, d) : ℝ) : EReal)) (k : Fin 4096) (d : Fin 128) :
    dkPt m c t x (ix2 (n0 := 4096) (n1 := 128) k d) = ((G (k, d) + dkN A t.val (k, d) : ℝ) : EReal) := by
  have := dkOut_val (ptHas m c H t) x G hG k d
  rw [← stp_eq t, hd_eq, gp_eq, st_eq] at this
  unfold dkPt dkN
  exact this
theorem dkAt_sum (h u : ℕ) (hu8 : u < 8) (hu : h * 8 + u < cfg0.N) (k : Fin 4096) (d : Fin 128) :
    dkAt m c (h * 8 + u) hu (ix2 (n0 := 4096) (n1 := 128) k d) = ((∑ v ∈ Finset.range (u + 1), dkN A (h * 8 + v) (k, d) : ℝ) : EReal) := by
  have := at_sum (fun (x : Vec Ideal S4096x128 .f32) (G : Fin 4096 × Fin 128 → ℝ) => ∀ k d, x (ix2 (n0 := 4096) (n1 := 128) k d) = ((G (k, d) : ℝ) : EReal))
    (dkAt m c) (dkPt m c) (k0_pay2 (F := Ideal)) (dkN A) 8 (dkAt_reset m c) (dkAt_add m c) zero2 (dkPt_val m c H) h u hu8 hu
  exact this k d

theorem dvPt_val (t : Fin cfg0.N) (x : Vec Ideal S4096x128 .f32) (G : Fin 4096 × Fin 128 → ℝ) (hG : ∀ k d, x (ix2 (n0 := 4096) (n1 := 128) k d) = ((G (k, d) : ℝ) : EReal)) (k : Fin 4096) (d : Fin 128) :
    dvPt m c t x (ix2 (n0 := 4096) (n1 := 128) k d) = ((G (k, d) + dvN A t.val (k, d) : ℝ) : EReal) := by
  have := dvOut_val (ptHas m c H t) x G hG k d
  rw [← stp_eq t, hd_eq, gp_eq, st_eq] at this
  unfold dvPt dvN
  exact this
theorem dvAt_sum (h u : ℕ) (hu8 : u < 8) (hu : h * 8 + u < cfg0.N) (k : Fin 4096) (d : Fin 128) :
    dvAt m c (h * 8 + u) hu (ix2 (n0 := 4096) (n1 := 128) k d) = ((∑ v ∈ Finset.range (u + 1), dvN A (h * 8 + v) (k, d) : ℝ) : EReal) := by
  have := at_sum (fun (x : Vec Ideal S4096x128 .f32) (G : Fin 4096 × Fin 128 → ℝ) => ∀ k d, x (ix2 (n0 := 4096) (n1 := 128) k d) = ((G (k, d) : ℝ) : EReal))
    (dvAt m c) (dvPt m c) (k0_pay3 (F := Ideal)) (dvN A) 8 (dvAt_reset m c) (dvAt_add m c) zero3 (dvPt_val m c H) h u hu8 hu
  exact this k d

theorem dsPt_val (t : Fin cfg0.N) (x : Vec Ideal S1x1x128 .f32) (G : Fin 128 → ℝ) (hG : ∀ d, x (ix3 (n0 := 1) (n1 := 1) (n2 := 128) 0 0 d) = ((G d : ℝ) : EReal)) (d : Fin 128) :
    dsPt m c t x (ix3 (n0 := 1) (n1 := 1) (n2 := 128) 0 0 d) = ((G d + dsN A t.val d : ℝ) : EReal) := by
  have := dsOut_val (ptHas m c H t) x G hG d
  rw [hd_eq, gp_eq, st_eq] at this
  unfold dsPt dsN
  exact this
theorem dsAt_sum (h u : ℕ) (hu2 : u < 2) (hu : h * 2 + u < cfg0.N) (d : Fin 128) :
    dsAt m c (h * 2 + u) hu (ix3 (n0 := 1) (n1 := 1) (n2 := 128) 0 0 d) = ((∑ v ∈ Finset.range (u + 1), dsN A (h * 2 + v) d : ℝ) : EReal) := by
  have := at_sum (fun (x : Vec Ideal S1x1x128 .f32) (G : Fin 128 → ℝ) => ∀ d, x (ix3 (n0 := 1) (n1 := 1) (n2 := 128) 0 0 d) = ((G d : ℝ) : EReal))
    (dsAt m c) (dsPt m c) (k0_pay4 (F := Ideal)) (dsN A) 2 (dsAt_reset m c) (dsAt_add m c) zero4 (dsPt_val m c H) h u hu2 hu
  exact this d

omit H in
theorem nat_heads (h : Fin 2) (g : Fin 4) (p : Fin 2) : hdN (h.val * 8 + (g.val * 2 + p.val)) = h ∧ gpN (h.val * 8 + (g.val * 2 + p.val)) = g
    ∧ stN (h.val * 8 + (g.val * 2 + p.val)) = p := by
  unfold hdN gpN stN
  refine ⟨Fin.ext ?_, Fin.ext ?_, Fin.ext ?_⟩ <;> simp only <;> omega

/-- The keys' gradient at the end of a key head's points. -/
theorem dkAt_val (h : Fin 2) (hu : h.val * 8 + 7 < cfg0.N) (k : Fin 4096) (d : Fin 128) :
    dkAt m c (h.val * 8 + 7) hu (ix2 (n0 := 4096) (n1 := 128) k d) = ((∑ g, ∑ r, A.E h g r k * A.κ * A.q h g r d : ℝ) : EReal) := by
  rw [dkAt_sum m c H h.val 7 (by norm_num) hu, Finset.sum_range, Fin.sum_univ_tiles 4 2 (by norm_num)]
  refine congrArg _ (Finset.sum_congr rfl fun g _ => ?_)
  rw [← sum_rows]
  refine Finset.sum_congr rfl fun p _ => ?_
  obtain ⟨e0, e1, e2⟩ := nat_heads h g p
  unfold dkN dkAdd
  simp only [e0, e1, e2]
  refine Finset.sum_congr rfl fun s _ => ?_
  rw [Finset.sum_mul]
  exact Finset.sum_congr rfl fun i _ => by ring

/-- The values' gradient at the end of a key head's points. -/
theorem dvAt_val (h : Fin 2) (hu : h.val * 8 + 7 < cfg0.N) (k : Fin 4096) (d : Fin 128) :
    dvAt m c (h.val * 8 + 7) hu (ix2 (n0 := 4096) (n1 := 128) k d) = ((∑ g, ∑ r, A.dO h g r d * A.w h g r k : ℝ) : EReal) := by
  rw [dvAt_sum m c H h.val 7 (by norm_num) hu, Finset.sum_range, Fin.sum_univ_tiles 4 2 (by norm_num)]
  refine congrArg _ (Finset.sum_congr rfl fun g _ => ?_)
  rw [← sum_rows]
  refine Finset.sum_congr rfl fun p _ => ?_
  obtain ⟨e0, e1, e2⟩ := nat_heads h g p
  unfold dvN dvAdd
  simp only [e0, e1, e2]
  exact Finset.sum_congr rfl fun s _ => Finset.sum_congr rfl fun i _ => by ring

/-- The sink's gradient at the end of a query head's points. -/
theorem dsAt_val (h : Fin 2) (g : Fin 4) (hu : (h.val * 4 + g.val) * 2 + 1 < cfg0.N) (d : Fin 128) :
    dsAt m c ((h.val * 4 + g.val) * 2 + 1) hu (ix3 (n0 := 1) (n1 := 1) (n2 := 128) 0 0 d) = ((∑ r, -A.S h g r * A.e h g r : ℝ) : EReal) := by
  rw [dsAt_sum m c H (h.val * 4 + g.val) 1 (by norm_num) hu, Finset.sum_range]
  refine congrArg _ ?_
  rw [← sum_rows]
  refine Finset.sum_congr rfl fun p _ => ?_
  obtain ⟨e0, e1, e2⟩ := nat_heads h g p
  have e : (h.val * 4 + g.val) * 2 + p.val = h.val * 8 + (g.val * 2 + p.val) := by ring
  unfold dsN dsAdd
  simp only [e, e0, e1, e2]

/-- The queries' gradient of a point. -/
theorem dqPt_val (t : Fin cfg0.N) (y : Fin 2048) (d : Fin 128) :
    dqPt m c t (ix2 (n0 := 2048) (n1 := 128) y d) = ((∑ k, A.E (hd t) (gp t) (stepRow (st t) y) k * A.κ * A.k (hd t) k d : ℝ) : EReal) := by
  unfold dqPt
  rw [stp_eq t]
  refine (dqOut_val (ptHas m c H t) y d).trans (congrArg _ ?_)
  rw [Finset.sum_mul]
  exact Finset.sum_congr rfl fun i _ => by ring

end Cert.KernelIdeal.Body

end
-- ==== Proof.Attn.Columns.lean ====
module

public import proofs.«01_k».proof.Proof.Attn.RefVal

@[expose] public section

set_option maxRecDepth 16384

noncomputable section

namespace Cert.ReferenceIdeal.Term

open Cert.ReferenceIdeal Cert.ReferenceIdeal.Gen
open Idealize.ShloMosaic Idealize.ShloMosaic.TcCoe Idealize.SL.Sem

variable (x : In Ideal)

/-! The gradients as the columns of the arrays they are written into. -/

theorem dQcols_at (r : Fin 4096) (j : Fin 1024) : dQcols x (ix2 r j) = dQ x (ix4 ⟨j.val / 512, by omega⟩ ⟨j.val / 128 % 4, by omega⟩ r ⟨j.val % 128, by omega⟩) := by
  unfold dQcols; generalize dQ x = a; pointwise
theorem dKcols_at (r : Fin 4096) (j : Fin 256) : dKcols x (ix2 r j) = dK x (ix3 ⟨j.val / 128, by omega⟩ r ⟨j.val % 128, by omega⟩) := by
  unfold dKcols; generalize dK x = a; pointwise
theorem dVcols_at (r : Fin 4096) (j : Fin 256) : dVcols x (ix2 r j) = dV x (ix3 ⟨j.val / 128, by omega⟩ r ⟨j.val % 128, by omega⟩) := by
  unfold dVcols; generalize dV x = a; pointwise
theorem dSinkLanes_at (i : Fin 8) (l : Fin 128) : dSinkLanes x (ix3 i 0 l) = dSink x (ix2 ⟨i.val / 4, by omega⟩ ⟨i.val % 4, by omega⟩) := by
  unfold dSinkLanes; generalize dSink x = a; pointwise

/-- Columns of gradient in front of an array's other columns. -/
def frontQ (y : Vec Ideal S4096x1024 .f32) (a : Vec Ideal S4096x3584 .f32) : Vec Ideal S4096x3584 .f32 :=
  concatenate S4096x3584 1 [⟨S4096x1024, y⟩, ⟨S4096x2560, extractStridedSlice S4096x2560 ![0, 1024] a slices_S4096x3584_S4096x2560_0_1024⟩]
    concatenates_S4096x1024_S4096x2560_S4096x3584_d1
def frontK (y : Vec Ideal S4096x256 .f32) (a : Vec Ideal S4096x2816 .f32) : Vec Ideal S4096x2816 .f32 :=
  concatenate S4096x2816 1 [⟨S4096x256, y⟩, ⟨S4096x2560, extractStridedSlice S4096x2560 ![0, 256] a slices_S4096x2816_S4096x2560_0_256⟩]
    concatenates_S4096x256_S4096x2560_S4096x2816_d1

theorem frontQ_at (y : Vec Ideal S4096x1024 .f32) (a : Vec Ideal S4096x3584 .f32) (r : Fin 4096) (j : Fin 3584) :
    frontQ y a (ix2 r j) = if h : j.val < 1024 then y (ix2 r ⟨j.val, h⟩) else a (ix2 r j) := by
  unfold frontQ
  pointwise
  split_ifs with h <;> first | rfl | exact congrArg (fun j => a (ix2 r j)) (Fin.ext (by simp only; omega))
theorem frontK_at (y : Vec Ideal S4096x256 .f32) (a : Vec Ideal S4096x2816 .f32) (r : Fin 4096) (j : Fin 2816) :
    frontK y a (ix2 r j) = if h : j.val < 256 then y (ix2 r ⟨j.val, h⟩) else a (ix2 r j) := by
  unfold frontK
  pointwise
  split_ifs with h <;> first | rfl | exact congrArg (fun j => a (ix2 r j)) (Fin.ext (by simp only; omega))

end Cert.ReferenceIdeal.Term

end
-- ==== Proof.Attn.Final.lean ====
module

public import proofs.«01_k».proof.Proof.Attn.Total
public import proofs.«01_k».proof.Proof.Attn.Columns
public import Idealize.ShloMosaic.Lib.Pipeline.ValueKit
public import Idealize.ShloMosaic.Lib.Pipeline.ValueKit.Partial

@[expose] public section

set_option maxRecDepth 16384

noncomputable section

namespace Cert.KernelIdeal.Body

open Cert.KernelIdeal Cert.KernelIdeal.Gen
open Idealize.ShloMosaic Idealize.ShloMosaic.TcCoe Idealize.SL.Sem

/-! What the result arrays hold after the run: what the points write, and outside the written columns what the array held. -/

variable (m : (ℓ : Loc nD τ sig) → Buf (Elt Ideal) ℓ) (c : Dev nD)

/-- Which block of its array each result's window writes. -/
theorem idxR : ∀ t : Fin cfg0.N, win0_7.index t 0 = t.val % 2 ∧ win0_7.index t 1 = t.val / 2 ∧ win0_8.index t 0 = 0 ∧ win0_8.index t 1 = t.val / 8
    ∧ win0_9.index t 0 = 0 ∧ win0_9.index t 1 = t.val / 8 ∧ win0_10.index t 0 = t.val / 2 ∧ win0_10.index t 1 = 0 ∧ win0_10.index t 2 = 0 := by decide +kernel

theorem covers7 : (cfg0.win 7).CoversWhere (fun β => β (1 : Fin 2) < 8) := by decide +kernel
theorem covers8 : (cfg0.win 8).CoversWhere (fun β => β (1 : Fin 2) < 2) := by decide +kernel
theorem covers9 : (cfg0.win 9).CoversWhere (fun β => β (1 : Fin 2) < 2) := by decide +kernel
theorem covers10 : (cfg0.win 10).Covers := by decide +kernel

theorem emb7 (t : Fin cfg0.N) (y : Fin 2048) (d : Fin 128) :
    (win0_7.blk t).view.emb (ix2 (n0 := 2048) (n1 := 128) y d) = ix2 (n0 := 4096) (n1 := 3584) (stepRow (st t) y) ⟨t.val / 2 * 128 + d.val, by have := lt16 t; omega⟩ := by
  obtain ⟨e0, e1, -⟩ := idxR t
  unfold stepRow st
  blk_ext [e0, e1]
theorem emb8 (t : Fin cfg0.N) (k : Fin 4096) (d : Fin 128) :
    (win0_8.blk t).view.emb (ix2 (n0 := 4096) (n1 := 128) k d) = ix2 (n0 := 4096) (n1 := 2816) k ⟨t.val / 8 * 128 + d.val, by have := lt16 t; omega⟩ := by
  obtain ⟨-, -, e0, e1, -⟩ := idxR t
  blk_ext [e0, e1]
theorem emb9 (t : Fin cfg0.N) (k : Fin 4096) (d : Fin 128) :
    (win0_9.blk t).view.emb (ix2 (n0 := 4096) (n1 := 128) k d) = ix2 (n0 := 4096) (n1 := 2816) k ⟨t.val / 8 * 128 + d.val, by have := lt16 t; omega⟩ := by
  obtain ⟨-, -, -, -, e0, e1, -⟩ := idxR t
  blk_ext [e0, e1]
theorem emb10 (t : Fin cfg0.N) (d : Fin 128) :
    (win0_10.blk t).view.emb (ix3 (n0 := 1) (n1 := 1) (n2 := 128) 0 0 d) = ix3 (n0 := 8) (n1 := 1) (n2 := 128) ⟨t.val / 2, by have := lt16 t; omega⟩ 0 d := by
  obtain ⟨-, -, -, -, -, -, e0, e1, e2⟩ := idxR t
  blk_ext [e0, e1, e2]

theorem arr7 (G : Vec Ideal S4096x3584 .f32)
    (hG : ∀ (t : Fin cfg0.N) (y : Fin 2048) (d : Fin 128), dqPt m c t (ix2 (n0 := 2048) (n1 := 128) y d) = G (ix2 (stepRow (st t) y) ⟨t.val / 2 * 128 + d.val, by have := lt16 t; omega⟩))
    (hR : ∀ (r : Fin 4096) (j : Fin 3584), 1024 ≤ j.val → m ((c.tc : Thread nD τ).loc main_arg5) (ix2 r j) = G (ix2 r j)) :
    (dats m 0 c).arrAt 7 cfg0.N = G := by
  funext i
  refine ((dats m 0 c).arrAt_apply_of_coversWhere 7 G (P := fun i => (i (1 : Fin 2)).val / 128 < 8) (fun β => β (1 : Fin 2) < 8) covers7 (fun t hf y => ?_)
    (fun j => Iff.rfl) i).trans ?_
  · blk_simp
    rw [after_7]
    obtain ⟨a, b, rfl⟩ : ∃ (a : Fin 2048) (b : Fin 128), y = ix2 a b := ⟨_, _, eq_ix2 y⟩
    exact (hG t a b).trans (congrArg G (emb7 t a b)).symm
  · split_ifs with h
    · rfl
    · obtain ⟨r, j, rfl⟩ : ∃ (r : Fin 4096) (j : Fin 3584), i = ix2 r j := ⟨_, _, eq_ix2 i⟩
      rw [A_eq]
      refine (congrFun (host_v50_0 m c) _).trans (hR r j ?_)
      have : ¬ j.val / 128 < 8 := h
      omega

theorem arr8 (G : Vec Ideal S4096x2816 .f32)
    (hG : ∀ (t : Fin cfg0.N) (k : Fin 4096) (d : Fin 128), t.val % 8 = 7 → dkAt m c t.val t.isLt (ix2 (n0 := 4096) (n1 := 128) k d) = G (ix2 k ⟨t.val / 8 * 128 + d.val, by have := lt16 t; omega⟩))
    (hR : ∀ (r : Fin 4096) (j : Fin 2816), 256 ≤ j.val → m ((c.tc : Thread nD τ).loc main_arg6) (ix2 r j) = G (ix2 r j)) :
    (dats m 0 c).arrAt 8 cfg0.N = G := by
  funext i
  refine ((dats m 0 c).arrAt_apply_of_coversWhere 8 G (P := fun i => (i (1 : Fin 2)).val / 128 < 2) (fun β => β (1 : Fin 2) < 2) covers8 (fun t hf y => ?_)
    (fun j => Iff.rfl) i).trans ?_
  · have hf' := (flush0_8 t).mp hf
    blk_simp
    rw [after_8]
    obtain ⟨a, b, rfl⟩ : ∃ (a : Fin 4096) (b : Fin 128), y = ix2 a b := ⟨_, _, eq_ix2 y⟩
    exact (hG t a b hf').trans (congrArg G (emb8 t a b)).symm
  · split_ifs with h
    · rfl
    · obtain ⟨r, j, rfl⟩ : ∃ (r : Fin 4096) (j : Fin 2816), i = ix2 r j := ⟨_, _, eq_ix2 i⟩
      rw [A_eq]
      refine (congrFun (host_v50_1 m c) _).trans (hR r j ?_)
      have : ¬ j.val / 128 < 2 := h
      omega

theorem arr9 (G : Vec Ideal S4096x2816 .f32)
    (hG : ∀ (t : Fin cfg0.N) (k : Fin 4096) (d : Fin 128), t.val % 8 = 7 → dvAt m c t.val t.isLt (ix2 (n0 := 4096) (n1 := 128) k d) = G (ix2 k ⟨t.val / 8 * 128 + d.val, by have := lt16 t; omega⟩))
    (hR : ∀ (r : Fin 4096) (j : Fin 2816), 256 ≤ j.val → m ((c.tc : Thread nD τ).loc main_arg7) (ix2 r j) = G (ix2 r j)) :
    (dats m 0 c).arrAt 9 cfg0.N = G := by
  funext i
  refine ((dats m 0 c).arrAt_apply_of_coversWhere 9 G (P := fun i => (i (1 : Fin 2)).val / 128 < 2) (fun β => β (1 : Fin 2) < 2) covers9 (fun t hf y => ?_)
    (fun j => Iff.rfl) i).trans ?_
  · have hf' := (flush0_9 t).mp hf
    blk_simp
    rw [after_9]
    obtain ⟨a, b, rfl⟩ : ∃ (a : Fin 4096) (b : Fin 128), y = ix2 a b := ⟨_, _, eq_ix2 y⟩
    exact (hG t a b hf').trans (congrArg G (emb9 t a b)).symm
  · split_ifs with h
    · rfl
    · obtain ⟨r, j, rfl⟩ : ∃ (r : Fin 4096) (j : Fin 2816), i = ix2 r j := ⟨_, _, eq_ix2 i⟩
      rw [A_eq]
      refine (congrFun (host_v50_2 m c) _).trans (hR r j ?_)
      have : ¬ j.val / 128 < 2 := h
      omega

theorem arr10 (G : Vec Ideal S8x1x128 .f32)
    (hG : ∀ (t : Fin cfg0.N) (d : Fin 128), t.val % 2 = 1 → dsAt m c t.val t.isLt (ix3 (n0 := 1) (n1 := 1) (n2 := 128) 0 0 d) = G (ix3 ⟨t.val / 2, by have := lt16 t; omega⟩ 0 d)) :
    (dats m 0 c).arrAt 10 cfg0.N = G := by
  refine (dats m 0 c).arrAt_eq_of_covers 10 G covers10 (fun t hf y => ?_)
  have hf' := (flush0_10 t).mp hf
  blk_simp
  rw [after_10]
  obtain ⟨a, b, d, rfl⟩ : ∃ (a : Fin 1) (b : Fin 1) (d : Fin 128), y = ix3 a b d := ⟨_, _, _, eq_ix3 y⟩
  obtain rfl : a = 0 := Subsingleton.elim _ _
  obtain rfl : b = 0 := Subsingleton.elim _ _
  exact (hG t d hf').trans (congrArg G (emb10 t d)).symm

end Cert.KernelIdeal.Body

end
-- ==== Proof.Attn.Grads.lean ====
module

public import proofs.«01_k».proof.Proof.Attn.Final

@[expose] public section

set_option maxRecDepth 16384

noncomputable section

namespace Cert.KernelIdeal.Body

open Cert.KernelIdeal Cert.KernelIdeal.Gen
open Idealize.ShloMosaic Idealize.ShloMosaic.TcCoe Idealize.SL.Sem
open Cert.Attn (Reals)
open Cert.ReferenceIdeal.Term (Has dQ dK dV dSink dQcols dKcols dVcols dSinkLanes dQcols_at dKcols_at dVcols_at dSinkLanes_at frontQ frontK frontQ_at frontK_at dQ_val dK_val dV_val dSink_val)

/-! The result arrays of the kernel are those of the reference. -/

variable (m : (ℓ : Loc nD τ sig) → Buf (Elt Ideal) ℓ) (c : Dev nD) {A : Reals} (H : Has (kin m c) A)
include H

/-- A point's columns of the queries' gradient. -/
theorem dQcols_pt (t : Fin cfg0.N) (r : Fin 4096) (d : Fin 128) (hj : t.val / 2 * 128 + d.val < 1024) :
    dQcols (kin m c) (ix2 r ⟨t.val / 2 * 128 + d.val, hj⟩) = ((∑ k, A.E (hd t) (gp t) r k * A.κ * A.k (hd t) k d : ℝ) : EReal) := by
  have := lt16 t
  rw [dQcols_at, ← dQ_val _ _ _ _ H]
  refine congrArg (dQ (kin m c)) (ix4_of r ?_ ?_ ?_)
  · show (t.val / 2 * 128 + d.val) / 512 = t.val / 8; omega
  · show (t.val / 2 * 128 + d.val) / 128 % 4 = t.val / 2 % 4; omega
  · show (t.val / 2 * 128 + d.val) % 128 = d.val; omega

omit H in
theorem ix3_of {h h' : Fin 2} (r : Fin 4096) {d d' : Fin 128} (hh : h.val = h'.val) (hd : d.val = d'.val) :
    ix3 (n0 := 2) (n1 := 4096) (n2 := 128) h r d = ix3 h' r d' := by
  rw [Fin.ext hh, Fin.ext hd]

theorem final7 : (dats m 0 c).arrAt 7 cfg0.N = frontQ (dQcols (kin m c)) (m ((c.tc : Thread nD τ).loc main_arg5)) := by
  refine arr7 m c _ (fun t y d => ?_) (fun r j hj => ?_)
  · have := lt16 t
    have hj : t.val / 2 * 128 + d.val < 1024 := by omega
    rw [dqPt_val m c H, ← dQcols_pt m c H t _ d hj]
    exact ((frontQ_at _ _ _ _).trans (dif_pos hj)).symm
  · exact ((frontQ_at _ _ _ _).trans (dif_neg (Nat.not_lt.mpr hj))).symm

theorem dkAt_end (t : Fin cfg0.N) (ht : t.val % 8 = 7) (k : Fin 4096) (d : Fin 128) (hj : t.val / 8 * 128 + d.val < 256) :
    dkAt m c t.val t.isLt (ix2 (n0 := 4096) (n1 := 128) k d) = dKcols (kin m c) (ix2 k ⟨t.val / 8 * 128 + d.val, hj⟩) := by
  have hlt := lt16 t
  have e : (hd t).val * 8 + 7 = t.val := by unfold hd; simp only; omega
  have key := dkAt_val m c H (hd t) (e ▸ t.isLt) k d
  rw [← dK_val _ _ _ H] at key
  simp only [e] at key
  rw [key, dKcols_at]
  refine congrArg (dK (kin m c)) (ix3_of k ?_ ?_)
  · show t.val / 8 = (t.val / 8 * 128 + d.val) / 128; omega
  · show d.val = (t.val / 8 * 128 + d.val) % 128; omega

theorem dvAt_end (t : Fin cfg0.N) (ht : t.val % 8 = 7) (k : Fin 4096) (d : Fin 128) (hj : t.val / 8 * 128 + d.val < 256) :
    dvAt m c t.val t.isLt (ix2 (n0 := 4096) (n1 := 128) k d) = dVcols (kin m c) (ix2 k ⟨t.val / 8 * 128 + d.val, hj⟩) := by
  have hlt := lt16 t
  have e : (hd t).val * 8 + 7 = t.val := by unfold hd; simp only; omega
  have key := dvAt_val m c H (hd t) (e ▸ t.isLt) k d
  rw [← dV_val _ _ _ H] at key
  simp only [e] at key
  rw [key, dVcols_at]
  refine congrArg (dV (kin m c)) (ix3_of k ?_ ?_)
  · show t.val / 8 = (t.val / 8 * 128 + d.val) / 128; omega
  · show d.val = (t.val / 8 * 128 + d.val) % 128; omega

theorem final8 : (dats m 0 c).arrAt 8 cfg0.N = frontK (dKcols (kin m c)) (m ((c.tc : Thread nD τ).loc main_arg6)) := by
  refine arr8 m c _ (fun t k d ht => ?_) (fun r j hj => ?_)
  · have := lt16 t
    have hj : t.val / 8 * 128 + d.val < 256 := by omega
    rw [dkAt_end m c H t ht k d hj]
    exact ((frontK_at _ _ _ _).trans (dif_pos hj)).symm
  · exact ((frontK_at _ _ _ _).trans (dif_neg (Nat.not_lt.mpr hj))).symm

theorem final9 : (dats m 0 c).arrAt 9 cfg0.N = frontK (dVcols (kin m c)) (m ((c.tc : Thread nD τ).loc main_arg7)) := by
  refine arr9 m c _ (fun t k d ht => ?_) (fun r j hj => ?_)
  · have := lt16 t
    have hj : t.val / 8 * 128 + d.val < 256 := by omega
    rw [dvAt_end m c H t ht k d hj]
    exact ((frontK_at _ _ _ _).trans (dif_pos hj)).symm
  · exact ((frontK_at _ _ _ _).trans (dif_neg (Nat.not_lt.mpr hj))).symm

theorem final10 : (dats m 0 c).arrAt 10 cfg0.N = dSinkLanes (kin m c) := by
  refine arr10 m c _ (fun t d ht => ?_)
  have hlt := lt16 t
  have e : ((hd t).val * 4 + (gp t).val) * 2 + 1 = t.val := by unfold hd gp; simp only; omega
  have key := dsAt_val m c H (hd t) (gp t) (e ▸ t.isLt) d
  rw [← dSink_val _ _ H] at key
  simp only [e] at key
  rw [key, dSinkLanes_at]
  refine congrArg (dSink (kin m c)) (congrArg₂ (ix2 (n0 := 2) (n1 := 4)) (Fin.ext ?_) (Fin.ext ?_))
  · show t.val / 8 = t.val / 2 / 4; omega
  · rfl

end Cert.KernelIdeal.Body

end
-- ==== Proof.Algebra.lean ====
module

public import proofs.«01_k».proof.Defs
public import proofs.«01_k».proof.Proof.Attn.Grads
public import proofs.«01_k».proof.Proof.Attn.Finite
public import proofs.«01_k».proof.Proof.Gen.ReferenceIdeal.Run

@[expose] public section

set_option maxRecDepth 16384

noncomputable section

namespace Cert.Proof

open Idealize.ShloMosaic Idealize.ShloMosaic.TcCoe Idealize.SL.Sem
open Cert.Attn (Reals)
open Cert.ReferenceIdeal.Term (Has frontQ frontK dQcols dKcols dVcols dSinkLanes)
open Cert.KernelIdeal.Body (kin dats)

/-! The gradients of the windowed attention, computed by the kernel on arrays of real numbers, are those of the reference. -/

/-- A value whose absolute value is below infinity is a real number. -/
theorem real_of_abs (x : Ideal .f32) (h : FloatOps.cmpf .olt (FloatOps.hostAbsf x) (FloatOps.ofBits (F := Ideal) .f32 0x7F800000#32) = 1#1) :
    ∃ y : ℝ, x = ((y : ℝ) : EReal) := by
  have htop : Ideal.ofBits .f32 0x7F800000#32 = (⊤ : EReal) := by simp [Ideal.ofBits, Ideal.ieee]
  change Ideal.cmp .olt (max (x : EReal) (-(x : EReal))) (Ideal.ofBits .f32 0x7F800000#32) = 1#1 at h
  rw [htop] at h
  unfold Ideal.cmp at h
  revert h
  induction x using EReal.rec with
  | bot => simp
  | top => simp
  | coe y => exact fun _ => ⟨y, rfl⟩

variable (m : (ℓ : Loc Cert.KernelIdeal.nD Cert.KernelIdeal.τ Cert.KernelIdeal.sig) → Buf (Elt Ideal) ℓ)

theorem real_args (hp : Cert.Pre_KernelIdeal_finite m) (c : Dev Cert.KernelIdeal.nD) :
    (∀ i, ∃ y : ℝ, m ((c.tc : Thread Cert.KernelIdeal.nD Cert.KernelIdeal.τ).loc Cert.KernelIdeal.main_arg0) i = ((y : ℝ) : EReal))
    ∧ (∀ i, ∃ y : ℝ, m ((c.tc : Thread Cert.KernelIdeal.nD Cert.KernelIdeal.τ).loc Cert.KernelIdeal.main_arg1) i = ((y : ℝ) : EReal))
    ∧ (∀ i, ∃ y : ℝ, m ((c.tc : Thread Cert.KernelIdeal.nD Cert.KernelIdeal.τ).loc Cert.KernelIdeal.main_arg2) i = ((y : ℝ) : EReal))
    ∧ (∀ i, ∃ y : ℝ, m ((c.tc : Thread Cert.KernelIdeal.nD Cert.KernelIdeal.τ).loc Cert.KernelIdeal.main_arg3) i = ((y : ℝ) : EReal))
    ∧ (∀ i, ∃ y : ℝ, m ((c.tc : Thread Cert.KernelIdeal.nD Cert.KernelIdeal.τ).loc Cert.KernelIdeal.main_arg4) i = ((y : ℝ) : EReal)) := by
  obtain ⟨h0, h1, h2, h3, h4⟩ := hp c
  exact ⟨fun i => real_of_abs _ (congrFun h0 i), fun i => real_of_abs _ (congrFun h1 i), fun i => real_of_abs _ (congrFun h2 i),
    fun i => real_of_abs _ (congrFun h3 i), fun i => real_of_abs _ (congrFun h4 i)⟩

theorem has_reals (hp : Cert.Pre_KernelIdeal_finite m) (c : Dev Cert.KernelIdeal.nD) : ∃ A, Has (kin m c) A := by
  obtain ⟨h0, h1, h2, h3, h4⟩ := real_args m hp c
  refine Cert.ReferenceIdeal.Term.exists_has _ (fun h g r d => ?_) (fun h k d => ?_) (fun h k d => ?_) (fun h g => ?_) (fun h g r d => ?_)
  · rw [Cert.KernelIdeal.Body.kin_q]; exact h0 _
  · rw [Cert.KernelIdeal.Body.kin_k]; exact h1 _
  · rw [Cert.KernelIdeal.Body.kin_v]; exact h2 _
  · rw [Cert.KernelIdeal.Body.kin_sk]; exact h4 _
  · rw [Cert.KernelIdeal.Body.kin_dO]; exact h3 _

section Kernel
open Cert.KernelIdeal Cert.KernelIdeal.Gen

variable (ρ : Dev nD → PrngReg)

/-- What the kernel's run leaves, where the arrays hold real numbers. -/
theorem kernel_run (hp : Cert.Pre_KernelIdeal_finite m) :
    θ_run defs (onTc (τ := τ) (main (F := Ideal))) ⟨m, fun _ => 0, ρ⟩ (fun r => ∀ c : Dev nD,
      (r.2.mem ((c.tc : Thread nD τ).loc main_v50_0) = frontQ (dQcols (kin m c)) (m ((c.tc : Thread nD τ).loc main_arg5))
        ∧ r.2.mem ((c.tc : Thread nD τ).loc main_v50_1) = frontK (dKcols (kin m c)) (m ((c.tc : Thread nD τ).loc main_arg6))
        ∧ r.2.mem ((c.tc : Thread nD τ).loc main_v50_2) = frontK (dVcols (kin m c)) (m ((c.tc : Thread nD τ).loc main_arg7))
        ∧ r.2.mem ((c.tc : Thread nD τ).loc main_v50_3) = dSinkLanes (kin m c))) :=
  (θ_run defs _ _).mono (fun r h c => by
    obtain ⟨A, H⟩ := has_reals m hp c
    exact ⟨(h.1.out_eq c 7).trans (Cert.KernelIdeal.Body.final7 m c H), (h.1.out_eq c 8).trans (Cert.KernelIdeal.Body.final8 m c H),
      (h.1.out_eq c 9).trans (Cert.KernelIdeal.Body.final9 m c H), (h.1.out_eq c 10).trans (Cert.KernelIdeal.Body.final10 m c H)⟩)
    (Cert.KernelIdeal.Body.run_quiet m ρ)

end Kernel

theorem algebraic_KernelIdeal_ReferenceIdeal_pre_finite : Cert.algebraic_KernelIdeal_ReferenceIdeal_pre_finite := by
  intro m g m' g' hp hagree
  refine ⟨fun c => frontQ (dQcols (kin m c)) (m ((c.tc : Thread Cert.KernelIdeal.nD Cert.KernelIdeal.τ).loc Cert.KernelIdeal.main_arg5)),
    fun c => frontK (dKcols (kin m c)) (m ((c.tc : Thread Cert.KernelIdeal.nD Cert.KernelIdeal.τ).loc Cert.KernelIdeal.main_arg6)),
    fun c => frontK (dVcols (kin m c)) (m ((c.tc : Thread Cert.KernelIdeal.nD Cert.KernelIdeal.τ).loc Cert.KernelIdeal.main_arg7)),
    fun c => dSinkLanes (kin m c), ?_, ?_⟩
  · refine (θ_run Cert.KernelIdeal.defs _ _).mono (fun r h c => ?_)
      (θ_run_and (kernel_run m g hp) (Cert.KernelIdeal.Body.frame_main (F := Ideal) m g))
    obtain ⟨h0, h1, h2, h3⟩ := h.1 c
    exact ⟨h0, h1, h2, h3, h.2.1 c⟩
  · refine (θ_run Cert.ReferenceIdeal.defs _ _).mono (fun r h c => ?_) (Cert.ReferenceIdeal.Value.run (F := Ideal) m' g')
    obtain ⟨h0, h1, h2, h3, hk⟩ := h c
    obtain ⟨a0, a1, a2, a3, a4, a5, a6, a7⟩ := hagree c
    have hin : Cert.ReferenceIdeal.Term.inOf m' c = kin m c := by
      unfold Cert.ReferenceIdeal.Term.inOf kin
      rw [a0, a1, a2, a3, a4]
    refine ⟨h0.trans ?_, h1.trans ?_, h2.trans ?_, h3.trans ?_, hk⟩
    · rw [Cert.ReferenceIdeal.Term.res_dQ, hin, a5]; rfl
    · rw [Cert.ReferenceIdeal.Term.res_dK, hin, a6]; rfl
    · rw [Cert.ReferenceIdeal.Term.res_dV, hin, a7]; rfl
    · rw [Cert.ReferenceIdeal.Term.res_dSink, hin]

end Cert.Proof

end
-- ==== Proof.Product.ProjBwdW.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `proj_bwd_w`: its frames, the array it leaves as a sum of products, and its equality with the
    reference's product. -/

namespace Cert.Kernel2Ideal.Body

open Idealize.ShloMosaic Idealize.SL.Sem Cert.Kernel2Ideal.Gen

variable (m : (ℓ : Loc nD τ sig) → Buf (Elt Ideal) ℓ) (ρ : Dev nD → PrngReg)

/-- One block product at an index. -/
theorem pay1_apply (x : Vec Ideal S2048x512 .bf16) (w : Vec Ideal S2048x1920 .bf16) (i : S512x1920.Idx) :
    k0_pay1 (F := Ideal) x w i = ((∑ k : Fin 2048, x (ix2 k (i 0)) * w (ix2 k (i 1))) : EReal) := by
  unfold k0_pay1
  pointwise

/-- What the call computes: the weight gradient: the rows of `x` against the rows of `w`, the columns of `w` in 8 blocks of 1920. -/
def spec (x : Vec Ideal S4096x2048 .bf16) (w : Vec Ideal S4096x15360 .bf16) : Vec Ideal S8x2048x1920 .bf16 := fun i =>
  (∑ k : Fin 4096, x (ix2 k (i 1)) * w (ix2 k ⟨(i 0).val * 1920 + (i 2).val, by have h0 : (i 0).val < 8 := (i 0).isLt; have h2 : (i 2).val < 1920 := (i 2).isLt; omega⟩) : EReal)

/-- The carried scratch at the last point of a run: the run's block products added up. -/
theorem acc (c : Dev nD) (t : Fin cfg0.N) (hf : t.val % 2 = 1) (j : S512x1920.Idx) : (outsAt0 m c t.val t.isLt).2 j
    = ∑ s : Fin 2, k0_pay1 (F := Ideal) (iblk m c 0 ⟨2 * (t.val / 2) + s.val, by have := t.isLt; have := s.isLt; have : cfg0.N = 64 := N_0; have : grid0.N = 64 := N_0; omega⟩)
        (iblk m c 1 ⟨2 * (t.val / 2) + s.val, by have := t.isLt; have := s.isLt; have : cfg0.N = 64 := N_0; have : grid0.N = 64 := N_0; omega⟩) j := by
  rw [Pipeline.eq_sum_fin_of_reset_step_apply_of_flush (fun n h => (outsAt0 m c n h).2) 2 (fun _ => (0 : EReal))
     (fun p => k0_pay1 (F := Ideal) (iblk m c 0 p) (iblk m c 1 p))
     (fun t h j => by
       rw [outsAt0_A m c t h (by omega) (by omega)]; frame_out
       unfold k0_pay2
       pointwise)
     (fun t h j => by
       rw [outsAt0_B m c t h (by omega) (by omega)]; frame_out
       unfold k0_pay3
       simp only [read_unread_whole]
       pointwise) t hf j]
  pointwise

/-- The block written back at the last point of a run, from the scratch. -/
theorem out_eq (c : Dev nD) (t : Fin cfg0.N) (hf : t.val % 2 = 1) :
    (outsAt0 m c t.val t.isLt).1 = k0_pay4 (F := Ideal) (outsAt0 m c t.val t.isLt).2 := by
  rw [outsAt0_B m c t (by omega) hf hf]; frame_out

/-- Which blocks of the operands the points of a run read, by the block of the result the run ends in. -/
theorem idx : ∀ t : Fin cfg0.N, t.val % 2 = 1 → ∀ s : Fin 2,
    win0_0.index ⟨2 * (t.val / 2) + s.val, by have := t.isLt; have := s.isLt; have : cfg0.N = 64 := N_0; have : grid0.N = 64 := N_0; omega⟩ 0 = s.val
    ∧ win0_0.index ⟨2 * (t.val / 2) + s.val, by have := t.isLt; have := s.isLt; have : cfg0.N = 64 := N_0; have : grid0.N = 64 := N_0; omega⟩ 1 = win0_2.index t 1
    ∧ win0_1.index ⟨2 * (t.val / 2) + s.val, by have := t.isLt; have := s.isLt; have : cfg0.N = 64 := N_0; have : grid0.N = 64 := N_0; omega⟩ 0 = s.val
    ∧ win0_1.index ⟨2 * (t.val / 2) + s.val, by have := t.isLt; have := s.isLt; have : cfg0.N = 64 := N_0; have : grid0.N = 64 := N_0; omega⟩ 1 = win0_2.index t 0 + win0_2.index t 2 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  have hm : t.val % 2 = 1 := (flush0_2 t).mp hf
  blk_simp
  rw [after0_2, out_eq m c t hm]
  unfold k0_pay4
  pointwise
  rw [acc m c t hm]
  unfold spec
  simp only [pay1_apply]
  refine Fin.sum_mul_add_congr fun s k h => ?_
  obtain ⟨e0, e1, e2, e3⟩ := idx t hm s
  congr 1 <;> blk_ext [iblk, V, e0, e1, e2, e3]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel2Ideal.Value.run_blocks (F := Ideal) m ρ)

end Cert.Kernel2Ideal.Body

namespace Cert.Proof

open Idealize.ShloMosaic Idealize.SL.Sem

theorem quiescent_Kernel2 : Cert.quiescent_Kernel2 := fun m ρ _ => Cert.Kernel2.Gen.frame m ρ

theorem quiescent_Kernel2Ideal : Cert.quiescent_Kernel2Ideal := fun m ρ _ => Cert.Kernel2Ideal.Gen.frame m ρ

theorem quiescent_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : Cert.algebraic_Kernel2Ideal_Reference2Ideal := by
  intro m ρ m' ρ' _ hagree
  refine ⟨_, Cert.Kernel2Ideal.Body.run_spec m ρ, ?_⟩
  refine (θ_run Cert.Reference2Ideal.defs _ _).mono (fun _ h c => ⟨?_, (h c).2⟩) (Cert.Reference2Ideal.Value.run (F := Ideal) m' ρ')
  rw [(h c).1]
  simp only [hagree c]
  funext i
  unfold Cert.Kernel2Ideal.Body.spec
  pointwise
  exact Finset.sum_congr rfl fun _ _ => mul_comm _ _

end Cert.Proof

end
-- ==== Proof.Product.ProjBwdX.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `proj_bwd_x`: its frames, the array it leaves as a sum of products, and its equality with the
    reference's product. -/

namespace Cert.Kernel3Ideal.Body

open Idealize.ShloMosaic Idealize.SL.Sem Cert.Kernel3Ideal.Gen

variable (m : (ℓ : Loc nD τ sig) → Buf (Elt Ideal) ℓ) (ρ : Dev nD → PrngReg)

/-- One block product at an index. -/
theorem pay1_apply (x : Vec Ideal S1024x1920 .bf16) (w : Vec Ideal S1x1x1024x1920 .bf16) (i : S1024x1024.Idx) :
    k0_pay1 (F := Ideal) x w i = ((∑ k : Fin 1920, x (ix2 (i 0) k) * w (ix4 0 0 (i 1) k)) : EReal) := by
  unfold k0_pay1
  pointwise

/-- What the call computes: the input gradient: the rows of `x` against the rows of `w`, whose columns lie in 8 blocks of 1920. -/
def spec (x : Vec Ideal S4096x15360 .bf16) (w : Vec Ideal S8x1x2048x1920 .bf16) : Vec Ideal S4096x2048 .f32 := fun i =>
  (∑ k : Fin 15360, x (ix2 (i 0) k) * w (ix4 ⟨k.val / 1920, by have := k.isLt; omega⟩ 0 (i 1) ⟨k.val % 1920, Nat.mod_lt _ (by decide)⟩) : EReal)

/-- The carried scratch at the last point of a run: the run's block products added up. -/
theorem acc (c : Dev nD) (t : Fin cfg0.N) (hf : t.val % 8 = 7) (j : S1024x1024.Idx) : (outsAt0 m c t.val t.isLt).2 j
    = ∑ s : Fin 8, k0_pay1 (F := Ideal) (iblk m c 0 ⟨8 * (t.val / 8) + s.val, by have := t.isLt; have := s.isLt; have : cfg0.N = 64 := N_0; have : grid0.N = 64 := N_0; omega⟩)
        (iblk m c 1 ⟨8 * (t.val / 8) + s.val, by have := t.isLt; have := s.isLt; have : cfg0.N = 64 := N_0; have : grid0.N = 64 := N_0; omega⟩) j := by
  rw [Pipeline.eq_sum_fin_of_reset_step_apply_of_flush (fun n h => (outsAt0 m c n h).2) 8 (fun _ => (0 : EReal))
     (fun p => k0_pay1 (F := Ideal) (iblk m c 0 p) (iblk m c 1 p))
     (fun t h j => by
       rw [outsAt0_A m c t h (by omega) (by omega)]; frame_out
       unfold k0_pay2
       pointwise)
     (fun t h j => by
       by_cases h2 : t.val % 8 = 7
       · rw [outsAt0_C m c t h (by omega) h2]; frame_out
         unfold k0_pay3
         simp only [read_unread_whole]
         pointwise
       · rw [outsAt0_B m c t h (by omega) h2]; frame_out
         unfold k0_pay3
         simp only [read_unread_whole]
         pointwise) t hf j]
  pointwise

/-- The block written back at the last point of a run, from the scratch. -/
theorem out_eq (c : Dev nD) (t : Fin cfg0.N) (hf : t.val % 8 = 7) :
    (outsAt0 m c t.val t.isLt).1 = (outsAt0 m c t.val t.isLt).2 := by
  rw [outsAt0_C m c t (by omega) (by omega) hf]; frame_out

/-- Which blocks of the operands the points of a run read, by the block of the result the run ends in. -/
theorem idx : ∀ t : Fin cfg0.N, t.val % 8 = 7 → ∀ s : Fin 8,
    win0_0.index ⟨8 * (t.val / 8) + s.val, by have := t.isLt; have := s.isLt; have : cfg0.N = 64 := N_0; have : grid0.N = 64 := N_0; omega⟩ 0 = win0_2.index t 0
    ∧ win0_0.index ⟨8 * (t.val / 8) + s.val, by have := t.isLt; have := s.isLt; have : cfg0.N = 64 := N_0; have : grid0.N = 64 := N_0; omega⟩ 1 = s.val
    ∧ win0_1.index ⟨8 * (t.val / 8) + s.val, by have := t.isLt; have := s.isLt; have : cfg0.N = 64 := N_0; have : grid0.N = 64 := N_0; omega⟩ 0 = s.val
    ∧ win0_1.index ⟨8 * (t.val / 8) + s.val, by have := t.isLt; have := s.isLt; have : cfg0.N = 64 := N_0; have : grid0.N = 64 := N_0; omega⟩ 1 = 0
    ∧ win0_1.index ⟨8 * (t.val / 8) + s.val, by have := t.isLt; have := s.isLt; have : cfg0.N = 64 := N_0; have : grid0.N = 64 := N_0; omega⟩ 2 = win0_2.index t 1
    ∧ win0_1.index ⟨8 * (t.val / 8) + s.val, by have := t.isLt; have := s.isLt; have : cfg0.N = 64 := N_0; have : grid0.N = 64 := N_0; omega⟩ 3 = 0 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  have hm : t.val % 8 = 7 := (flush0_2 t).mp hf
  blk_simp
  rw [after0_2, out_eq m c t hm]
  rw [acc m c t hm]
  unfold spec
  simp only [pay1_apply]
  refine Fin.sum_mul_add_congr fun s k h => ?_
  obtain ⟨e0, e1, e2, e3, e4, e5⟩ := idx t hm s
  congr 1 <;> blk_ext [iblk, V, e0, e1, e2, e3, e4, e5]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel3Ideal.Value.run_blocks (F := Ideal) m ρ)

end Cert.Kernel3Ideal.Body

namespace Cert.Reference3Ideal.Body

open Idealize.ShloMosaic Idealize.SL.Sem Cert.Reference3Ideal

/-- The weight as the reference lays it out, at an index. -/
theorem w_apply (w : FVec Ideal S8x1x2048x1920 .bf16) (h2 h3 h4 h5) (j : Fin 2048) (k : Fin 15360) :
    (shapeCast S2048x15360 (transpose S2048x8x1920 [1, 0, 2] (shapeCast S8x2048x1920 (extf .f32 w h2) h3) h4) h5) (ix2 j k) = w (ix4 ⟨k.val / 1920, by have := k.isLt; omega⟩ 0 j ⟨k.val % 1920, Nat.mod_lt _ (by decide)⟩) := by
  pointwise

/-- The reference's product at an index. -/
theorem ref_apply (x : FVec Ideal S4096x15360 .bf16) (w : FVec Ideal S8x1x2048x1920 .bf16) (h1 h2 h3 h4 h5) (i : S4096x2048.Idx) :
    ((Host.dotGeneral dot_S4096x15360_S2048x15360_S4096x2048_1_1_0_0_n_n none (extf .f32 x h1) (shapeCast S2048x15360 (transpose S2048x8x1920 [1, 0, 2] (shapeCast S8x2048x1920 (extf .f32 w h2) h3) h4) h5) : FVec Ideal S4096x2048 .f32)) i = Cert.Kernel3Ideal.Body.spec x w i := by
  unfold Cert.Kernel3Ideal.Body.spec
  generalize hW : (shapeCast S2048x15360 (transpose S2048x8x1920 [1, 0, 2] (shapeCast S8x2048x1920 (extf .f32 w h2) h3) h4) h5) = W
  pointwise
  subst hW
  refine Fin.sum_fin_congr fun k => ?_
  exact congrArg (fun e : EReal => x (ix2 (i 0) k) * e) (w_apply w h2 h3 h4 h5 (i 1) k)

end Cert.Reference3Ideal.Body

namespace Cert.Proof

open Idealize.ShloMosaic Idealize.SL.Sem

theorem quiescent_Kernel3 : Cert.quiescent_Kernel3 := fun m ρ _ => Cert.Kernel3.Gen.frame m ρ

theorem quiescent_Kernel3Ideal : Cert.quiescent_Kernel3Ideal := fun m ρ _ => Cert.Kernel3Ideal.Gen.frame m ρ

theorem quiescent_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : Cert.algebraic_Kernel3Ideal_Reference3Ideal := by
  intro m ρ m' ρ' _ hagree
  refine ⟨_, Cert.Kernel3Ideal.Body.run_spec m ρ, ?_⟩
  refine (θ_run Cert.Reference3Ideal.defs _ _).mono (fun _ h c => ⟨?_, (h c).2⟩) (Cert.Reference3Ideal.Value.run (F := Ideal) m' ρ')
  rw [(h c).1]
  simp only [hagree c]
  funext i
  exact Cert.Reference3Ideal.Body.ref_apply _ _ _ _ _ _ _ i

end Cert.Proof

end
-- ==== Proof.Product.GateUpBwdW.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `gate_up_bwd_w`: its frames, the array it leaves as a sum of products, and its equality with the
    reference's product. -/

namespace Cert.Kernel4Ideal.Body

open Idealize.ShloMosaic Idealize.SL.Sem Cert.Kernel4Ideal.Gen

variable (m : (ℓ : Loc nD τ sig) → Buf (Elt Ideal) ℓ) (ρ : Dev nD → PrngReg)

/-- One block product at an index. -/
theorem pay1_apply (x : Vec Ideal S2048x1024 .bf16) (w : Vec Ideal S2048x1408 .bf16) (i : S1024x1408.Idx) :
    k0_pay1 (F := Ideal) x w i = ((∑ k : Fin 2048, x (ix2 k (i 0)) * w (ix2 k (i 1))) : EReal) := by
  unfold k0_pay1
  pointwise

/-- What the call computes: the weight gradient: the rows of `x` against the rows of `w`, the columns of `w` in 8 blocks of 1408. -/
def spec (x : Vec Ideal S4096x2048 .bf16) (w : Vec Ideal S4096x11264 .bf16) : Vec Ideal S8x2048x1408 .bf16 := fun i =>
  (∑ k : Fin 4096, x (ix2 k (i 1)) * w (ix2 k ⟨(i 0).val * 1408 + (i 2).val, by have h0 : (i 0).val < 8 := (i 0).isLt; have h2 : (i 2).val < 1408 := (i 2).isLt; omega⟩) : EReal)

/-- The carried scratch at the last point of a run: the run's block products added up. -/
theorem acc (c : Dev nD) (t : Fin cfg0.N) (hf : t.val % 2 = 1) (j : S1024x1408.Idx) : (outsAt0 m c t.val t.isLt).2 j
    = ∑ s : Fin 2, k0_pay1 (F := Ideal) (iblk m c 0 ⟨2 * (t.val / 2) + s.val, by have := t.isLt; have := s.isLt; have : cfg0.N = 32 := N_0; have : grid0.N = 32 := N_0; omega⟩)
        (iblk m c 1 ⟨2 * (t.val / 2) + s.val, by have := t.isLt; have := s.isLt; have : cfg0.N = 32 := N_0; have : grid0.N = 32 := N_0; omega⟩) j := by
  rw [Pipeline.eq_sum_fin_of_reset_step_apply_of_flush (fun n h => (outsAt0 m c n h).2) 2 (fun _ => (0 : EReal))
     (fun p => k0_pay1 (F := Ideal) (iblk m c 0 p) (iblk m c 1 p))
     (fun t h j => by
       rw [outsAt0_A m c t h (by omega) (by omega)]; frame_out
       unfold k0_pay2
       pointwise)
     (fun t h j => by
       rw [outsAt0_B m c t h (by omega) (by omega)]; frame_out
       unfold k0_pay3
       simp only [read_unread_whole]
       pointwise) t hf j]
  pointwise

/-- The block written back at the last point of a run, from the scratch. -/
theorem out_eq (c : Dev nD) (t : Fin cfg0.N) (hf : t.val % 2 = 1) :
    (outsAt0 m c t.val t.isLt).1 = k0_pay4 (F := Ideal) (outsAt0 m c t.val t.isLt).2 := by
  rw [outsAt0_B m c t (by omega) hf hf]; frame_out

/-- Which blocks of the operands the points of a run read, by the block of the result the run ends in. -/
theorem idx : ∀ t : Fin cfg0.N, t.val % 2 = 1 → ∀ s : Fin 2,
    win0_0.index ⟨2 * (t.val / 2) + s.val, by have := t.isLt; have := s.isLt; have : cfg0.N = 32 := N_0; have : grid0.N = 32 := N_0; omega⟩ 0 = s.val
    ∧ win0_0.index ⟨2 * (t.val / 2) + s.val, by have := t.isLt; have := s.isLt; have : cfg0.N = 32 := N_0; have : grid0.N = 32 := N_0; omega⟩ 1 = win0_2.index t 1
    ∧ win0_1.index ⟨2 * (t.val / 2) + s.val, by have := t.isLt; have := s.isLt; have : cfg0.N = 32 := N_0; have : grid0.N = 32 := N_0; omega⟩ 0 = s.val
    ∧ win0_1.index ⟨2 * (t.val / 2) + s.val, by have := t.isLt; have := s.isLt; have : cfg0.N = 32 := N_0; have : grid0.N = 32 := N_0; omega⟩ 1 = win0_2.index t 0 + win0_2.index t 2 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  have hm : t.val % 2 = 1 := (flush0_2 t).mp hf
  blk_simp
  rw [after0_2, out_eq m c t hm]
  unfold k0_pay4
  pointwise
  rw [acc m c t hm]
  unfold spec
  simp only [pay1_apply]
  refine Fin.sum_mul_add_congr fun s k h => ?_
  obtain ⟨e0, e1, e2, e3⟩ := idx t hm s
  congr 1 <;> blk_ext [iblk, V, e0, e1, e2, e3]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel4Ideal.Value.run_blocks (F := Ideal) m ρ)

end Cert.Kernel4Ideal.Body

namespace Cert.Proof

open Idealize.ShloMosaic Idealize.SL.Sem

theorem quiescent_Kernel4 : Cert.quiescent_Kernel4 := fun m ρ _ => Cert.Kernel4.Gen.frame m ρ

theorem quiescent_Kernel4Ideal : Cert.quiescent_Kernel4Ideal := fun m ρ _ => Cert.Kernel4Ideal.Gen.frame m ρ

theorem quiescent_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : Cert.algebraic_Kernel4Ideal_Reference4Ideal := by
  intro m ρ m' ρ' _ hagree
  refine ⟨_, Cert.Kernel4Ideal.Body.run_spec m ρ, ?_⟩
  refine (θ_run Cert.Reference4Ideal.defs _ _).mono (fun _ h c => ⟨?_, (h c).2⟩) (Cert.Reference4Ideal.Value.run (F := Ideal) m' ρ')
  rw [(h c).1]
  simp only [hagree c]
  funext i
  unfold Cert.Kernel4Ideal.Body.spec
  pointwise
  exact Finset.sum_congr rfl fun _ _ => mul_comm _ _

end Cert.Proof

end
-- ==== Proof.Product.GateUpBwdX.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `gate_up_bwd_x`: its frames, the array it leaves as a sum of products, and its equality with the
    reference's product. -/

namespace Cert.Kernel5Ideal.Body

open Idealize.ShloMosaic Idealize.SL.Sem Cert.Kernel5Ideal.Gen

variable (m : (ℓ : Loc nD τ sig) → Buf (Elt Ideal) ℓ) (ρ : Dev nD → PrngReg)

/-- One block product at an index. -/
theorem pay1_apply (x : Vec Ideal S1024x1408 .bf16) (w : Vec Ideal S1x1x1024x1408 .bf16) (i : S1024x1024.Idx) :
    k0_pay1 (F := Ideal) x w i = ((∑ k : Fin 1408, x (ix2 (i 0) k) * w (ix4 0 0 (i 1) k)) : EReal) := by
  unfold k0_pay1
  pointwise

/-- What the call computes: the input gradient: the rows of `x` against the rows of `w`, whose columns lie in 8 blocks of 1408. -/
def spec (x : Vec Ideal S4096x11264 .bf16) (w : Vec Ideal S8x1x2048x1408 .bf16) : Vec Ideal S4096x2048 .f32 := fun i =>
  (∑ k : Fin 11264, x (ix2 (i 0) k) * w (ix4 ⟨k.val / 1408, by have := k.isLt; omega⟩ 0 (i 1) ⟨k.val % 1408, Nat.mod_lt _ (by decide)⟩) : EReal)

/-- The carried scratch at the last point of a run: the run's block products added up. -/
theorem acc (c : Dev nD) (t : Fin cfg0.N) (hf : t.val % 8 = 7) (j : S1024x1024.Idx) : (outsAt0 m c t.val t.isLt).2 j
    = ∑ s : Fin 8, k0_pay1 (F := Ideal) (iblk m c 0 ⟨8 * (t.val / 8) + s.val, by have := t.isLt; have := s.isLt; have : cfg0.N = 64 := N_0; have : grid0.N = 64 := N_0; omega⟩)
        (iblk m c 1 ⟨8 * (t.val / 8) + s.val, by have := t.isLt; have := s.isLt; have : cfg0.N = 64 := N_0; have : grid0.N = 64 := N_0; omega⟩) j := by
  rw [Pipeline.eq_sum_fin_of_reset_step_apply_of_flush (fun n h => (outsAt0 m c n h).2) 8 (fun _ => (0 : EReal))
     (fun p => k0_pay1 (F := Ideal) (iblk m c 0 p) (iblk m c 1 p))
     (fun t h j => by
       rw [outsAt0_A m c t h (by omega) (by omega)]; frame_out
       unfold k0_pay2
       pointwise)
     (fun t h j => by
       by_cases h2 : t.val % 8 = 7
       · rw [outsAt0_C m c t h (by omega) h2]; frame_out
         unfold k0_pay3
         simp only [read_unread_whole]
         pointwise
       · rw [outsAt0_B m c t h (by omega) h2]; frame_out
         unfold k0_pay3
         simp only [read_unread_whole]
         pointwise) t hf j]
  pointwise

/-- The block written back at the last point of a run, from the scratch. -/
theorem out_eq (c : Dev nD) (t : Fin cfg0.N) (hf : t.val % 8 = 7) :
    (outsAt0 m c t.val t.isLt).1 = (outsAt0 m c t.val t.isLt).2 := by
  rw [outsAt0_C m c t (by omega) (by omega) hf]; frame_out

/-- Which blocks of the operands the points of a run read, by the block of the result the run ends in. -/
theorem idx : ∀ t : Fin cfg0.N, t.val % 8 = 7 → ∀ s : Fin 8,
    win0_0.index ⟨8 * (t.val / 8) + s.val, by have := t.isLt; have := s.isLt; have : cfg0.N = 64 := N_0; have : grid0.N = 64 := N_0; omega⟩ 0 = win0_2.index t 0
    ∧ win0_0.index ⟨8 * (t.val / 8) + s.val, by have := t.isLt; have := s.isLt; have : cfg0.N = 64 := N_0; have : grid0.N = 64 := N_0; omega⟩ 1 = s.val
    ∧ win0_1.index ⟨8 * (t.val / 8) + s.val, by have := t.isLt; have := s.isLt; have : cfg0.N = 64 := N_0; have : grid0.N = 64 := N_0; omega⟩ 0 = s.val
    ∧ win0_1.index ⟨8 * (t.val / 8) + s.val, by have := t.isLt; have := s.isLt; have : cfg0.N = 64 := N_0; have : grid0.N = 64 := N_0; omega⟩ 1 = 0
    ∧ win0_1.index ⟨8 * (t.val / 8) + s.val, by have := t.isLt; have := s.isLt; have : cfg0.N = 64 := N_0; have : grid0.N = 64 := N_0; omega⟩ 2 = win0_2.index t 1
    ∧ win0_1.index ⟨8 * (t.val / 8) + s.val, by have := t.isLt; have := s.isLt; have : cfg0.N = 64 := N_0; have : grid0.N = 64 := N_0; omega⟩ 3 = 0 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  have hm : t.val % 8 = 7 := (flush0_2 t).mp hf
  blk_simp
  rw [after0_2, out_eq m c t hm]
  rw [acc m c t hm]
  unfold spec
  simp only [pay1_apply]
  refine Fin.sum_mul_add_congr fun s k h => ?_
  obtain ⟨e0, e1, e2, e3, e4, e5⟩ := idx t hm s
  congr 1 <;> blk_ext [iblk, V, e0, e1, e2, e3, e4, e5]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel5Ideal.Value.run_blocks (F := Ideal) m ρ)

end Cert.Kernel5Ideal.Body

namespace Cert.Reference5Ideal.Body

open Idealize.ShloMosaic Idealize.SL.Sem Cert.Reference5Ideal

/-- The weight as the reference lays it out, at an index. -/
theorem w_apply (w : FVec Ideal S8x1x2048x1408 .bf16) (h2 h3 h4 h5) (j : Fin 2048) (k : Fin 11264) :
    (shapeCast S2048x11264 (transpose S2048x8x1408 [1, 0, 2] (shapeCast S8x2048x1408 (extf .f32 w h2) h3) h4) h5) (ix2 j k) = w (ix4 ⟨k.val / 1408, by have := k.isLt; omega⟩ 0 j ⟨k.val % 1408, Nat.mod_lt _ (by decide)⟩) := by
  pointwise

/-- The reference's product at an index. -/
theorem ref_apply (x : FVec Ideal S4096x11264 .bf16) (w : FVec Ideal S8x1x2048x1408 .bf16) (h1 h2 h3 h4 h5) (i : S4096x2048.Idx) :
    ((Host.dotGeneral dot_S4096x11264_S2048x11264_S4096x2048_1_1_0_0_n_n none (extf .f32 x h1) (shapeCast S2048x11264 (transpose S2048x8x1408 [1, 0, 2] (shapeCast S8x2048x1408 (extf .f32 w h2) h3) h4) h5) : FVec Ideal S4096x2048 .f32)) i = Cert.Kernel5Ideal.Body.spec x w i := by
  unfold Cert.Kernel5Ideal.Body.spec
  generalize hW : (shapeCast S2048x11264 (transpose S2048x8x1408 [1, 0, 2] (shapeCast S8x2048x1408 (extf .f32 w h2) h3) h4) h5) = W
  pointwise
  subst hW
  refine Fin.sum_fin_congr fun k => ?_
  exact congrArg (fun e : EReal => x (ix2 (i 0) k) * e) (w_apply w h2 h3 h4 h5 (i 1) k)

end Cert.Reference5Ideal.Body

namespace Cert.Proof

open Idealize.ShloMosaic Idealize.SL.Sem

theorem quiescent_Kernel5 : Cert.quiescent_Kernel5 := fun m ρ _ => Cert.Kernel5.Gen.frame m ρ

theorem quiescent_Kernel5Ideal : Cert.quiescent_Kernel5Ideal := fun m ρ _ => Cert.Kernel5Ideal.Gen.frame m ρ

theorem quiescent_Reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : Cert.algebraic_Kernel5Ideal_Reference5Ideal := by
  intro m ρ m' ρ' _ hagree
  refine ⟨_, Cert.Kernel5Ideal.Body.run_spec m ρ, ?_⟩
  refine (θ_run Cert.Reference5Ideal.defs _ _).mono (fun _ h c => ⟨?_, (h c).2⟩) (Cert.Reference5Ideal.Value.run (F := Ideal) m' ρ')
  rw [(h c).1]
  simp only [hagree c]
  funext i
  exact Cert.Reference5Ideal.Body.ref_apply _ _ _ _ _ _ _ i

end Cert.Proof

end
-- ==== Proof.Product.DownBwdW.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `down_bwd_w`: its frames, the array it leaves as a sum of products, and its equality with the
    reference's product. -/

namespace Cert.Kernel6Ideal.Body

open Idealize.ShloMosaic Idealize.SL.Sem Cert.Kernel6Ideal.Gen

variable (m : (ℓ : Loc nD τ sig) → Buf (Elt Ideal) ℓ) (ρ : Dev nD → PrngReg)

/-- One block product at an index. -/
theorem pay1_apply (x : Vec Ideal S2048x512 .bf16) (w : Vec Ideal S2048x2048 .bf16) (i : S512x2048.Idx) :
    k0_pay1 (F := Ideal) x w i = ((∑ k : Fin 2048, x (ix2 k (i 0)) * w (ix2 k (i 1))) : EReal) := by
  unfold k0_pay1
  pointwise

/-- What the call computes: the weight gradient: the rows of `x` against the rows of `w`. -/
def spec (x : Vec Ideal S4096x5632 .bf16) (w : Vec Ideal S4096x2048 .bf16) : Vec Ideal S1x5632x2048 .bf16 := fun i =>
  (∑ k : Fin 4096, x (ix2 k (i 1)) * w (ix2 k ⟨(i 0).val * 2048 + (i 2).val, by have h0 : (i 0).val < 1 := (i 0).isLt; have h2 : (i 2).val < 2048 := (i 2).isLt; omega⟩) : EReal)

/-- The carried scratch at the last point of a run: the run's block products added up. -/
theorem acc (c : Dev nD) (t : Fin cfg0.N) (hf : t.val % 2 = 1) (j : S512x2048.Idx) : (outsAt0 m c t.val t.isLt).2 j
    = ∑ s : Fin 2, k0_pay1 (F := Ideal) (iblk m c 0 ⟨2 * (t.val / 2) + s.val, by have := t.isLt; have := s.isLt; have : cfg0.N = 22 := N_0; have : grid0.N = 22 := N_0; omega⟩)
        (iblk m c 1 ⟨2 * (t.val / 2) + s.val, by have := t.isLt; have := s.isLt; have : cfg0.N = 22 := N_0; have : grid0.N = 22 := N_0; omega⟩) j := by
  rw [Pipeline.eq_sum_fin_of_reset_step_apply_of_flush (fun n h => (outsAt0 m c n h).2) 2 (fun _ => (0 : EReal))
     (fun p => k0_pay1 (F := Ideal) (iblk m c 0 p) (iblk m c 1 p))
     (fun t h j => by
       rw [outsAt0_A m c t h (by omega) (by omega)]; frame_out
       unfold k0_pay2
       pointwise)
     (fun t h j => by
       rw [outsAt0_B m c t h (by omega) (by omega)]; frame_out
       unfold k0_pay3
       simp only [read_unread_whole]
       pointwise) t hf j]
  pointwise

/-- The block written back at the last point of a run, from the scratch. -/
theorem out_eq (c : Dev nD) (t : Fin cfg0.N) (hf : t.val % 2 = 1) :
    (outsAt0 m c t.val t.isLt).1 = k0_pay4 (F := Ideal) (outsAt0 m c t.val t.isLt).2 := by
  rw [outsAt0_B m c t (by omega) hf hf]; frame_out

/-- Which blocks of the operands the points of a run read, by the block of the result the run ends in. -/
theorem idx : ∀ t : Fin cfg0.N, t.val % 2 = 1 → ∀ s : Fin 2,
    win0_0.index ⟨2 * (t.val / 2) + s.val, by have := t.isLt; have := s.isLt; have : cfg0.N = 22 := N_0; have : grid0.N = 22 := N_0; omega⟩ 0 = s.val
    ∧ win0_0.index ⟨2 * (t.val / 2) + s.val, by have := t.isLt; have := s.isLt; have : cfg0.N = 22 := N_0; have : grid0.N = 22 := N_0; omega⟩ 1 = win0_2.index t 1
    ∧ win0_1.index ⟨2 * (t.val / 2) + s.val, by have := t.isLt; have := s.isLt; have : cfg0.N = 22 := N_0; have : grid0.N = 22 := N_0; omega⟩ 0 = s.val
    ∧ win0_1.index ⟨2 * (t.val / 2) + s.val, by have := t.isLt; have := s.isLt; have : cfg0.N = 22 := N_0; have : grid0.N = 22 := N_0; omega⟩ 1 = win0_2.index t 0 + win0_2.index t 2 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  have hm : t.val % 2 = 1 := (flush0_2 t).mp hf
  blk_simp
  rw [after0_2, out_eq m c t hm]
  unfold k0_pay4
  pointwise
  rw [acc m c t hm]
  unfold spec
  simp only [pay1_apply]
  refine Fin.sum_mul_add_congr fun s k h => ?_
  obtain ⟨e0, e1, e2, e3⟩ := idx t hm s
  congr 1 <;> blk_ext [iblk, V, e0, e1, e2, e3]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel6Ideal.Value.run_blocks (F := Ideal) m ρ)

end Cert.Kernel6Ideal.Body

namespace Cert.Proof

open Idealize.ShloMosaic Idealize.SL.Sem

theorem quiescent_Kernel6 : Cert.quiescent_Kernel6 := fun m ρ _ => Cert.Kernel6.Gen.frame m ρ

theorem quiescent_Kernel6Ideal : Cert.quiescent_Kernel6Ideal := fun m ρ _ => Cert.Kernel6Ideal.Gen.frame m ρ

theorem quiescent_Reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : Cert.algebraic_Kernel6Ideal_Reference6Ideal := by
  intro m ρ m' ρ' _ hagree
  refine ⟨_, Cert.Kernel6Ideal.Body.run_spec m ρ, ?_⟩
  refine (θ_run Cert.Reference6Ideal.defs _ _).mono (fun _ h c => ⟨?_, (h c).2⟩) (Cert.Reference6Ideal.Value.run (F := Ideal) m' ρ')
  rw [(h c).1]
  simp only [hagree c]
  funext i
  unfold Cert.Kernel6Ideal.Body.spec
  pointwise
  exact Finset.sum_congr rfl fun _ _ => mul_comm _ _

end Cert.Proof

end
-- ==== Proof.Product.DownBwdX.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `down_bwd_x`: its frames, the array it leaves as a sum of products, and its equality with the
    reference's product. -/

namespace Cert.Kernel7Ideal.Body

open Idealize.ShloMosaic Idealize.SL.Sem Cert.Kernel7Ideal.Gen

variable (m : (ℓ : Loc nD τ sig) → Buf (Elt Ideal) ℓ) (ρ : Dev nD → PrngReg)

/-- One block product at an index. -/
theorem pay1_apply (x : Vec Ideal S1024x2048 .bf16) (w : Vec Ideal S1x1x512x2048 .bf16) (i : S1024x512.Idx) :
    k0_pay1 (F := Ideal) x w i = ((∑ k : Fin 2048, x (ix2 (i 0) k) * w (ix4 0 0 (i 1) k)) : EReal) := by
  unfold k0_pay1
  pointwise

/-- What the call computes: the input gradient: the rows of `x` against the rows of `w`. -/
def spec (x : Vec Ideal S4096x2048 .bf16) (w : Vec Ideal S1x1x5632x2048 .bf16) : Vec Ideal S4096x5632 .bf16 := fun i =>
  (∑ k : Fin 2048, x (ix2 (i 0) k) * w (ix4 0 0 (i 1) k) : EReal)

/-- Which blocks of the operands a point reads, by the block of the result it writes. -/
theorem idx : ∀ t : Fin cfg0.N,
    win0_0.index t 0 = win0_2.index t 0
    ∧ win0_0.index t 1 = 0
    ∧ win0_1.index t 0 = 0
    ∧ win0_1.index t 1 = 0
    ∧ win0_1.index t 2 = win0_2.index t 1
    ∧ win0_1.index t 3 = 0 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  obtain ⟨e0, e1, e2, e3, e4, e5⟩ := idx t
  blk_simp
  rw [after0_2]
  unfold outsAt0
  frame_out
  unfold k0_pay4 k0_pay2
  pointwise
  unfold spec
  rw [pay1_apply]
  refine Fin.sum_fin_congr fun k => ?_
  congr 1 <;> blk_ext [iblk, V, e0, e1, e2, e3, e4, e5]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel7Ideal.Value.run_blocks (F := Ideal) m ρ)

end Cert.Kernel7Ideal.Body

namespace Cert.Reference7Ideal.Body

open Idealize.ShloMosaic Idealize.SL.Sem Cert.Reference7Ideal

/-- The weight as the reference lays it out, at an index. -/
theorem w_apply (w : FVec Ideal S1x1x5632x2048 .bf16) (h2 h3 h4 h5) (j : Fin 5632) (k : Fin 2048) :
    (shapeCast S5632x2048 (transpose S5632x1x2048 [1, 0, 2] (shapeCast S1x5632x2048 (extf .f32 w h2) h3) h4) h5) (ix2 j k) = w (ix4 0 0 j k) := by
  pointwise

/-- The reference's product at an index. -/
theorem ref_apply (x : FVec Ideal S4096x2048 .bf16) (w : FVec Ideal S1x1x5632x2048 .bf16) (h1 h2 h3 h4 h5 h6) (i : S4096x5632.Idx) :
    truncf .bf16 (Host.dotGeneral dot_S4096x2048_S5632x2048_S4096x5632_1_1_0_0_n_n none (extf .f32 x h1) (shapeCast S5632x2048 (transpose S5632x1x2048 [1, 0, 2] (shapeCast S1x5632x2048 (extf .f32 w h2) h3) h4) h5) : FVec Ideal S4096x5632 .f32) h6 i = Cert.Kernel7Ideal.Body.spec x w i := by
  unfold Cert.Kernel7Ideal.Body.spec
  generalize hW : (shapeCast S5632x2048 (transpose S5632x1x2048 [1, 0, 2] (shapeCast S1x5632x2048 (extf .f32 w h2) h3) h4) h5) = W
  pointwise
  subst hW
  refine Fin.sum_fin_congr fun k => ?_
  exact congrArg (fun e : EReal => x (ix2 (i 0) k) * e) (w_apply w h2 h3 h4 h5 (i 1) k)

end Cert.Reference7Ideal.Body

namespace Cert.Proof

open Idealize.ShloMosaic Idealize.SL.Sem

theorem quiescent_Kernel7 : Cert.quiescent_Kernel7 := fun m ρ _ => Cert.Kernel7.Gen.frame m ρ

theorem quiescent_Kernel7Ideal : Cert.quiescent_Kernel7Ideal := fun m ρ _ => Cert.Kernel7Ideal.Gen.frame m ρ

theorem quiescent_Reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : Cert.algebraic_Kernel7Ideal_Reference7Ideal := by
  intro m ρ m' ρ' _ hagree
  refine ⟨_, Cert.Kernel7Ideal.Body.run_spec m ρ, ?_⟩
  refine (θ_run Cert.Reference7Ideal.defs _ _).mono (fun _ h c => ⟨?_, (h c).2⟩) (Cert.Reference7Ideal.Value.run (F := Ideal) m' ρ')
  rw [(h c).1]
  simp only [hagree c]
  funext i
  exact Cert.Reference7Ideal.Body.ref_apply _ _ _ _ _ _ _ _ i

end Cert.Proof

end
-- ==== Proof.Product.WoBwdW.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `wo_bwd_w`: its frames, the array it leaves as a sum of products, and its equality with the
    reference's product. -/

namespace Cert.Kernel8Ideal.Body

open Idealize.ShloMosaic Idealize.SL.Sem Cert.Kernel8Ideal.Gen

variable (m : (ℓ : Loc nD τ sig) → Buf (Elt Ideal) ℓ) (ρ : Dev nD → PrngReg)

/-- One block product at an index. -/
theorem pay1_apply (x : Vec Ideal S2048x512 .bf16) (w : Vec Ideal S2048x2048 .bf16) (i : S512x2048.Idx) :
    k0_pay1 (F := Ideal) x w i = ((∑ k : Fin 2048, x (ix2 k (i 0)) * w (ix2 k (i 1))) : EReal) := by
  unfold k0_pay1
  pointwise

/-- What the call computes: the weight gradient: the rows of `x` against the rows of `w`. -/
def spec (x : Vec Ideal S4096x2048 .bf16) (w : Vec Ideal S4096x2048 .bf16) : Vec Ideal S1x2048x2048 .bf16 := fun i =>
  (∑ k : Fin 4096, x (ix2 k (i 1)) * w (ix2 k ⟨(i 0).val * 2048 + (i 2).val, by have h0 : (i 0).val < 1 := (i 0).isLt; have h2 : (i 2).val < 2048 := (i 2).isLt; omega⟩) : EReal)

/-- The carried scratch at the last point of a run: the run's block products added up. -/
theorem acc (c : Dev nD) (t : Fin cfg0.N) (hf : t.val % 2 = 1) (j : S512x2048.Idx) : (outsAt0 m c t.val t.isLt).2 j
    = ∑ s : Fin 2, k0_pay1 (F := Ideal) (iblk m c 0 ⟨2 * (t.val / 2) + s.val, by have := t.isLt; have := s.isLt; have : cfg0.N = 8 := N_0; have : grid0.N = 8 := N_0; omega⟩)
        (iblk m c 1 ⟨2 * (t.val / 2) + s.val, by have := t.isLt; have := s.isLt; have : cfg0.N = 8 := N_0; have : grid0.N = 8 := N_0; omega⟩) j := by
  rw [Pipeline.eq_sum_fin_of_reset_step_apply_of_flush (fun n h => (outsAt0 m c n h).2) 2 (fun _ => (0 : EReal))
     (fun p => k0_pay1 (F := Ideal) (iblk m c 0 p) (iblk m c 1 p))
     (fun t h j => by
       rw [outsAt0_A m c t h (by omega) (by omega)]; frame_out
       unfold k0_pay2
       pointwise)
     (fun t h j => by
       rw [outsAt0_B m c t h (by omega) (by omega)]; frame_out
       unfold k0_pay3
       simp only [read_unread_whole]
       pointwise) t hf j]
  pointwise

/-- The block written back at the last point of a run, from the scratch. -/
theorem out_eq (c : Dev nD) (t : Fin cfg0.N) (hf : t.val % 2 = 1) :
    (outsAt0 m c t.val t.isLt).1 = k0_pay4 (F := Ideal) (outsAt0 m c t.val t.isLt).2 := by
  rw [outsAt0_B m c t (by omega) hf hf]; frame_out

/-- Which blocks of the operands the points of a run read, by the block of the result the run ends in. -/
theorem idx : ∀ t : Fin cfg0.N, t.val % 2 = 1 → ∀ s : Fin 2,
    win0_0.index ⟨2 * (t.val / 2) + s.val, by have := t.isLt; have := s.isLt; have : cfg0.N = 8 := N_0; have : grid0.N = 8 := N_0; omega⟩ 0 = s.val
    ∧ win0_0.index ⟨2 * (t.val / 2) + s.val, by have := t.isLt; have := s.isLt; have : cfg0.N = 8 := N_0; have : grid0.N = 8 := N_0; omega⟩ 1 = win0_2.index t 1
    ∧ win0_1.index ⟨2 * (t.val / 2) + s.val, by have := t.isLt; have := s.isLt; have : cfg0.N = 8 := N_0; have : grid0.N = 8 := N_0; omega⟩ 0 = s.val
    ∧ win0_1.index ⟨2 * (t.val / 2) + s.val, by have := t.isLt; have := s.isLt; have : cfg0.N = 8 := N_0; have : grid0.N = 8 := N_0; omega⟩ 1 = win0_2.index t 0 + win0_2.index t 2 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  have hm : t.val % 2 = 1 := (flush0_2 t).mp hf
  blk_simp
  rw [after0_2, out_eq m c t hm]
  unfold k0_pay4
  pointwise
  rw [acc m c t hm]
  unfold spec
  simp only [pay1_apply]
  refine Fin.sum_mul_add_congr fun s k h => ?_
  obtain ⟨e0, e1, e2, e3⟩ := idx t hm s
  congr 1 <;> blk_ext [iblk, V, e0, e1, e2, e3]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel8Ideal.Value.run_blocks (F := Ideal) m ρ)

end Cert.Kernel8Ideal.Body

namespace Cert.Proof

open Idealize.ShloMosaic Idealize.SL.Sem

theorem quiescent_Kernel8 : Cert.quiescent_Kernel8 := fun m ρ _ => Cert.Kernel8.Gen.frame m ρ

theorem quiescent_Kernel8Ideal : Cert.quiescent_Kernel8Ideal := fun m ρ _ => Cert.Kernel8Ideal.Gen.frame m ρ

theorem quiescent_Reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_Kernel8Ideal_Reference8Ideal : Cert.algebraic_Kernel8Ideal_Reference8Ideal := by
  intro m ρ m' ρ' _ hagree
  refine ⟨_, Cert.Kernel8Ideal.Body.run_spec m ρ, ?_⟩
  refine (θ_run Cert.Reference8Ideal.defs _ _).mono (fun _ h c => ⟨?_, (h c).2⟩) (Cert.Reference8Ideal.Value.run (F := Ideal) m' ρ')
  rw [(h c).1]
  simp only [hagree c]
  funext i
  unfold Cert.Kernel8Ideal.Body.spec
  pointwise
  exact Finset.sum_congr rfl fun _ _ => mul_comm _ _

end Cert.Proof

end
-- ==== Proof.Product.WoBwdX.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `wo_bwd_x`: its frames, the array it leaves as a sum of products, and its equality with the
    reference's product. -/

namespace Cert.Kernel9Ideal.Body

open Idealize.ShloMosaic Idealize.SL.Sem Cert.Kernel9Ideal.Gen

variable (m : (ℓ : Loc nD τ sig) → Buf (Elt Ideal) ℓ) (ρ : Dev nD → PrngReg)

/-- One block product at an index. -/
theorem pay1_apply (x : Vec Ideal S1024x2048 .bf16) (w : Vec Ideal S1x1x1024x2048 .bf16) (i : S1024x1024.Idx) :
    k0_pay1 (F := Ideal) x w i = ((∑ k : Fin 2048, x (ix2 (i 0) k) * w (ix4 0 0 (i 1) k)) : EReal) := by
  unfold k0_pay1
  pointwise

/-- What the call computes: the input gradient: the rows of `x` against the rows of `w`. -/
def spec (x : Vec Ideal S4096x2048 .bf16) (w : Vec Ideal S1x1x2048x2048 .bf16) : Vec Ideal S4096x2048 .f32 := fun i =>
  (∑ k : Fin 2048, x (ix2 (i 0) k) * w (ix4 0 0 (i 1) k) : EReal)

/-- Which blocks of the operands a point reads, by the block of the result it writes. -/
theorem idx : ∀ t : Fin cfg0.N,
    win0_0.index t 0 = win0_2.index t 0
    ∧ win0_0.index t 1 = 0
    ∧ win0_1.index t 0 = 0
    ∧ win0_1.index t 1 = 0
    ∧ win0_1.index t 2 = win0_2.index t 1
    ∧ win0_1.index t 3 = 0 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  obtain ⟨e0, e1, e2, e3, e4, e5⟩ := idx t
  blk_simp
  rw [after0_2]
  unfold outsAt0
  frame_out
  unfold k0_pay2
  pointwise
  unfold spec
  rw [pay1_apply]
  refine Fin.sum_fin_congr fun k => ?_
  congr 1 <;> blk_ext [iblk, V, e0, e1, e2, e3, e4, e5]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel9Ideal.Value.run_blocks (F := Ideal) m ρ)

end Cert.Kernel9Ideal.Body

namespace Cert.Reference9Ideal.Body

open Idealize.ShloMosaic Idealize.SL.Sem Cert.Reference9Ideal

/-- The weight as the reference lays it out, at an index. -/
theorem w_apply (w : FVec Ideal S1x1x2048x2048 .bf16) (h2 h3 h4 h5) (j : Fin 2048) (k : Fin 2048) :
    (shapeCast S2048x2048 (transpose S2048x1x2048 [1, 0, 2] (shapeCast S1x2048x2048 (extf .f32 w h2) h3) h4) h5) (ix2 j k) = w (ix4 0 0 j k) := by
  pointwise

/-- The reference's product at an index. -/
theorem ref_apply (x : FVec Ideal S4096x2048 .bf16) (w : FVec Ideal S1x1x2048x2048 .bf16) (h1 h2 h3 h4 h5) (i : S4096x2048.Idx) :
    ((Host.dotGeneral dot_S4096x2048_S2048x2048_S4096x2048_1_1_0_0_n_n none (extf .f32 x h1) (shapeCast S2048x2048 (transpose S2048x1x2048 [1, 0, 2] (shapeCast S1x2048x2048 (extf .f32 w h2) h3) h4) h5) : FVec Ideal S4096x2048 .f32)) i = Cert.Kernel9Ideal.Body.spec x w i := by
  unfold Cert.Kernel9Ideal.Body.spec
  generalize hW : (shapeCast S2048x2048 (transpose S2048x1x2048 [1, 0, 2] (shapeCast S1x2048x2048 (extf .f32 w h2) h3) h4) h5) = W
  pointwise
  subst hW
  refine Fin.sum_fin_congr fun k => ?_
  exact congrArg (fun e : EReal => x (ix2 (i 0) k) * e) (w_apply w h2 h3 h4 h5 (i 1) k)

end Cert.Reference9Ideal.Body

namespace Cert.Proof

open Idealize.ShloMosaic Idealize.SL.Sem

theorem quiescent_Kernel9 : Cert.quiescent_Kernel9 := fun m ρ _ => Cert.Kernel9.Gen.frame m ρ

theorem quiescent_Kernel9Ideal : Cert.quiescent_Kernel9Ideal := fun m ρ _ => Cert.Kernel9Ideal.Gen.frame m ρ

theorem quiescent_Reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic_Kernel9Ideal_Reference9Ideal : Cert.algebraic_Kernel9Ideal_Reference9Ideal := by
  intro m ρ m' ρ' _ hagree
  refine ⟨_, Cert.Kernel9Ideal.Body.run_spec m ρ, ?_⟩
  refine (θ_run Cert.Reference9Ideal.defs _ _).mono (fun _ h c => ⟨?_, (h c).2⟩) (Cert.Reference9Ideal.Value.run (F := Ideal) m' ρ')
  rw [(h c).1]
  simp only [hagree c]
  funext i
  exact Cert.Reference9Ideal.Body.ref_apply _ _ _ _ _ _ _ i

end Cert.Proof

end
-- ==== Proof.Product.BrABwdW.lean ====
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `br_a_bwd_w`: its frames, the array it leaves as a sum of products, and its equality with the
    reference's product. -/

namespace Cert.Kernel10Ideal.Body

open Idealize.ShloMosaic Idealize.SL.Sem Cert.Kernel10Ideal.Gen

variable (m : (ℓ : Loc nD τ sig) → Buf (Elt Ideal) ℓ) (ρ : Dev nD → PrngReg)

/-- One block product at an index. -/
theorem pay1_apply (x : Vec Ideal S2048x512 .f32) (w : Vec Ideal S2048x2048 .bf16) (i : S512x2048.Idx) :
    k0_pay1 (F := Ideal) x w i = ((∑ k : Fin 2048, x (ix2 k (i 0)) * w (ix2 k (i 1))) : EReal) := by
  unfold k0_pay1
  pointwise

/-- What the call computes: the weight gradient: the rows of `x` against the rows of `w`. -/
def spec (x : Vec Ideal S4096x1024 .f32) (w : Vec Ideal S4096x2048 .bf16) : Vec Ideal S1x1024x2048 .bf16 := fun i =>
  (∑ k : Fin 4096, x (ix2 k (i 1)) * w (ix2 k ⟨(i 0).val * 2048 + (i 2).val, by have h0 : (i 0).val < 1 := (i 0).isLt; have h2 : (i 2).val < 2048 := (i 2).isLt; omega⟩) : EReal)

/-- The carried scratch at the last point of a run: the run's block products added up. -/
theorem acc (c : Dev nD) (t : Fin cfg0.N) (hf : t.val % 2 = 1) (j : S512x2048.Idx) : (outsAt0 m c t.val t.isLt).2 j
    = ∑ s : Fin 2, k0_pay1 (F := Ideal) (iblk m c 0 ⟨2 * (t.val / 2) + s.val, by have := t.isLt; have := s.isLt; have : cfg0.N = 4 := N_0; have : grid0.N = 4 := N_0; omega⟩)
        (iblk m c 1 ⟨2 * (t.val / 2) + s.val, by have := t.isLt; have := s.isLt; have : cfg0.N = 4 := N_0; have : grid0.N = 4 := N_0; omega⟩) j := by
  rw [Pipeline.eq_sum_fin_of_reset_step_apply_of_flush (fun n h => (outsAt0 m c n h).2) 2 (fun _ => (0 : EReal))
     (fun p => k0_pay1 (F := Ideal) (iblk m c 0 p) (iblk m c 1 p))
     (fun t h j => by
       rw [outsAt0_A m c t h (by omega) (by omega)]; frame_out
       unfold k0_pay2
       pointwise)
     (fun t h j => by
       rw [outsAt0_B m c t h (by omega) (by omega)]; frame_out
       unfold k0_pay3
       simp only [read_unread_whole]
       pointwise) t hf j]
  pointwise

/-- The block written back at the last point of a run, from the scratch. -/
theorem out_eq (c : Dev nD) (t : Fin cfg0.N) (hf : t.val % 2 = 1) :
    (outsAt0 m c t.val t.isLt).1 = k0_pay4 (F := Ideal) (outsAt0 m c t.val t.isLt).2 := by
  rw [outsAt0_B m c t (by omega) hf hf]; frame_out

/-- Which blocks of the operands the points of a run read, by the block of the result the run ends in. -/
theorem idx : ∀ t : Fin cfg0.N, t.val % 2 = 1 → ∀ s : Fin 2,
    win0_0.index ⟨2 * (t.val / 2) + s.val, by have := t.isLt; have := s.isLt; have : cfg0.N = 4 := N_0; have : grid0.N = 4 := N_0; omega⟩ 0 = s.val
    ∧ win0_0.index ⟨2 * (t.val / 2) + s.val, by have := t.isLt; have := s.isLt; have : cfg0.N = 4 := N_0; have : grid0.N = 4 := N_0; omega⟩ 1 = win0_2.index t 1
    ∧ win0_1.index ⟨2 * (t.val / 2) + s.val, by have := t.isLt; have := s.isLt; have : cfg0.N = 4 := N_0; have : grid0.N = 4 := N_0; omega⟩ 0 = s.val
    ∧ win0_1.index ⟨2 * (t.val / 2) + s.val, by have := t.isLt; have := s.isLt; have : cfg0.N = 4 := N_0; have : grid0.N = 4 := N_0; omega⟩ 1 = win0_2.index t 0 + win0_2.index t 2 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  have hm : t.val % 2 = 1 := (flush0_2 t).mp hf
  blk_simp
  rw [after0_2, out_eq m c t hm]
  unfold k0_pay4
  pointwise
  rw [acc m c t hm]
  unfold spec
  simp only [pay1_apply]
  refine Fin.sum_mul_add_congr fun s k h => ?_
  obtain ⟨e0, e1, e2, e3⟩ := idx t hm s
  congr 1 <;> blk_ext [iblk, V, e0, e1, e2, e3]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel10Ideal.Value.run_blocks (F := Ideal) m ρ)

end Cert.Kernel10Ideal.Body

namespace Cert.Proof

open Idealize.ShloMosaic Idealize.SL.Sem

theorem quiescent_Kernel10 : Cert.quiescent_Kernel10 := fun m ρ _ => Cert.Kernel10.Gen.frame m ρ

theorem quiescent_Kernel10Ideal : Cert.quiescent_Kernel10Ideal := fun m ρ _ => Cert.Kernel10Ideal.Gen.frame m ρ

theorem quiescent_Reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic_Kernel10Ideal_Reference10Ideal : Cert.algebraic_Kernel10Ideal_Reference10Ideal := by
  intro m ρ m' ρ' _ hagree
  refine ⟨_, Cert.Kernel10Ideal.Body.run_spec m ρ, ?_⟩
  refine (θ_run Cert.Reference10Ideal.defs _ _).mono (fun _ h c => ⟨?_, (h c).2⟩) (Cert.Reference10Ideal.Value.run (F := Ideal) m' ρ')
  rw [(h c).1]
  simp only [hagree c]
  funext i
  unfold Cert.Kernel10Ideal.Body.spec
  pointwise
  exact Finset.sum_congr rfl fun _ _ => mul_comm _ _

end Cert.Proof

end
-- ==== Proof.Product.BrCBwdX.lean ====
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `br_c_bwd_x`: its frames, the array it leaves as a sum of products, and its equality with the
    reference's product. -/

namespace Cert.Kernel11Ideal.Body

open Idealize.ShloMosaic Idealize.SL.Sem Cert.Kernel11Ideal.Gen

variable (m : (ℓ : Loc nD τ sig) → Buf (Elt Ideal) ℓ) (ρ : Dev nD → PrngReg)

/-- One block product at an index. -/
theorem pay1_apply (x : Vec Ideal S1024x2048 .bf16) (w : Vec Ideal S1x1x1024x2048 .bf16) (i : S1024x1024.Idx) :
    k0_pay1 (F := Ideal) x w i = ((∑ k : Fin 2048, x (ix2 (i 0) k) * w (ix4 0 0 (i 1) k)) : EReal) := by
  unfold k0_pay1
  pointwise

/-- What the call computes: the input gradient: the rows of `x` against the rows of `w`. -/
def spec (x : Vec Ideal S4096x2048 .bf16) (w : Vec Ideal S1x1x1024x2048 .bf16) : Vec Ideal S4096x1024 .f32 := fun i =>
  (∑ k : Fin 2048, x (ix2 (i 0) k) * w (ix4 0 0 (i 1) k) : EReal)

/-- Which blocks of the operands a point reads, by the block of the result it writes. -/
theorem idx : ∀ t : Fin cfg0.N,
    win0_0.index t 0 = win0_2.index t 0
    ∧ win0_0.index t 1 = 0
    ∧ win0_1.index t 0 = 0
    ∧ win0_1.index t 1 = 0
    ∧ win0_1.index t 2 = win0_2.index t 1
    ∧ win0_1.index t 3 = 0 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  obtain ⟨e0, e1, e2, e3, e4, e5⟩ := idx t
  blk_simp
  rw [after0_2]
  unfold outsAt0
  frame_out
  unfold k0_pay2
  pointwise
  unfold spec
  rw [pay1_apply]
  refine Fin.sum_fin_congr fun k => ?_
  congr 1 <;> blk_ext [iblk, V, e0, e1, e2, e3, e4, e5]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel11Ideal.Value.run_blocks (F := Ideal) m ρ)

end Cert.Kernel11Ideal.Body

namespace Cert.Reference11Ideal.Body

open Idealize.ShloMosaic Idealize.SL.Sem Cert.Reference11Ideal

/-- The weight as the reference lays it out, at an index. -/
theorem w_apply (w : FVec Ideal S1x1x1024x2048 .bf16) (h2 h3 h4 h5) (j : Fin 1024) (k : Fin 2048) :
    (shapeCast S1024x2048 (transpose S1024x1x2048 [1, 0, 2] (shapeCast S1x1024x2048 (extf .f32 w h2) h3) h4) h5) (ix2 j k) = w (ix4 0 0 j k) := by
  pointwise

/-- The reference's product at an index. -/
theorem ref_apply (x : FVec Ideal S4096x2048 .bf16) (w : FVec Ideal S1x1x1024x2048 .bf16) (h1 h2 h3 h4 h5) (i : S4096x1024.Idx) :
    ((Host.dotGeneral dot_S4096x2048_S1024x2048_S4096x1024_1_1_0_0_n_n none (extf .f32 x h1) (shapeCast S1024x2048 (transpose S1024x1x2048 [1, 0, 2] (shapeCast S1x1024x2048 (extf .f32 w h2) h3) h4) h5) : FVec Ideal S4096x1024 .f32)) i = Cert.Kernel11Ideal.Body.spec x w i := by
  unfold Cert.Kernel11Ideal.Body.spec
  generalize hW : (shapeCast S1024x2048 (transpose S1024x1x2048 [1, 0, 2] (shapeCast S1x1024x2048 (extf .f32 w h2) h3) h4) h5) = W
  pointwise
  subst hW
  refine Fin.sum_fin_congr fun k => ?_
  exact congrArg (fun e : EReal => x (ix2 (i 0) k) * e) (w_apply w h2 h3 h4 h5 (i 1) k)

end Cert.Reference11Ideal.Body

namespace Cert.Proof

open Idealize.ShloMosaic Idealize.SL.Sem

theorem quiescent_Kernel11 : Cert.quiescent_Kernel11 := fun m ρ _ => Cert.Kernel11.Gen.frame m ρ

theorem quiescent_Kernel11Ideal : Cert.quiescent_Kernel11Ideal := fun m ρ _ => Cert.Kernel11Ideal.Gen.frame m ρ

theorem quiescent_Reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic_Kernel11Ideal_Reference11Ideal : Cert.algebraic_Kernel11Ideal_Reference11Ideal := by
  intro m ρ m' ρ' _ hagree
  refine ⟨_, Cert.Kernel11Ideal.Body.run_spec m ρ, ?_⟩
  refine (θ_run Cert.Reference11Ideal.defs _ _).mono (fun _ h c => ⟨?_, (h c).2⟩) (Cert.Reference11Ideal.Value.run (F := Ideal) m' ρ')
  rw [(h c).1]
  simp only [hagree c]
  funext i
  exact Cert.Reference11Ideal.Body.ref_apply _ _ _ _ _ _ _ i

end Cert.Proof

end
-- ==== Proof.Product.BrBBwdW.lean ====
module

public import proofs.«01_k».proof.Defs
public import proofs.«01_k».proof.Proof.Gen.Kernel12.Frame
public import proofs.«01_k».proof.Proof.Gen.Kernel12Ideal.Value
public import proofs.«01_k».proof.Proof.Gen.Reference12Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `br_b_bwd_w`: its frames, the array it leaves as a sum of products, and its equality with the
    reference's product. -/

namespace Cert.Kernel12Ideal.Body

open Idealize.ShloMosaic Idealize.SL.Sem Cert.Kernel12Ideal.Gen

variable (m : (ℓ : Loc nD τ sig) → Buf (Elt Ideal) ℓ) (ρ : Dev nD → PrngReg)

/-- One block product at an index. -/
theorem pay1_apply (x : Vec Ideal S2048x512 .f32) (w : Vec Ideal S2048x2048 .bf16) (i : S512x2048.Idx) :
    k0_pay1 (F := Ideal) x w i = ((∑ k : Fin 2048, x (ix2 k (i 0)) * w (ix2 k (i 1))) : EReal) := by
  unfold k0_pay1
  pointwise

/-- What the call computes: the weight gradient: the rows of `x` against the rows of `w`. -/
def spec (x : Vec Ideal S4096x512 .f32) (w : Vec Ideal S4096x2048 .bf16) : Vec Ideal S1x512x2048 .bf16 := fun i =>
  (∑ k : Fin 4096, x (ix2 k (i 1)) * w (ix2 k ⟨(i 0).val * 2048 + (i 2).val, by have h0 : (i 0).val < 1 := (i 0).isLt; have h2 : (i 2).val < 2048 := (i 2).isLt; omega⟩) : EReal)

/-- The carried scratch at the last point of a run: the run's block products added up. -/
theorem acc (c : Dev nD) (t : Fin cfg0.N) (hf : t.val % 2 = 1) (j : S512x2048.Idx) : (outsAt0 m c t.val t.isLt).2 j
    = ∑ s : Fin 2, k0_pay1 (F := Ideal) (iblk m c 0 ⟨2 * (t.val / 2) + s.val, by have := t.isLt; have := s.isLt; have : cfg0.N = 2 := N_0; have : grid0.N = 2 := N_0; omega⟩)
        (iblk m c 1 ⟨2 * (t.val / 2) + s.val, by have := t.isLt; have := s.isLt; have : cfg0.N = 2 := N_0; have : grid0.N = 2 := N_0; omega⟩) j := by
  rw [Pipeline.eq_sum_fin_of_reset_step_apply_of_flush (fun n h => (outsAt0 m c n h).2) 2 (fun _ => (0 : EReal))
     (fun p => k0_pay1 (F := Ideal) (iblk m c 0 p) (iblk m c 1 p))
     (fun t h j => by
       rw [outsAt0_A m c t h (by omega) (by omega)]; frame_out
       unfold k0_pay2
       pointwise)
     (fun t h j => by
       rw [outsAt0_B m c t h (by omega) (by omega)]; frame_out
       unfold k0_pay3
       simp only [read_unread_whole]
       pointwise) t hf j]
  pointwise

/-- The block written back at the last point of a run, from the scratch. -/
theorem out_eq (c : Dev nD) (t : Fin cfg0.N) (hf : t.val % 2 = 1) :
    (outsAt0 m c t.val t.isLt).1 = k0_pay4 (F := Ideal) (outsAt0 m c t.val t.isLt).2 := by
  rw [outsAt0_B m c t (by omega) hf hf]; frame_out

/-- Which blocks of the operands the points of a run read, by the block of the result the run ends in. -/
theorem idx : ∀ t : Fin cfg0.N, t.val % 2 = 1 → ∀ s : Fin 2,
    win0_0.index ⟨2 * (t.val / 2) + s.val, by have := t.isLt; have := s.isLt; have : cfg0.N = 2 := N_0; have : grid0.N = 2 := N_0; omega⟩ 0 = s.val
    ∧ win0_0.index ⟨2 * (t.val / 2) + s.val, by have := t.isLt; have := s.isLt; have : cfg0.N = 2 := N_0; have : grid0.N = 2 := N_0; omega⟩ 1 = win0_2.index t 1
    ∧ win0_1.index ⟨2 * (t.val / 2) + s.val, by have := t.isLt; have := s.isLt; have : cfg0.N = 2 := N_0; have : grid0.N = 2 := N_0; omega⟩ 0 = s.val
    ∧ win0_1.index ⟨2 * (t.val / 2) + s.val, by have := t.isLt; have := s.isLt; have : cfg0.N = 2 := N_0; have : grid0.N = 2 := N_0; omega⟩ 1 = win0_2.index t 0 + win0_2.index t 2 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  have hm : t.val % 2 = 1 := (flush0_2 t).mp hf
  blk_simp
  rw [after0_2, out_eq m c t hm]
  unfold k0_pay4
  pointwise
  rw [acc m c t hm]
  unfold spec
  simp only [pay1_apply]
  refine Fin.sum_mul_add_congr fun s k h => ?_
  obtain ⟨e0, e1, e2, e3⟩ := idx t hm s
  congr 1 <;> blk_ext [iblk, V, e0, e1, e2, e3]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel12Ideal.Value.run_blocks (F := Ideal) m ρ)

end Cert.Kernel12Ideal.Body

namespace Cert.Proof

open Idealize.ShloMosaic Idealize.SL.Sem

theorem quiescent_Kernel12 : Cert.quiescent_Kernel12 := fun m ρ _ => Cert.Kernel12.Gen.frame m ρ

theorem quiescent_Kernel12Ideal : Cert.quiescent_Kernel12Ideal := fun m ρ _ => Cert.Kernel12Ideal.Gen.frame m ρ

theorem quiescent_Reference12Ideal : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic_Kernel12Ideal_Reference12Ideal : Cert.algebraic_Kernel12Ideal_Reference12Ideal := by
  intro m ρ m' ρ' _ hagree
  refine ⟨_, Cert.Kernel12Ideal.Body.run_spec m ρ, ?_⟩
  refine (θ_run Cert.Reference12Ideal.defs _ _).mono (fun _ h c => ⟨?_, (h c).2⟩) (Cert.Reference12Ideal.Value.run (F := Ideal) m' ρ')
  rw [(h c).1]
  simp only [hagree c]
  funext i
  unfold Cert.Kernel12Ideal.Body.spec
  pointwise
  exact Finset.sum_congr rfl fun _ _ => mul_comm _ _

end Cert.Proof

end
-- ==== Proof.Product.BrBBwdX.lean ====
module

public import proofs.«01_k».proof.Defs
public import proofs.«01_k».proof.Proof.Gen.Kernel13.Frame
public import proofs.«01_k».proof.Proof.Gen.Kernel13Ideal.Value
public import proofs.«01_k».proof.Proof.Gen.Reference13Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `br_b_bwd_x`: its frames, the array it leaves as a sum of products, and its equality with the
    reference's product. -/

namespace Cert.Kernel13Ideal.Body

open Idealize.ShloMosaic Idealize.SL.Sem Cert.Kernel13Ideal.Gen

variable (m : (ℓ : Loc nD τ sig) → Buf (Elt Ideal) ℓ) (ρ : Dev nD → PrngReg)

/-- One block product at an index. -/
theorem pay1_apply (x : Vec Ideal S1024x2048 .bf16) (w : Vec Ideal S1x1x512x2048 .bf16) (i : S1024x512.Idx) :
    k0_pay1 (F := Ideal) x w i = ((∑ k : Fin 2048, x (ix2 (i 0) k) * w (ix4 0 0 (i 1) k)) : EReal) := by
  unfold k0_pay1
  pointwise

/-- What the call computes: the input gradient: the rows of `x` against the rows of `w`. -/
def spec (x : Vec Ideal S4096x2048 .bf16) (w : Vec Ideal S1x1x512x2048 .bf16) : Vec Ideal S4096x512 .f32 := fun i =>
  (∑ k : Fin 2048, x (ix2 (i 0) k) * w (ix4 0 0 (i 1) k) : EReal)

/-- Which blocks of the operands a point reads, by the block of the result it writes. -/
theorem idx : ∀ t : Fin cfg0.N,
    win0_0.index t 0 = win0_2.index t 0
    ∧ win0_0.index t 1 = 0
    ∧ win0_1.index t 0 = 0
    ∧ win0_1.index t 1 = 0
    ∧ win0_1.index t 2 = win0_2.index t 1
    ∧ win0_1.index t 3 = 0 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  obtain ⟨e0, e1, e2, e3, e4, e5⟩ := idx t
  blk_simp
  rw [after0_2]
  unfold outsAt0
  frame_out
  unfold k0_pay2
  pointwise
  unfold spec
  rw [pay1_apply]
  refine Fin.sum_fin_congr fun k => ?_
  congr 1 <;> blk_ext [iblk, V, e0, e1, e2, e3, e4, e5]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel13Ideal.Value.run_blocks (F := Ideal) m ρ)

end Cert.Kernel13Ideal.Body

namespace Cert.Reference13Ideal.Body

open Idealize.ShloMosaic Idealize.SL.Sem Cert.Reference13Ideal

/-- The weight as the reference lays it out, at an index. -/
theorem w_apply (w : FVec Ideal S1x1x512x2048 .bf16) (h2 h3 h4 h5) (j : Fin 512) (k : Fin 2048) :
    (shapeCast S512x2048 (transpose S512x1x2048 [1, 0, 2] (shapeCast S1x512x2048 (extf .f32 w h2) h3) h4) h5) (ix2 j k) = w (ix4 0 0 j k) := by
  pointwise

/-- The reference's product at an index. -/
theorem ref_apply (x : FVec Ideal S4096x2048 .bf16) (w : FVec Ideal S1x1x512x2048 .bf16) (h1 h2 h3 h4 h5) (i : S4096x512.Idx) :
    ((Host.dotGeneral dot_S4096x2048_S512x2048_S4096x512_1_1_0_0_n_n none (extf .f32 x h1) (shapeCast S512x2048 (transpose S512x1x2048 [1, 0, 2] (shapeCast S1x512x2048 (extf .f32 w h2) h3) h4) h5) : FVec Ideal S4096x512 .f32)) i = Cert.Kernel13Ideal.Body.spec x w i := by
  unfold Cert.Kernel13Ideal.Body.spec
  generalize hW : (shapeCast S512x2048 (transpose S512x1x2048 [1, 0, 2] (shapeCast S1x512x2048 (extf .f32 w h2) h3) h4) h5) = W
  pointwise
  subst hW
  refine Fin.sum_fin_congr fun k => ?_
  exact congrArg (fun e : EReal => x (ix2 (i 0) k) * e) (w_apply w h2 h3 h4 h5 (i 1) k)

end Cert.Reference13Ideal.Body

namespace Cert.Proof

open Idealize.ShloMosaic Idealize.SL.Sem

theorem quiescent_Kernel13 : Cert.quiescent_Kernel13 := fun m ρ _ => Cert.Kernel13.Gen.frame m ρ

theorem quiescent_Kernel13Ideal : Cert.quiescent_Kernel13Ideal := fun m ρ _ => Cert.Kernel13Ideal.Gen.frame m ρ

theorem quiescent_Reference13Ideal : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic_Kernel13Ideal_Reference13Ideal : Cert.algebraic_Kernel13Ideal_Reference13Ideal := by
  intro m ρ m' ρ' _ hagree
  refine ⟨_, Cert.Kernel13Ideal.Body.run_spec m ρ, ?_⟩
  refine (θ_run Cert.Reference13Ideal.defs _ _).mono (fun _ h c => ⟨?_, (h c).2⟩) (Cert.Reference13Ideal.Value.run (F := Ideal) m' ρ')
  rw [(h c).1]
  simp only [hagree c]
  funext i
  exact Cert.Reference13Ideal.Body.ref_apply _ _ _ _ _ _ _ i

end Cert.Proof

end
-- ==== Proof.Product.BrAFwd.lean ====
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `br_a_fwd`: its frames, the array it leaves as a sum of products, and its equality with the
    reference's product. -/

namespace Cert.Kernel14Ideal.Body

open Idealize.ShloMosaic Idealize.SL.Sem Cert.Kernel14Ideal.Gen

variable (m : (ℓ : Loc nD τ sig) → Buf (Elt Ideal) ℓ) (ρ : Dev nD → PrngReg)

/-- One block product at an index. -/
theorem pay1_apply (x : Vec Ideal S512x1024 .f32) (w : Vec Ideal S1x1x1024x2048 .bf16) (i : S512x2048.Idx) :
    k0_pay1 (F := Ideal) x w i = ((∑ k : Fin 1024, x (ix2 (i 0) k) * w (ix4 0 0 k (i 1))) : EReal) := by
  unfold k0_pay1
  pointwise

/-- What the call computes: the product of the rows of `x` and the columns of `w`. -/
def spec (x : Vec Ideal S4096x1024 .f32) (w : Vec Ideal S1x1x1024x2048 .bf16) : Vec Ideal S4096x2048 .bf16 := fun i =>
  (∑ k : Fin 1024, x (ix2 (i 0) k) * w (ix4 0 0 k (i 1)) : EReal)

/-- Which blocks of the operands a point reads, by the block of the result it writes. -/
theorem idx : ∀ t : Fin cfg0.N,
    win0_0.index t 0 = win0_2.index t 0
    ∧ win0_0.index t 1 = 0
    ∧ win0_1.index t 0 = 0
    ∧ win0_1.index t 1 = 0
    ∧ win0_1.index t 2 = 0
    ∧ win0_1.index t 3 = win0_2.index t 1 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  obtain ⟨e0, e1, e2, e3, e4, e5⟩ := idx t
  blk_simp
  rw [after0_2]
  frame_out
  unfold spec
  rw [pay1_apply]
  refine Fin.sum_fin_congr fun k => ?_
  congr 1 <;> blk_ext [iblk, V, e0, e1, e2, e3, e4, e5]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel14Ideal.Value.run_blocks (F := Ideal) m ρ)

end Cert.Kernel14Ideal.Body

namespace Cert.Reference14Ideal.Body

open Idealize.ShloMosaic Idealize.SL.Sem Cert.Reference14Ideal

/-- The weight as the reference lays it out, at an index. -/
theorem w_apply (w : FVec Ideal S1x1x1024x2048 .bf16) (h1 h2 h3 h4) (j : Fin 1024) (k : Fin 2048) :
    (shapeCast S1024x2048 (transpose S1024x1x2048 [1, 0, 2] (shapeCast S1x1024x2048 (extf .f32 w h1) h2) h3) h4) (ix2 j k) = w (ix4 0 0 j k) := by
  pointwise

/-- The reference's product at an index. -/
theorem ref_apply (x : FVec Ideal S4096x1024 .f32) (w : FVec Ideal S1x1x1024x2048 .bf16) (h1 h2 h3 h4 h5) (i : S4096x2048.Idx) :
    truncf .bf16 (Host.dotGeneral dot_S4096x1024_S1024x2048_S4096x2048_1_0_0_1_n_n none x (shapeCast S1024x2048 (transpose S1024x1x2048 [1, 0, 2] (shapeCast S1x1024x2048 (extf .f32 w h1) h2) h3) h4) : FVec Ideal S4096x2048 .f32) h5 i = Cert.Kernel14Ideal.Body.spec x w i := by
  unfold Cert.Kernel14Ideal.Body.spec
  generalize hW : (shapeCast S1024x2048 (transpose S1024x1x2048 [1, 0, 2] (shapeCast S1x1024x2048 (extf .f32 w h1) h2) h3) h4) = W
  pointwise
  subst hW
  refine Fin.sum_fin_congr fun k => ?_
  exact congrArg (fun e : EReal => x (ix2 (i 0) k) * e) (w_apply w h1 h2 h3 h4 k (i 1))

end Cert.Reference14Ideal.Body

namespace Cert.Proof

open Idealize.ShloMosaic Idealize.SL.Sem

theorem quiescent_Kernel14 : Cert.quiescent_Kernel14 := fun m ρ _ => Cert.Kernel14.Gen.frame m ρ

theorem quiescent_Kernel14Ideal : Cert.quiescent_Kernel14Ideal := fun m ρ _ => Cert.Kernel14Ideal.Gen.frame m ρ

theorem quiescent_Reference14Ideal : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic_Kernel14Ideal_Reference14Ideal : Cert.algebraic_Kernel14Ideal_Reference14Ideal := by
  intro m ρ m' ρ' _ hagree
  refine ⟨_, Cert.Kernel14Ideal.Body.run_spec m ρ, ?_⟩
  refine (θ_run Cert.Reference14Ideal.defs _ _).mono (fun _ h c => ⟨?_, (h c).2⟩) (Cert.Reference14Ideal.Value.run (F := Ideal) m' ρ')
  rw [(h c).1]
  simp only [hagree c]
  funext i
  exact Cert.Reference14Ideal.Body.ref_apply _ _ _ _ _ _ _ i

end Cert.Proof

end
-- ==== Proof.Product.BrBFwd.lean ====
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `br_b_fwd`: its frames, the array it leaves as a sum of products, and its equality with the
    reference's product. -/

namespace Cert.Kernel15Ideal.Body

open Idealize.ShloMosaic Idealize.SL.Sem Cert.Kernel15Ideal.Gen

variable (m : (ℓ : Loc nD τ sig) → Buf (Elt Ideal) ℓ) (ρ : Dev nD → PrngReg)

/-- One block product at an index. -/
theorem pay1_apply (x : Vec Ideal S512x512 .f32) (w : Vec Ideal S1x1x512x2048 .bf16) (i : S512x2048.Idx) :
    k0_pay1 (F := Ideal) x w i = ((∑ k : Fin 512, x (ix2 (i 0) k) * w (ix4 0 0 k (i 1))) : EReal) := by
  unfold k0_pay1
  pointwise

/-- What the call computes: the product of the rows of `x` and the columns of `w`. -/
def spec (x : Vec Ideal S4096x512 .f32) (w : Vec Ideal S1x1x512x2048 .bf16) : Vec Ideal S4096x2048 .bf16 := fun i =>
  (∑ k : Fin 512, x (ix2 (i 0) k) * w (ix4 0 0 k (i 1)) : EReal)

/-- Which blocks of the operands a point reads, by the block of the result it writes. -/
theorem idx : ∀ t : Fin cfg0.N,
    win0_0.index t 0 = win0_2.index t 0
    ∧ win0_0.index t 1 = 0
    ∧ win0_1.index t 0 = 0
    ∧ win0_1.index t 1 = 0
    ∧ win0_1.index t 2 = 0
    ∧ win0_1.index t 3 = win0_2.index t 1 := by
  decide +kernel

/-- The array the call leaves. -/
theorem final (c : Dev nD) : (dats m 0 c).arrAt 2 cfg0.N = spec (m (c.tc.loc main_arg0)) (m (c.tc.loc main_arg1)) := by
  refine (dats m 0 c).arrAt_eq_of_covers 2 _ (by decide +kernel) fun t hf y => ?_
  obtain ⟨e0, e1, e2, e3, e4, e5⟩ := idx t
  blk_simp
  rw [after0_2]
  frame_out
  unfold spec
  rw [pay1_apply]
  refine Fin.sum_fin_congr fun k => ?_
  congr 1 <;> blk_ext [iblk, V, e0, e1, e2, e3, e4, e5]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (Cert.Kernel15Ideal.Value.run_blocks (F := Ideal) m ρ)

end Cert.Kernel15Ideal.Body

namespace Cert.Reference15Ideal.Body

open Idealize.ShloMosaic Idealize.SL.Sem Cert.Reference15Ideal

/-- The weight as the reference lays it out, at an index. -/
theorem w_apply (w : FVec Ideal S1x1x512x2048 .bf16) (h1 h2 h3 h4) (j : Fin 512) (k : Fin 2048) :
    (shapeCast S512x2048 (transpose S512x1x2048 [1, 0, 2] (shapeCast S1x512x2048 (extf .f32 w h1) h2) h3) h4) (ix2 j k) = w (ix4 0 0 j k) := by
  pointwise

/-- The reference's product at an index. -/
theorem ref_apply (x : FVec Ideal S4096x512 .f32) (w : FVec Ideal S1x1x512x2048 .bf16) (h1 h2 h3 h4 h5) (i : S4096x2048.Idx) :
    truncf .bf16 (Host.dotGeneral dot_S4096x512_S512x2048_S4096x2048_1_0_0_1_n_n none x (shapeCast S512x2048 (transpose S512x1x2048 [1, 0, 2] (shapeCast S1x512x2048 (extf .f32 w h1) h2) h3) h4) : FVec Ideal S4096x2048 .f32) h5 i = Cert.Kernel15Ideal.Body.spec x w i := by
  unfold Cert.Kernel15Ideal.Body.spec
  generalize hW : (shapeCast S512x2048 (transpose S512x1x2048 [1, 0, 2] (shapeCast S1x512x2048 (extf .f32 w h1) h2) h3) h4) = W
  pointwise
  subst hW
  refine Fin.sum_fin_congr fun k => ?_
  exact congrArg (fun e : EReal => x (ix2 (i 0) k) * e) (w_apply w h1 h2 h3 h4 k (i 1))

end Cert.Reference15Ideal.Body

namespace Cert.Proof

open Idealize.ShloMosaic Idealize.SL.Sem

theorem quiescent_Kernel15 : Cert.quiescent_Kernel15 := fun m ρ _ => Cert.Kernel15.Gen.frame m ρ

theorem quiescent_Kernel15Ideal : Cert.quiescent_Kernel15Ideal := fun m ρ _ => Cert.Kernel15Ideal.Gen.frame m ρ

theorem quiescent_Reference15Ideal : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic_Kernel15Ideal_Reference15Ideal : Cert.algebraic_Kernel15Ideal_Reference15Ideal := by
  intro m ρ m' ρ' _ hagree
  refine ⟨_, Cert.Kernel15Ideal.Body.run_spec m ρ, ?_⟩
  refine (θ_run Cert.Reference15Ideal.defs _ _).mono (fun _ h c => ⟨?_, (h c).2⟩) (Cert.Reference15Ideal.Value.run (F := Ideal) m' ρ')
  rw [(h c).1]
  simp only [hagree c]
  funext i
  exact Cert.Reference15Ideal.Body.ref_apply _ _ _ _ _ _ _ i

end Cert.Proof

end
-- ==== Proof.Product.WoFwd.lean ====
module

public import proofs.«01_k».proof.Defs
public import proofs.«01_k».proof.Proof.Gen.Kernel16.Frame
public import proofs.«01_k».proof.Proof.Gen.Kernel16Ideal.Value
public import proofs.«01_k».proof.Proof.Gen.Reference16Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `wo_fwd`: its frames, the array it leaves as a sum of products, and its equality with the
    reference's product. -/

namespace Cert.Kernel16Ideal.Body

open Idealize.ShloMosaic Idealize.SL.Sem Cert.Kernel16Ideal.Gen

variable (m : (ℓ : Loc nD τ sig) → Buf (Elt Ideal) ℓ) (ρ : Dev nD → PrngReg)

/-- One block product at an index. -/
theorem pay1_apply (x : Vec Ideal S512x2048 .bf16) (w : Vec Ideal S1x1x2048x2048 .bf16) (z : Vec Ideal S512x2048 .f32) (i : S512x2048.Idx) :
    k0_pay1 (F := Ideal) x w z i = ((∑ k : Fin 2048, x (ix2 (i 0) k) * w (ix4 0 0 k (i 1))) + z i : EReal) := by
  unfold k0_pay1
  pointwise

/-- What the call computes: the product of the rows of `x` and the columns of `w`, added to `z`. -/
def spec (x : Vec Ideal S4096x2048 .bf16) (w : Vec Ideal S1x1x2048x2048 .bf16) (z : Vec Ideal S4096x2048 .f32) : Vec Ideal S4096x2048 .f32 := fun i =>
  (z i + ∑ k : Fin 2048, x (ix2 (i 0) k) * w (ix4 0 0 k (i 1)) : EReal)

/-- Which blocks of the operands a point reads, by the block of the result it writes. -/
theorem idx : ∀ t : Fin cfg0.N,
    win0_0.index t 0 = win0_3.index t 0
    ∧ win0_0.index t 1 = 0
    ∧ win0_1.index t 0 = 0
    ∧ win0_1.index t 1 = 0
    ∧ win0_1.index t 2 = 0
    ∧ win0_1.index t 3 = win0_3.index t 1
    ∧ win0_2.index t 0 = win0_3.index t 0
    ∧ win0_2.index t 1 = win0_3.index t 1 := by
  decide +kernel

/-- The array the call leaves. -/
theorem final (c : Dev nD) : (dats m 0 c).arrAt 3 cfg0.N = spec (m (c.tc.loc main_arg0)) (m (c.tc.loc main_arg1)) (m (c.tc.loc main_arg2)) := by
  refine (dats m 0 c).arrAt_eq_of_covers 3 _ (by decide +kernel) fun t hf y => ?_
  obtain ⟨e0, e1, e2, e3, e4, e5, e6, e7⟩ := idx t
  blk_simp
  rw [after0_3]
  frame_out
  unfold spec
  rw [pay1_apply, add_comm]
  refine congrArg₂ (fun a b : EReal => a + b) ?_ ?_
  · blk_simp [iblk, V]; congr 1; blk_ext [e0, e1, e2, e3, e4, e5, e6, e7]
  · refine Fin.sum_fin_congr fun k => ?_
    congr 1 <;> blk_ext [iblk, V, e0, e1, e2, e3, e4, e5, e6, e7]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨(h c).1.trans (final m c), (h c).2⟩) (Cert.Kernel16Ideal.Value.run_blocks (F := Ideal) m ρ)

end Cert.Kernel16Ideal.Body

namespace Cert.Reference16Ideal.Body

open Idealize.ShloMosaic Idealize.SL.Sem Cert.Reference16Ideal

/-- The weight as the reference lays it out, at an index. -/
theorem w_apply (w : FVec Ideal S1x1x2048x2048 .bf16) (h2 h3 h4 h5) (j : Fin 2048) (k : Fin 2048) :
    (shapeCast S2048x2048 (transpose S2048x1x2048 [1, 0, 2] (shapeCast S1x2048x2048 (extf .f32 w h2) h3) h4) h5) (ix2 j k) = w (ix4 0 0 j k) := by
  pointwise

/-- The reference's product at an index. -/
theorem ref_apply (x : FVec Ideal S4096x2048 .bf16) (w : FVec Ideal S1x1x2048x2048 .bf16) (z : FVec Ideal S4096x2048 .f32) (h1 h2 h3 h4 h5) (i : S4096x2048.Idx) :
    addf z (Host.dotGeneral dot_S4096x2048_S2048x2048_S4096x2048_1_0_0_1_n_n none (extf .f32 x h1) (shapeCast S2048x2048 (transpose S2048x1x2048 [1, 0, 2] (shapeCast S1x2048x2048 (extf .f32 w h2) h3) h4) h5) : FVec Ideal S4096x2048 .f32) i = Cert.Kernel16Ideal.Body.spec x w z i := by
  unfold Cert.Kernel16Ideal.Body.spec
  generalize hW : (shapeCast S2048x2048 (transpose S2048x1x2048 [1, 0, 2] (shapeCast S1x2048x2048 (extf .f32 w h2) h3) h4) h5) = W
  pointwise
  subst hW
  refine congrArg (fun e : EReal => z i + e) (Fin.sum_fin_congr fun k => ?_)
  exact congrArg (fun e : EReal => x (ix2 (i 0) k) * e) (w_apply w h2 h3 h4 h5 k (i 1))

end Cert.Reference16Ideal.Body

namespace Cert.Proof

open Idealize.ShloMosaic Idealize.SL.Sem

theorem quiescent_Kernel16 : Cert.quiescent_Kernel16 := fun m ρ _ => Cert.Kernel16.Gen.frame m ρ

theorem quiescent_Kernel16Ideal : Cert.quiescent_Kernel16Ideal := fun m ρ _ => Cert.Kernel16Ideal.Gen.frame m ρ

theorem quiescent_Reference16Ideal : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic_Kernel16Ideal_Reference16Ideal : Cert.algebraic_Kernel16Ideal_Reference16Ideal := by
  intro m ρ m' ρ' _ hagree
  refine ⟨_, Cert.Kernel16Ideal.Body.run_spec m ρ, ?_⟩
  refine (θ_run Cert.Reference16Ideal.defs _ _).mono (fun _ h c => ⟨?_, (h c).2⟩) (Cert.Reference16Ideal.Value.run (F := Ideal) m' ρ')
  rw [(h c).1]
  simp only [hagree c]
  funext i
  exact Cert.Reference16Ideal.Body.ref_apply _ _ _ _ _ _ _ _ i

end Cert.Proof

end
-- ==== Proof.Product.DownFwd.lean ====
module

public import proofs.«01_k».proof.Defs
public import proofs.«01_k».proof.Proof.Gen.Kernel17.Frame
public import proofs.«01_k».proof.Proof.Gen.Kernel17Ideal.Value
public import proofs.«01_k».proof.Proof.Gen.Reference17Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The product `down_fwd`: its frames, the array it leaves as a sum of products, and its equality with the
    reference's product. -/

namespace Cert.Kernel17Ideal.Body

open Idealize.ShloMosaic Idealize.SL.Sem Cert.Kernel17Ideal.Gen

variable (m : (ℓ : Loc nD τ sig) → Buf (Elt Ideal) ℓ) (ρ : Dev nD → PrngReg)

/-- One block product at an index. -/
theorem pay1_apply (x : Vec Ideal S512x1408 .bf16) (w : Vec Ideal S1x1x1408x2048 .bf16) (i : S512x2048.Idx) :
    k0_pay1 (F := Ideal) x w i = ((∑ k : Fin 1408, x (ix2 (i 0) k) * w (ix4 0 0 k (i 1))) : EReal) := by
  unfold k0_pay1
  pointwise

/-- What the call computes: the product of the rows of `x` and the columns of `w`, added to `z`. -/
def spec (x : Vec Ideal S4096x5632 .bf16) (w : Vec Ideal S1x1x5632x2048 .bf16) (z : Vec Ideal S4096x2048 .f32) : Vec Ideal S4096x2048 .f32 := fun i =>
  (z i + ∑ k : Fin 5632, x (ix2 (i 0) k) * w (ix4 0 0 k (i 1)) : EReal)

/-- The carried scratch at the last point of a run: the run's block products added up. -/
theorem acc (c : Dev nD) (t : Fin cfg0.N) (hf : t.val % 4 = 3) (j : S512x2048.Idx) : (outsAt0 m c t.val t.isLt).2 j
    = ∑ s : Fin 4, k0_pay1 (F := Ideal) (iblk m c 0 ⟨4 * (t.val / 4) + s.val, by have := t.isLt; have := s.isLt; have : cfg0.N = 32 := N_0; have : grid0.N = 32 := N_0; omega⟩)
        (iblk m c 1 ⟨4 * (t.val / 4) + s.val, by have := t.isLt; have := s.isLt; have : cfg0.N = 32 := N_0; have : grid0.N = 32 := N_0; omega⟩) j := by
  rw [Pipeline.eq_sum_fin_of_reset_step_apply_of_flush (fun n h => (outsAt0 m c n h).2) 4 (fun _ => (0 : EReal))
     (fun p => k0_pay1 (F := Ideal) (iblk m c 0 p) (iblk m c 1 p))
     (fun t h j => by
       rw [outsAt0_A m c t h (by omega) (by omega)]; frame_out
       unfold k0_pay2
       pointwise)
     (fun t h j => by
       by_cases h2 : t.val % 4 = 3
       · rw [outsAt0_C m c t h (by omega) h2]; frame_out
         unfold k0_pay3
         simp only [read_unread_whole]
         pointwise
       · rw [outsAt0_B m c t h (by omega) h2]; frame_out
         unfold k0_pay3
         simp only [read_unread_whole]
         pointwise) t hf j]
  pointwise

/-- The block written back at the last point of a run, from the scratch. -/
theorem out_eq (c : Dev nD) (t : Fin cfg0.N) (hf : t.val % 4 = 3) :
    (outsAt0 m c t.val t.isLt).1 = k0_pay4 (F := Ideal) (outsAt0 m c t.val t.isLt).2 (iblk m c 2 t) := by
  rw [outsAt0_C m c t (by omega) (by omega) hf]; frame_out

/-- Which blocks of the operands the points of a run read, by the block of the result the run ends in. -/
theorem idx : ∀ t : Fin cfg0.N, t.val % 4 = 3 → ∀ s : Fin 4,
    win0_0.index ⟨4 * (t.val / 4) + s.val, by have := t.isLt; have := s.isLt; have : cfg0.N = 32 := N_0; have : grid0.N = 32 := N_0; omega⟩ 0 = win0_3.index t 0
    ∧ win0_0.index ⟨4 * (t.val / 4) + s.val, by have := t.isLt; have := s.isLt; have : cfg0.N = 32 := N_0; have : grid0.N = 32 := N_0; omega⟩ 1 = s.val
    ∧ win0_1.index ⟨4 * (t.val / 4) + s.val, by have := t.isLt; have := s.isLt; have : cfg0.N = 32 := N_0; have : grid0.N = 32 := N_0; omega⟩ 0 = 0
    ∧ win0_1.index ⟨4 * (t.val / 4) + s.val, by have := t.isLt; have := s.isLt; have : cfg0.N = 32 := N_0; have : grid0.N = 32 := N_0; omega⟩ 1 = 0
    ∧ win0_1.index ⟨4 * (t.val / 4) + s.val, by have := t.isLt; have := s.isLt; have : cfg0.N = 32 := N_0; have : grid0.N = 32 := N_0; omega⟩ 2 = s.val
    ∧ win0_1.index ⟨4 * (t.val / 4) + s.val, by have := t.isLt; have := s.isLt; have : cfg0.N = 32 := N_0; have : grid0.N = 32 := N_0; omega⟩ 3 = win0_3.index t 1
    ∧ win0_2.index t 0 = win0_3.index t 0
    ∧ win0_2.index t 1 = win0_3.index t 1 := by
  decide +kernel

/-- The array the call leaves. -/
theorem final (c : Dev nD) : (dats m 0 c).arrAt 3 cfg0.N = spec (m (c.tc.loc main_arg0)) (m (c.tc.loc main_arg1)) (m (c.tc.loc main_arg2)) := by
  refine (dats m 0 c).arrAt_eq_of_covers 3 _ (by decide +kernel) fun t hf y => ?_
  have hm : t.val % 4 = 3 := (flush0_3 t).mp hf
  blk_simp
  rw [after0_3, out_eq m c t hm]
  unfold k0_pay4
  pointwise
  rw [acc m c t hm]
  unfold spec
  simp only [pay1_apply]
  rw [add_comm]
  obtain ⟨e0, e1, e2, e3, e4, e5, e6, e7⟩ := idx t hm 0
  refine congrArg₂ (fun a b : EReal => a + b) ?_ ?_
  · blk_simp [iblk, V]; congr 1; blk_ext [e6, e7]
  · refine Fin.sum_mul_add_congr fun s k h => ?_
    obtain ⟨e0, e1, e2, e3, e4, e5, e6, e7⟩ := idx t hm s
    congr 1 <;> blk_ext [iblk, V, e0, e1, e2, e3, e4, e5, e6, e7]

/-- The run, its result named by `spec`, its arguments kept. -/
theorem run_spec : θ_run defs (onTc (τ := τ) (main (F := Ideal))) ⟨m, fun _ => 0, ρ⟩ fun r => ∀ c : Dev nD,
      r.2.mem (c.tc.loc main_v0) = spec (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨(h c).1.trans (final m c), (h c).2⟩) (Cert.Kernel17Ideal.Value.run_blocks (F := Ideal) m ρ)

end Cert.Kernel17Ideal.Body

namespace Cert.Reference17Ideal.Body

open Idealize.ShloMosaic Idealize.SL.Sem Cert.Reference17Ideal

/-- The weight as the reference lays it out, at an index. -/
theorem w_apply (w : FVec Ideal S1x1x5632x2048 .bf16) (h2 h3 h4 h5) (j : Fin 5632) (k : Fin 2048) :
    (shapeCast S5632x2048 (transpose S5632x1x2048 [1, 0, 2] (shapeCast S1x5632x2048 (extf .f32 w h2) h3) h4) h5) (ix2 j k) = w (ix4 0 0 j k) := by
  pointwise

/-- The reference's product at an index. -/
theorem ref_apply (x : FVec Ideal S4096x5632 .bf16) (w : FVec Ideal S1x1x5632x2048 .bf16) (z : FVec Ideal S4096x2048 .f32) (h1 h2 h3 h4 h5) (i : S4096x2048.Idx) :
    addf z (Host.dotGeneral dot_S4096x5632_S5632x2048_S4096x2048_1_0_0_1_n_n none (extf .f32 x h1) (shapeCast S5632x2048 (transpose S5632x1x2048 [1, 0, 2] (shapeCast S1x5632x2048 (extf .f32 w h2) h3) h4) h5) : FVec Ideal S4096x2048 .f32) i = Cert.Kernel17Ideal.Body.spec x w z i := by
  unfold Cert.Kernel17Ideal.Body.spec
  generalize hW : (shapeCast S5632x2048 (transpose S5632x1x2048 [1, 0, 2] (shapeCast S1x5632x2048 (extf .f32 w h2) h3) h4) h5) = W
  pointwise
  subst hW
  refine congrArg (fun e : EReal => z i + e) (Fin.sum_fin_congr fun k => ?_)
  exact congrArg (fun e : EReal => x (ix2 (i 0) k) * e) (w_apply w h2 h3 h4 h5 k (i 1))

end Cert.Reference17Ideal.Body

namespace Cert.Proof

open Idealize.ShloMosaic Idealize.SL.Sem

theorem quiescent_Kernel17 : Cert.quiescent_Kernel17 := fun m ρ _ => Cert.Kernel17.Gen.frame m ρ

theorem quiescent_Kernel17Ideal : Cert.quiescent_Kernel17Ideal := fun m ρ _ => Cert.Kernel17Ideal.Gen.frame m ρ

theorem quiescent_Reference17Ideal : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic_Kernel17Ideal_Reference17Ideal : Cert.algebraic_Kernel17Ideal_Reference17Ideal := by
  intro m ρ m' ρ' _ hagree
  refine ⟨_, Cert.Kernel17Ideal.Body.run_spec m ρ, ?_⟩
  refine (θ_run Cert.Reference17Ideal.defs _ _).mono (fun _ h c => ⟨?_, (h c).2⟩) (Cert.Reference17Ideal.Value.run (F := Ideal) m' ρ')
  rw [(h c).1]
  simp only [hagree c]
  funext i
  exact Cert.Reference17Ideal.Body.ref_apply _ _ _ _ _ _ _ _ i

end Cert.Proof

end
-- ==== Proof.Product.ProjFwd.lean ====
module

public import proofs.«01_k».proof.Defs
public import proofs.«01_k».proof.Proof.Gen.Kernel18.Frame
public import proofs.«01_k».proof.Proof.Gen.Kernel18Ideal.Value
public import proofs.«01_k».proof.Proof.Gen.Reference18Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The fused norm and product `proj_fwd`: its frames, the two arrays it leaves (the normed rows and their product
    with the weight), and their equality with the reference's. -/

namespace Cert.Kernel18Ideal.Body

open Idealize.ShloMosaic Idealize.SL.Sem Cert.Kernel18Ideal.Gen

variable (m : (ℓ : Loc nD τ sig) → Buf (Elt Ideal) ℓ) (ρ : Dev nD → PrngReg)

/-- One entry of a normed row: the entry `x` by the reciprocal root of the row's mean square `s / 2048`, with a
    small constant added, by the gain `g`. -/
def normed (x s g : EReal) : EReal :=
  x * Ideal.rsqrt (Ideal.div s (Ideal.ofBits .f32 0x45000000#32) + Ideal.ofBits .f32 0x358637BD#32) * g

/-- A block's normed rows at an index. -/
theorem pay1_apply (x : Vec Ideal S512x2048 .f32) (g : Vec Ideal S1x2048 .f32) (i : S512x2048.Idx) :
    k0_pay1 (F := Ideal) x g i
      = normed (x i) (∑ k : Fin 2048, (x (ix2 (i 0) k) * x (ix2 (i 0) k) : EReal)) (g (ix2 0 (i 1))) := by
  unfold k0_pay1
  pointwise
  rfl

/-- A block's product at an index. -/
theorem pay2_apply (x : Vec Ideal S512x2048 .f32) (g : Vec Ideal S1x2048 .f32) (w : Vec Ideal S1x1x2048x1920 .bf16)
    (i : S512x1920.Idx) :
    k0_pay2 (F := Ideal) x g w i
      = (∑ k : Fin 2048, k0_pay1 (F := Ideal) x g (ix2 (i 0) k) * w (ix4 0 0 k (i 1)) : EReal) := by
  unfold k0_pay2
  generalize k0_pay1 x g = h
  pointwise

/-- The normed rows of the whole array. -/
def specH (x : Vec Ideal S4096x2048 .f32) (g : Vec Ideal S1x2048 .f32) : Vec Ideal S4096x2048 .bf16 := fun i =>
  normed (x i) (∑ k : Fin 2048, (x (ix2 (i 0) k) * x (ix2 (i 0) k) : EReal)) (g (ix2 0 (i 1)))

/-- Their product with the weight, whose columns lie in 8 blocks of 1920. -/
def spec (x : Vec Ideal S4096x2048 .f32) (g : Vec Ideal S1x2048 .f32) (w : Vec Ideal S8x1x2048x1920 .bf16) :
    Vec Ideal S4096x15360 .f32 := fun i =>
  (∑ k : Fin 2048, specH x g (ix2 (i 0) k)
      * w (ix4 ⟨(i 1).val / 1920, by have h : (i 1).val < 15360 := (i 1).isLt; omega⟩ 0 k
          ⟨(i 1).val % 1920, Nat.mod_lt _ (by decide)⟩) : EReal)

/-- Which blocks of the operands a point reads, by the block of the product it writes. -/
theorem idx : ∀ t : Fin cfg0.N,
    win0_0.index t 0 = win0_3.index t 0
    ∧ win0_0.index t 1 = 0
    ∧ win0_1.index t 0 = 0
    ∧ win0_1.index t 1 = 0
    ∧ win0_2.index t 0 = win0_3.index t 1
    ∧ win0_2.index t 1 = 0
    ∧ win0_2.index t 2 = 0
    ∧ win0_2.index t 3 = 0
    ∧ win0_4.index t 0 = win0_3.index t 0
    ∧ win0_4.index t 1 = 0 := by
  decide +kernel

/-- The normed rows of a point's block are those of the whole array. -/
theorem pay1_blk (c : Dev nD) (t : Fin cfg0.N) (i : S512x2048.Idx) (j : S4096x2048.Idx)
    (h0 : (j 0).val = win0_3.index t 0 * 512 + (i 0).val) (h1 : (j 1).val = (i 1).val) :
    k0_pay1 (F := Ideal) (iblk m c 0 t) (iblk m c 1 t) i
      = specH (m (c.tc.loc main_arg0)) (m (c.tc.loc main_arg1)) j := by
  obtain ⟨e0, e1, e2, e3, e4, e5, e6, e7, e8, e9⟩ := idx t
  rw [pay1_apply]
  unfold specH
  refine congr (congr (congrArg normed ?_) (Fin.sum_fin_congr fun k => congrArg₂ (fun a b : EReal => a * b) ?_ ?_)) ?_ <;>
    blk_ext [iblk, V, e0, e1, e2, e3, h0, h1]

/-- The normed rows the call leaves. -/
theorem finalH (c : Dev nD) :
    (dats m 0 c).arrAt 4 cfg0.N = specH (m (c.tc.loc main_arg0)) (m (c.tc.loc main_arg1)) := by
  refine (dats m 0 c).arrAt_eq_of_covers 4 _ (by decide +kernel) fun t hf y => ?_
  obtain ⟨e0, e1, e2, e3, e4, e5, e6, e7, e8, e9⟩ := idx t
  blk_simp
  rw [after0_4]
  unfold outsAt0
  frame_out
  exact pay1_blk m c t _ _ (by blk_simp [e8]) (by blk_simp [e9])

/-- The product the call leaves. -/
theorem final (c : Dev nD) : (dats m 0 c).arrAt 3 cfg0.N
    = spec (m (c.tc.loc main_arg0)) (m (c.tc.loc main_arg1)) (m (c.tc.loc main_arg2)) := by
  refine (dats m 0 c).arrAt_eq_of_covers 3 _ (by decide +kernel) fun t hf y => ?_
  obtain ⟨e0, e1, e2, e3, e4, e5, e6, e7, e8, e9⟩ := idx t
  blk_simp
  rw [after0_3]
  unfold outsAt0
  frame_out
  unfold spec
  rw [pay2_apply]
  refine Fin.sum_fin_congr fun k => congrArg₂ (fun a b : EReal => a * b) (pay1_blk m c t _ _ ?_ ?_) ?_
  · blk_simp
  · blk_simp
  · blk_ext [iblk, V, e4, e5, e6, e7]

/-- The run, its results named by `spec` and `specH`, its arguments kept. -/
theorem run_spec : θ_run defs (onTc (τ := τ) (main (F := Ideal))) ⟨m, fun _ => 0, ρ⟩ fun r => ∀ c : Dev nD,
      r.2.mem (c.tc.loc main_v0_0) = spec (m (c.tc.loc main_arg0)) (m (c.tc.loc main_arg1)) (m (c.tc.loc main_arg2))
      ∧ r.2.mem (c.tc.loc main_v0_1) = specH (m (c.tc.loc main_arg0)) (m (c.tc.loc main_arg1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨(h c).1.trans (final m c), (h c).2.1.trans (finalH m c), (h c).2.2⟩)
    (Cert.Kernel18Ideal.Value.run_blocks (F := Ideal) m ρ)

end Cert.Kernel18Ideal.Body

namespace Cert.Reference18Ideal.Body

open Idealize.ShloMosaic Idealize.SL.Sem Cert.Reference18Ideal

/-- The weight as the reference lays it out, at an index. -/
theorem w_apply (w : FVec Ideal S8x1x2048x1920 .bf16) (h1 h2 h3 h4) (j : Fin 2048) (k : Fin 15360) :
    (shapeCast S2048x15360 (transpose S2048x8x1920 [1, 0, 2] (shapeCast S8x2048x1920 (extf .f32 w h1) h2) h3) h4) (ix2 j k)
      = w (ix4 ⟨k.val / 1920, by have h := k.isLt; omega⟩ 0 j ⟨k.val % 1920, Nat.mod_lt _ (by decide)⟩) := by
  pointwise

/-- The reference's normed rows at an index. -/
theorem h_apply (x : FVec Ideal S4096x2048 .f32) (g : FVec Ideal S1x2048 .f32) (h1 h2)
    (h3 : S4096x2048.ReducesTo [1] S4096) (h4 h5 h6 h7 h8) (i : S4096x2048.Idx) :
    truncf .bf16 (mulf (mulf x (broadcastInDim S4096x2048 ![0, 1] h1 (Host.rsqrt (addf (Host.divf
      (broadcastInDim S4096x1 ![0] h2 (Host.reduceAdd (mulf x x) (constant S_ .f32 0x00000000#32) h3 h4 : FVec Ideal S4096 .f32))
      (broadcastInDim S4096x1 ![] h5 (constant S_ .f32 0x45000000#32)))
      (broadcastInDim S4096x1 ![] h6 (constant S_ .f32 0x358637BD#32))) : FVec Ideal S4096x1 .f32)))
      (broadcastInDim S4096x2048 ![0, 1] h7 g)) h8 i = Cert.Kernel18Ideal.Body.specH x g i := by
  pointwise
  rfl

/-- The reference's product at an index. -/
theorem ref_apply (x : FVec Ideal S4096x2048 .f32) (g : FVec Ideal S1x2048 .f32) (w : FVec Ideal S8x1x2048x1920 .bf16)
    (h : FVec Ideal S4096x2048 .bf16) (hh : ∀ i, h i = Cert.Kernel18Ideal.Body.specH x g i) (h1 h2 h3 h4 h5)
    (i : S4096x15360.Idx) :
    (Host.dotGeneral dot_S4096x2048_S2048x15360_S4096x15360_1_0_0_1_n_n none (extf .f32 h h1)
      (shapeCast S2048x15360 (transpose S2048x8x1920 [1, 0, 2] (shapeCast S8x2048x1920 (extf .f32 w h2) h3) h4) h5)
        : FVec Ideal S4096x15360 .f32) i
      = Cert.Kernel18Ideal.Body.spec x g w i := by
  unfold Cert.Kernel18Ideal.Body.spec
  generalize hW : (shapeCast S2048x15360 (transpose S2048x8x1920 [1, 0, 2] (shapeCast S8x2048x1920 (extf .f32 w h2) h3) h4) h5) = W
  pointwise
  subst hW
  refine Fin.sum_fin_congr fun k => ?_
  exact congrArg₂ (fun a b : EReal => a * b) (hh _) (w_apply w h2 h3 h4 h5 k (i 1))

end Cert.Reference18Ideal.Body

namespace Cert.Proof

open Idealize.ShloMosaic Idealize.SL.Sem

theorem quiescent_Kernel18 : Cert.quiescent_Kernel18 := fun m ρ _ => Cert.Kernel18.Gen.frame m ρ

theorem quiescent_Kernel18Ideal : Cert.quiescent_Kernel18Ideal := fun m ρ _ => Cert.Kernel18Ideal.Gen.frame m ρ

theorem quiescent_Reference18Ideal : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

theorem algebraic_Kernel18Ideal_Reference18Ideal : Cert.algebraic_Kernel18Ideal_Reference18Ideal := by
  intro m ρ m' ρ' _ hagree
  refine ⟨_, _, Cert.Kernel18Ideal.Body.run_spec m ρ, ?_⟩
  refine (θ_run Cert.Reference18Ideal.defs _ _).mono (fun _ h c => ⟨?_, ?_, (h c).2.2⟩)
    (Cert.Reference18Ideal.Value.run (F := Ideal) m' ρ')
  · rw [(h c).1]
    simp only [hagree c]
    funext i
    exact Cert.Reference18Ideal.Body.ref_apply _ _ _ _ (Cert.Reference18Ideal.Body.h_apply _ _ _ _ _ _ _ _ _ _) _ _ _ _ _ i
  · rw [(h c).2.1]
    simp only [hagree c]
    funext i
    exact Cert.Reference18Ideal.Body.h_apply _ _ _ _ _ _ _ _ _ _ i

end Cert.Proof

end
-- ==== Proof.Product.GateUpFwd.lean ====
module

public import proofs.«01_k».proof.Defs
public import proofs.«01_k».proof.Proof.Gen.Kernel19.Frame
public import proofs.«01_k».proof.Proof.Gen.Kernel19Ideal.Value
public import proofs.«01_k».proof.Proof.Gen.Reference19Ideal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Tactic.ValueTie

@[expose] public section

set_option maxRecDepth 16384

noncomputable section

/-! The fused norm and product `gate_up_fwd`: its frames, the two arrays it leaves (the normed rows and their product
    with the weight), and their equality with the reference's. -/

namespace Cert.Kernel19Ideal.Body

open Idealize.ShloMosaic Idealize.SL.Sem Cert.Kernel19Ideal.Gen

variable (m : (ℓ : Loc nD τ sig) → Buf (Elt Ideal) ℓ) (ρ : Dev nD → PrngReg)

/-- One entry of a normed row: the entry `x` by the reciprocal root of the row's mean square `s / 2048`, with a
    small constant added, by the gain `g`. -/
def normed (x s g : EReal) : EReal :=
  x * Ideal.rsqrt (Ideal.div s (Ideal.ofBits .f32 0x45000000#32) + Ideal.ofBits .f32 0x358637BD#32) * g

/-- A block's normed rows at an index. -/
theorem pay1_apply (x : Vec Ideal S512x2048 .f32) (g : Vec Ideal S1x2048 .f32) (i : S512x2048.Idx) :
    k0_pay1 (F := Ideal) x g i
      = normed (x i) (∑ k : Fin 2048, (x (ix2 (i 0) k) * x (ix2 (i 0) k) : EReal)) (g (ix2 0 (i 1))) := by
  unfold k0_pay1
  pointwise
  rfl

/-- A block's product at an index. -/
theorem pay2_apply (x : Vec Ideal S512x2048 .f32) (g : Vec Ideal S1x2048 .f32) (w : Vec Ideal S1x1x2048x1408 .bf16)
    (i : S512x1408.Idx) :
    k0_pay2 (F := Ideal) x g w i
      = (∑ k : Fin 2048, k0_pay1 (F := Ideal) x g (ix2 (i 0) k) * w (ix4 0 0 k (i 1)) : EReal) := by
  unfold k0_pay2
  generalize k0_pay1 x g = h
  pointwise

/-- The normed rows of the whole array. -/
def specH (x : Vec Ideal S4096x2048 .f32) (g : Vec Ideal S1x2048 .f32) : Vec Ideal S4096x2048 .bf16 := fun i =>
  normed (x i) (∑ k : Fin 2048, (x (ix2 (i 0) k) * x (ix2 (i 0) k) : EReal)) (g (ix2 0 (i 1)))

/-- Their product with the weight, whose columns lie in 8 blocks of 1408. -/
def spec (x : Vec Ideal S4096x2048 .f32) (g : Vec Ideal S1x2048 .f32) (w : Vec Ideal S8x1x2048x1408 .bf16) :
    Vec Ideal S4096x11264 .bf16 := fun i =>
  (∑ k : Fin 2048, specH x g (ix2 (i 0) k)
      * w (ix4 ⟨(i 1).val / 1408, by have h : (i 1).val < 11264 := (i 1).isLt; omega⟩ 0 k
          ⟨(i 1).val % 1408, Nat.mod_lt _ (by decide)⟩) : EReal)

/-- Which blocks of the operands a point reads, by the block of the product it writes. -/
theorem idx : ∀ t : Fin cfg0.N,
    win0_0.index t 0 = win0_3.index t 0
    ∧ win0_0.index t 1 = 0
    ∧ win0_1.index t 0 = 0
    ∧ win0_1.index t 1 = 0
    ∧ win0_2.index t 0 = win0_3.index t 1
    ∧ win0_2.index t 1 = 0
    ∧ win0_2.index t 2 = 0
    ∧ win0_2.index t 3 = 0
    ∧ win0_4.index t 0 = win0_3.index t 0
    ∧ win0_4.index t 1 = 0 := by
  decide +kernel

/-- The normed rows of a point's block are those of the whole array. -/
theorem pay1_blk (c : Dev nD) (t : Fin cfg0.N) (i : S512x2048.Idx) (j : S4096x2048.Idx)
    (h0 : (j 0).val = win0_3.index t 0 * 512 + (i 0).val) (h1 : (j 1).val = (i 1).val) :
    k0_pay1 (F := Ideal) (iblk m c 0 t) (iblk m c 1 t) i
      = specH (m (c.tc.loc main_arg0)) (m (c.tc.loc main_arg1)) j := by
  obtain ⟨e0, e1, e2, e3, e4, e5, e6, e7, e8, e9⟩ := idx t
  rw [pay1_apply]
  unfold specH
  refine congr (congr (congrArg normed ?_) (Fin.sum_fin_congr fun k => congrArg₂ (fun a b : EReal => a * b) ?_ ?_)) ?_ <;>
    blk_ext [iblk, V, e0, e1, e2, e3, h0, h1]

/-- The normed rows the call leaves. -/
theorem finalH (c : Dev nD) :
    (dats m 0 c).arrAt 4 cfg0.N = specH (m (c.tc.loc main_arg0)) (m (c.tc.loc main_arg1)) := by
  refine (dats m 0 c).arrAt_eq_of_covers 4 _ (by decide +kernel) fun t hf y => ?_
  obtain ⟨e0, e1, e2, e3, e4, e5, e6, e7, e8, e9⟩ := idx t
  blk_simp
  rw [after0_4]
  unfold outsAt0
  frame_out
  exact pay1_blk m c t _ _ (by blk_simp [e8]) (by blk_simp [e9])

/-- The product the call leaves. -/
theorem final (c : Dev nD) : (dats m 0 c).arrAt 3 cfg0.N
    = spec (m (c.tc.loc main_arg0)) (m (c.tc.loc main_arg1)) (m (c.tc.loc main_arg2)) := by
  refine (dats m 0 c).arrAt_eq_of_covers 3 _ (by decide +kernel) fun t hf y => ?_
  obtain ⟨e0, e1, e2, e3, e4, e5, e6, e7, e8, e9⟩ := idx t
  blk_simp
  rw [after0_3]
  unfold outsAt0
  frame_out
  unfold spec
  rw [pay2_apply]
  refine Fin.sum_fin_congr fun k => congrArg₂ (fun a b : EReal => a * b) (pay1_blk m c t _ _ ?_ ?_) ?_
  · blk_simp
  · blk_simp
  · blk_ext [iblk, V, e4, e5, e6, e7]

/-- The run, its results named by `spec` and `specH`, its arguments kept. -/
theorem run_spec : θ_run defs (onTc (τ := τ) (main (F := Ideal))) ⟨m, fun _ => 0, ρ⟩ fun r => ∀ c : Dev nD,
      r.2.mem (c.tc.loc main_v0_0) = spec (m (c.tc.loc main_arg0)) (m (c.tc.loc main_arg1)) (m (c.tc.loc main_arg2))
      ∧ r.2.mem (c.tc.loc main_v0_1) = specH (m (c.tc.loc main_arg0)) (m (c.tc.loc main_arg1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨(h c).1.trans (final m c), (h c).2.1.trans (finalH m c), (h c).2.2⟩)
    (Cert.Kernel19Ideal.Value.run_blocks (F := Ideal) m ρ)

end Cert.Kernel19Ideal.Body

namespace Cert.Reference19Ideal.Body

open Idealize.ShloMosaic Idealize.SL.Sem Cert.Reference19Ideal

/-- The weight as the reference lays it out, at an index. -/
theorem w_apply (w : FVec Ideal S8x1x2048x1408 .bf16) (h1 h2 h3 h4) (j : Fin 2048) (k : Fin 11264) :
    (shapeCast S2048x11264 (transpose S2048x8x1408 [1, 0, 2] (shapeCast S8x2048x1408 (extf .f32 w h1) h2) h3) h4) (ix2 j k)
      = w (ix4 ⟨k.val / 1408, by have h := k.isLt; omega⟩ 0 j ⟨k.val % 1408, Nat.mod_lt _ (by decide)⟩) := by
  pointwise

/-- The reference's normed rows at an index. -/
theorem h_apply (x : FVec Ideal S4096x2048 .f32) (g : FVec Ideal S1x2048 .f32) (h1 h2)
    (h3 : S4096x2048.ReducesTo [1] S4096) (h4 h5 h6 h7 h8) (i : S4096x2048.Idx) :
    truncf .bf16 (mulf (mulf x (broadcastInDim S4096x2048 ![0, 1] h1 (Host.rsqrt (addf (Host.divf
      (broadcastInDim S4096x1 ![0] h2 (Host.reduceAdd (mulf x x) (constant S_ .f32 0x00000000#32) h3 h4 : FVec Ideal S4096 .f32))
      (broadcastInDim S4096x1 ![] h5 (constant S_ .f32 0x45000000#32)))
      (broadcastInDim S4096x1 ![] h6 (constant S_ .f32 0x358637BD#32))) : FVec Ideal S4096x1 .f32)))
      (broadcastInDim S4096x2048 ![0, 1] h7 g)) h8 i = Cert.Kernel19Ideal.Body.specH x g i := by
  pointwise
  rfl

/-- The reference's product at an index. -/
theorem ref_apply (x : FVec Ideal S4096x2048 .f32) (g : FVec Ideal S1x2048 .f32) (w : FVec Ideal S8x1x2048x1408 .bf16)
    (h : FVec Ideal S4096x2048 .bf16) (hh : ∀ i, h i = Cert.Kernel19Ideal.Body.specH x g i) (h1 h2 h3 h4 h5 h14)
    (i : S4096x11264.Idx) :
    truncf .bf16 ((Host.dotGeneral dot_S4096x2048_S2048x11264_S4096x11264_1_0_0_1_n_n none (extf .f32 h h1)
      (shapeCast S2048x11264 (transpose S2048x8x1408 [1, 0, 2] (shapeCast S8x2048x1408 (extf .f32 w h2) h3) h4) h5)
        : FVec Ideal S4096x11264 .f32)) h14 i
      = Cert.Kernel19Ideal.Body.spec x g w i := by
  unfold Cert.Kernel19Ideal.Body.spec
  generalize hW : (shapeCast S2048x11264 (transpose S2048x8x1408 [1, 0, 2] (shapeCast S8x2048x1408 (extf .f32 w h2) h3) h4) h5) = W
  pointwise
  subst hW
  refine Fin.sum_fin_congr fun k => ?_
  exact congrArg₂ (fun a b : EReal => a * b) (hh _) (w_apply w h2 h3 h4 h5 k (i 1))

end Cert.Reference19Ideal.Body

namespace Cert.Proof

open Idealize.ShloMosaic Idealize.SL.Sem

theorem quiescent_Kernel19 : Cert.quiescent_Kernel19 := fun m ρ _ => Cert.Kernel19.Gen.frame m ρ

theorem quiescent_Kernel19Ideal : Cert.quiescent_Kernel19Ideal := fun m ρ _ => Cert.Kernel19Ideal.Gen.frame m ρ

theorem quiescent_Reference19Ideal : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

theorem algebraic_Kernel19Ideal_Reference19Ideal : Cert.algebraic_Kernel19Ideal_Reference19Ideal := by
  intro m ρ m' ρ' _ hagree
  refine ⟨_, _, Cert.Kernel19Ideal.Body.run_spec m ρ, ?_⟩
  refine (θ_run Cert.Reference19Ideal.defs _ _).mono (fun _ h c => ⟨?_, ?_, (h c).2.2⟩)
    (Cert.Reference19Ideal.Value.run (F := Ideal) m' ρ')
  · rw [(h c).1]
    simp only [hagree c]
    funext i
    exact Cert.Reference19Ideal.Body.ref_apply _ _ _ _ (Cert.Reference19Ideal.Body.h_apply _ _ _ _ _ _ _ _ _ _) _ _ _ _ _ _ i
  · rw [(h c).2.1]
    simp only [hagree c]
    funext i
    exact Cert.Reference19Ideal.Body.h_apply _ _ _ _ _ _ _ _ _ _ i

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Frame
public import proofs.«01_k».proof.Proof.KernelFrame
public import proofs.«01_k».proof.Proof.Attn.Finite
public import proofs.«01_k».proof.Proof.Algebra
public import proofs.«01_k».proof.Proof.Product.ProjBwdW
public import proofs.«01_k».proof.Proof.Product.ProjBwdX
public import proofs.«01_k».proof.Proof.Product.GateUpBwdW
public import proofs.«01_k».proof.Proof.Product.GateUpBwdX
public import proofs.«01_k».proof.Proof.Product.DownBwdW
public import proofs.«01_k».proof.Proof.Product.DownBwdX
public import proofs.«01_k».proof.Proof.Product.WoBwdW
public import proofs.«01_k».proof.Proof.Product.WoBwdX
public import proofs.«01_k».proof.Proof.Product.BrABwdW
public import proofs.«01_k».proof.Proof.Product.BrCBwdX
public import proofs.«01_k».proof.Proof.Product.BrBBwdW
public import proofs.«01_k».proof.Proof.Product.BrBBwdX
public import proofs.«01_k».proof.Proof.Product.BrAFwd
public import proofs.«01_k».proof.Proof.Product.BrBFwd
public import proofs.«01_k».proof.Proof.Product.WoFwd
public import proofs.«01_k».proof.Proof.Product.DownFwd
public import proofs.«01_k».proof.Proof.Product.ProjFwd
public import proofs.«01_k».proof.Proof.Product.GateUpFwd
public import Idealize.ShloMosaic.Adequacy
public import Idealize.ShloMosaic.Init

@[expose] public section

noncomputable section

namespace Cert.Proof

open Idealize.ShloMosaic Idealize.SL.Sem

/-! The claims, assembled: the attention call first, then the products one by one. -/

theorem quiescent_KernelIdeal : Cert.quiescent_KernelIdeal := fun m ρ _ =>
  Cert.KernelIdeal.Body.frame_main (F := Ideal) m ρ

theorem quiescent_KernelIdeal_pre_finite : Cert.quiescent_KernelIdeal_pre_finite := fun m ρ _ =>
  Cert.KernelIdeal.Body.frame_main (F := Ideal) m ρ

theorem quiescent_ReferenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem quiescent_ReferenceIdeal_pre_finite : Cert.quiescent_ReferenceIdeal_pre_finite := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts,
  Cert.Reference6Ideal.Gen.facts, Cert.Kernel7.Gen.facts, Cert.Kernel7Ideal.Gen.facts,
  Cert.Reference7Ideal.Gen.facts, Cert.Kernel8.Gen.facts, Cert.Kernel8Ideal.Gen.facts,
  Cert.Reference8Ideal.Gen.facts, Cert.Kernel9.Gen.facts, Cert.Kernel9Ideal.Gen.facts,
  Cert.Reference9Ideal.Gen.facts, Cert.Kernel10.Gen.facts, Cert.Kernel10Ideal.Gen.facts,
  Cert.Reference10Ideal.Gen.facts, Cert.Kernel11.Gen.facts, Cert.Kernel11Ideal.Gen.facts,
  Cert.Reference11Ideal.Gen.facts, Cert.Kernel12.Gen.facts, Cert.Kernel12Ideal.Gen.facts,
  Cert.Reference12Ideal.Gen.facts, Cert.Kernel13.Gen.facts, Cert.Kernel13Ideal.Gen.facts,
  Cert.Reference13Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel17.Gen.facts, Cert.Kernel17Ideal.Gen.facts,
  Cert.Reference17Ideal.Gen.facts, Cert.Kernel18.Gen.facts, Cert.Kernel18Ideal.Gen.facts,
  Cert.Reference18Ideal.Gen.facts, Cert.Kernel19.Gen.facts, Cert.Kernel19Ideal.Gen.facts,
  Cert.Reference19Ideal.Gen.facts, finite_facts,
  quiescent_Kernel, quiescent_KernelIdeal, quiescent_KernelIdeal_pre_finite, quiescent_ReferenceIdeal,
  quiescent_ReferenceIdeal_pre_finite, quiescent_Kernel2, quiescent_Kernel2Ideal, quiescent_Reference2Ideal,
  quiescent_Kernel3, quiescent_Kernel3Ideal, quiescent_Reference3Ideal, quiescent_Kernel4, quiescent_Kernel4Ideal,
  quiescent_Reference4Ideal, quiescent_Kernel5, quiescent_Kernel5Ideal, quiescent_Reference5Ideal,
  quiescent_Kernel6, quiescent_Kernel6Ideal, quiescent_Reference6Ideal, quiescent_Kernel7, quiescent_Kernel7Ideal,
  quiescent_Reference7Ideal, quiescent_Kernel8, quiescent_Kernel8Ideal, quiescent_Reference8Ideal,
  quiescent_Kernel9, quiescent_Kernel9Ideal, quiescent_Reference9Ideal, quiescent_Kernel10, quiescent_Kernel10Ideal,
  quiescent_Reference10Ideal, quiescent_Kernel11, quiescent_Kernel11Ideal, quiescent_Reference11Ideal,
  quiescent_Kernel12, quiescent_Kernel12Ideal, quiescent_Reference12Ideal, quiescent_Kernel13,
  quiescent_Kernel13Ideal, quiescent_Reference13Ideal, quiescent_Kernel14, quiescent_Kernel14Ideal,
  quiescent_Reference14Ideal, quiescent_Kernel15, quiescent_Kernel15Ideal, quiescent_Reference15Ideal,
  quiescent_Kernel16, quiescent_Kernel16Ideal, quiescent_Reference16Ideal, quiescent_Kernel17,
  quiescent_Kernel17Ideal, quiescent_Reference17Ideal, quiescent_Kernel18, quiescent_Kernel18Ideal,
  quiescent_Reference18Ideal, quiescent_Kernel19, quiescent_Kernel19Ideal, quiescent_Reference19Ideal,
  trivial, algebraic_KernelIdeal_ReferenceIdeal_pre_finite, trivial, algebraic_Kernel2Ideal_Reference2Ideal,
  trivial, algebraic_Kernel3Ideal_Reference3Ideal, trivial, algebraic_Kernel4Ideal_Reference4Ideal, trivial,
  algebraic_Kernel5Ideal_Reference5Ideal, trivial, algebraic_Kernel6Ideal_Reference6Ideal, trivial,
  algebraic_Kernel7Ideal_Reference7Ideal, trivial, algebraic_Kernel8Ideal_Reference8Ideal, trivial,
  algebraic_Kernel9Ideal_Reference9Ideal, trivial, algebraic_Kernel10Ideal_Reference10Ideal, trivial,
  algebraic_Kernel11Ideal_Reference11Ideal, trivial, algebraic_Kernel12Ideal_Reference12Ideal, trivial,
  algebraic_Kernel13Ideal_Reference13Ideal, trivial, algebraic_Kernel14Ideal_Reference14Ideal, trivial,
  algebraic_Kernel15Ideal_Reference15Ideal, trivial, algebraic_Kernel16Ideal_Reference16Ideal, trivial,
  algebraic_Kernel17Ideal_Reference17Ideal, trivial, algebraic_Kernel18Ideal_Reference18Ideal, trivial,
  algebraic_Kernel19Ideal_Reference19Ideal⟩

end Cert.Proof

end
